-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelQuery (m : (ℓ : Loc Cert.KernelQuery.nD Cert.KernelQuery.τ Cert.KernelQuery.sig) → Buf (Elt Bits) ℓ) : Prop :=
  True

def Pre_KernelQueryIdeal (m : (ℓ : Loc Cert.KernelQueryIdeal.nD Cert.KernelQueryIdeal.τ Cert.KernelQueryIdeal.sig) → Buf (Elt Ideal) ℓ) : Prop :=
  True

def Pre_ReferenceQueryIdeal (m : (ℓ : Loc Cert.ReferenceQueryIdeal.nD Cert.ReferenceQueryIdeal.τ Cert.ReferenceQueryIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelMnorm (m : (ℓ : Loc Cert.KernelMnorm.nD Cert.KernelMnorm.τ Cert.KernelMnorm.sig) → Buf (Elt Bits) ℓ) : Prop :=
  True

def Pre_KernelMnormIdeal (m : (ℓ : Loc Cert.KernelMnormIdeal.nD Cert.KernelMnormIdeal.τ Cert.KernelMnormIdeal.sig) → Buf (Elt Ideal) ℓ) : Prop :=
  True

def Pre_ReferenceMnormIdeal (m : (ℓ : Loc Cert.ReferenceMnormIdeal.nD Cert.ReferenceMnormIdeal.τ Cert.ReferenceMnormIdeal.sig) → Buf (Elt Ideal) ℓ) : Prop :=
  True

def Pre_KernelPrep (m : (ℓ : Loc Cert.KernelPrep.nD Cert.KernelPrep.τ Cert.KernelPrep.sig) → Buf (Elt Bits) ℓ) : Prop :=
  True

def Pre_KernelPrepIdeal (m : (ℓ : Loc Cert.KernelPrepIdeal.nD Cert.KernelPrepIdeal.τ Cert.KernelPrepIdeal.sig) → Buf (Elt Ideal) ℓ) : Prop :=
  True

def Pre_ReferencePrepIdeal (m : (ℓ : Loc Cert.ReferencePrepIdeal.nD Cert.ReferencePrepIdeal.τ Cert.ReferencePrepIdeal.sig) → Buf (Elt Ideal) ℓ) : Prop :=
  True

def Pre_KernelScores (m : (ℓ : Loc Cert.KernelScores.nD Cert.KernelScores.τ Cert.KernelScores.sig) → Buf (Elt Bits) ℓ) : Prop :=
  True

def Pre_KernelScoresIdeal (m : (ℓ : Loc Cert.KernelScoresIdeal.nD Cert.KernelScoresIdeal.τ Cert.KernelScoresIdeal.sig) → Buf (Elt Ideal) ℓ) : Prop :=
  True

def Pre_ReferenceScoresIdeal (m : (ℓ : Loc Cert.ReferenceScoresIdeal.nD Cert.ReferenceScoresIdeal.τ Cert.ReferenceScoresIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelQuery [hKernelQuery : Cert.KernelQuery.Facts] : Prop :=
  ∀ (m : (ℓ : Loc Cert.KernelQuery.nD Cert.KernelQuery.τ Cert.KernelQuery.sig) → Buf (Elt Bits) ℓ) (g : Dev Cert.KernelQuery.nD → PrngReg), Pre_KernelQuery m →
    θ_run (Cert.KernelQuery.defs (F := Bits)) (onTc (τ := Cert.KernelQuery.τ) (Cert.KernelQuery.main (F := Bits))) ⟨m, fun _ => 0, g⟩ (fun r => (∀ c : Dev Cert.KernelQuery.nD,
      r.2.mem ((c.tc : Thread Cert.KernelQuery.nD Cert.KernelQuery.τ).loc Cert.KernelQuery.main_arg0) = m ((c.tc : Thread Cert.KernelQuery.nD Cert.KernelQuery.τ).loc Cert.KernelQuery.main_arg0)
      ∧ r.2.mem ((c.tc : Thread Cert.KernelQuery.nD Cert.KernelQuery.τ).loc Cert.KernelQuery.main_arg1) = m ((c.tc : Thread Cert.KernelQuery.nD Cert.KernelQuery.τ).loc Cert.KernelQuery.main_arg1))
      ∧ r.2.sem = fun _ => 0)

def quiescent_KernelQueryIdeal [hKernelQueryIdeal : Cert.KernelQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg), Pre_KernelQueryIdeal m →
    θ_run (Cert.KernelQueryIdeal.defs (F := Ideal)) (onTc (τ := Cert.KernelQueryIdeal.τ) (Cert.KernelQueryIdeal.main (F := Ideal))) ⟨m, fun _ => 0, g⟩ (fun r => (∀ c : Dev Cert.KernelQueryIdeal.nD,
      r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
      ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ r.2.sem = fun _ => 0)

def quiescent_ReferenceQueryIdeal [hReferenceQueryIdeal : Cert.ReferenceQueryIdeal.Facts] : Prop :=
  ∀ (m : (ℓ : Loc Cert.ReferenceQueryIdeal.nD Cert.ReferenceQueryIdeal.τ Cert.ReferenceQueryIdeal.sig) → Buf (Elt Ideal) ℓ) (g : Dev Cert.ReferenceQueryIdeal.nD → PrngReg), Pre_ReferenceQueryIdeal m →
    θ_run (Cert.ReferenceQueryIdeal.defs (F := Ideal)) (onTc (τ := Cert.ReferenceQueryIdeal.τ) (Cert.ReferenceQueryIdeal.main (F := Ideal))) ⟨m, fun _ => 0, g⟩ (fun r => (∀ c : Dev Cert.ReferenceQueryIdeal.nD,
      r.2.mem ((c.tc : Thread Cert.ReferenceQueryIdeal.nD Cert.ReferenceQueryIdeal.τ).loc Cert.ReferenceQueryIdeal.main_arg0) = m ((c.tc : Thread Cert.ReferenceQueryIdeal.nD Cert.ReferenceQueryIdeal.τ).loc Cert.ReferenceQueryIdeal.main_arg0)
      ∧ r.2.mem ((c.tc : Thread Cert.ReferenceQueryIdeal.nD Cert.ReferenceQueryIdeal.τ).loc Cert.ReferenceQueryIdeal.main_arg1) = m ((c.tc : Thread Cert.ReferenceQueryIdeal.nD Cert.ReferenceQueryIdeal.τ).loc Cert.ReferenceQueryIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelMnorm [hKernelMnorm : Cert.KernelMnorm.Facts] : Prop :=
  ∀ (m : (ℓ : Loc Cert.KernelMnorm.nD Cert.KernelMnorm.τ Cert.KernelMnorm.sig) → Buf (Elt Bits) ℓ) (g : Dev Cert.KernelMnorm.nD → PrngReg), Pre_KernelMnorm m →
    θ_run (Cert.KernelMnorm.defs (F := Bits)) (onTc (τ := Cert.KernelMnorm.τ) (Cert.KernelMnorm.main (F := Bits))) ⟨m, fun _ => 0, g⟩ (fun r => (∀ c : Dev Cert.KernelMnorm.nD,
      r.2.mem ((c.tc : Thread Cert.KernelMnorm.nD Cert.KernelMnorm.τ).loc Cert.KernelMnorm.main_arg0) = m ((c.tc : Thread Cert.KernelMnorm.nD Cert.KernelMnorm.τ).loc Cert.KernelMnorm.main_arg0)
      ∧ r.2.mem ((c.tc : Thread Cert.KernelMnorm.nD Cert.KernelMnorm.τ).loc Cert.KernelMnorm.main_arg1) = m ((c.tc : Thread Cert.KernelMnorm.nD Cert.KernelMnorm.τ).loc Cert.KernelMnorm.main_arg1))
      ∧ r.2.sem = fun _ => 0)

def quiescent_KernelMnormIdeal [hKernelMnormIdeal : Cert.KernelMnormIdeal.Facts] : Prop :=
  ∀ (m : (ℓ : Loc Cert.KernelMnormIdeal.nD Cert.KernelMnormIdeal.τ Cert.KernelMnormIdeal.sig) → Buf (Elt Ideal) ℓ) (g : Dev Cert.KernelMnormIdeal.nD → PrngReg), Pre_KernelMnormIdeal m →
    θ_run (Cert.KernelMnormIdeal.defs (F := Ideal)) (onTc (τ := Cert.KernelMnormIdeal.τ) (Cert.KernelMnormIdeal.main (F := Ideal))) ⟨m, fun _ => 0, g⟩ (fun r => (∀ c : Dev Cert.KernelMnormIdeal.nD,
      r.2.mem ((c.tc : Thread Cert.KernelMnormIdeal.nD Cert.KernelMnormIdeal.τ).loc Cert.KernelMnormIdeal.main_arg0) = m ((c.tc : Thread Cert.KernelMnormIdeal.nD Cert.KernelMnormIdeal.τ).loc Cert.KernelMnormIdeal.main_arg0)
      ∧ r.2.mem ((c.tc : Thread Cert.KernelMnormIdeal.nD Cert.KernelMnormIdeal.τ).loc Cert.KernelMnormIdeal.main_arg1) = m ((c.tc : Thread Cert.KernelMnormIdeal.nD Cert.KernelMnormIdeal.τ).loc Cert.KernelMnormIdeal.main_arg1))
      ∧ r.2.sem = fun _ => 0)

def quiescent_ReferenceMnormIdeal [hReferenceMnormIdeal : Cert.ReferenceMnormIdeal.Facts] : Prop :=
  ∀ (m : (ℓ : Loc Cert.ReferenceMnormIdeal.nD Cert.ReferenceMnormIdeal.τ Cert.ReferenceMnormIdeal.sig) → Buf (Elt Ideal) ℓ) (g : Dev Cert.ReferenceMnormIdeal.nD → PrngReg), Pre_ReferenceMnormIdeal m →
    θ_run (Cert.ReferenceMnormIdeal.defs (F := Ideal)) (onTc (τ := Cert.ReferenceMnormIdeal.τ) (Cert.ReferenceMnormIdeal.main (F := Ideal))) ⟨m, fun _ => 0, g⟩ (fun r => (∀ c : Dev Cert.ReferenceMnormIdeal.nD,
      r.2.mem ((c.tc : Thread Cert.ReferenceMnormIdeal.nD Cert.ReferenceMnormIdeal.τ).loc Cert.ReferenceMnormIdeal.main_arg0) = m ((c.tc : Thread Cert.ReferenceMnormIdeal.nD Cert.ReferenceMnormIdeal.τ).loc Cert.ReferenceMnormIdeal.main_arg0)
      ∧ r.2.mem ((c.tc : Thread Cert.ReferenceMnormIdeal.nD Cert.ReferenceMnormIdeal.τ).loc Cert.ReferenceMnormIdeal.main_arg1) = m ((c.tc : Thread Cert.ReferenceMnormIdeal.nD Cert.ReferenceMnormIdeal.τ).loc Cert.ReferenceMnormIdeal.main_arg1))
      ∧ r.2.sem = fun _ => 0)

def quiescent_KernelPrep [hKernelPrep : Cert.KernelPrep.Facts] : Prop :=
  ∀ (m : (ℓ : Loc Cert.KernelPrep.nD Cert.KernelPrep.τ Cert.KernelPrep.sig) → Buf (Elt Bits) ℓ) (g : Dev Cert.KernelPrep.nD → PrngReg), Pre_KernelPrep m →
    θ_run (Cert.KernelPrep.defs (F := Bits)) (onTc (τ := Cert.KernelPrep.τ) (Cert.KernelPrep.main (F := Bits))) ⟨m, fun _ => 0, g⟩ (fun r => (∀ c : Dev Cert.KernelPrep.nD,
      r.2.mem ((c.tc : Thread Cert.KernelPrep.nD Cert.KernelPrep.τ).loc Cert.KernelPrep.main_arg0) = m ((c.tc : Thread Cert.KernelPrep.nD Cert.KernelPrep.τ).loc Cert.KernelPrep.main_arg0)
      ∧ r.2.mem ((c.tc : Thread Cert.KernelPrep.nD Cert.KernelPrep.τ).loc Cert.KernelPrep.main_arg1) = m ((c.tc : Thread Cert.KernelPrep.nD Cert.KernelPrep.τ).loc Cert.KernelPrep.main_arg1))
      ∧ r.2.sem = fun _ => 0)

def quiescent_KernelPrepIdeal [hKernelPrepIdeal : Cert.KernelPrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg), Pre_KernelPrepIdeal m →
    θ_run (Cert.KernelPrepIdeal.defs (F := Ideal)) (onTc (τ := Cert.KernelPrepIdeal.τ) (Cert.KernelPrepIdeal.main (F := Ideal))) ⟨m, fun _ => 0, g⟩ (fun r => (∀ c : Dev Cert.KernelPrepIdeal.nD,
      r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
      ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1))
      ∧ r.2.sem = fun _ => 0)

def quiescent_ReferencePrepIdeal [hReferencePrepIdeal : Cert.ReferencePrepIdeal.Facts] : Prop :=
  ∀ (m : (ℓ : Loc Cert.ReferencePrepIdeal.nD Cert.ReferencePrepIdeal.τ Cert.ReferencePrepIdeal.sig) → Buf (Elt Ideal) ℓ) (g : Dev Cert.ReferencePrepIdeal.nD → PrngReg), Pre_ReferencePrepIdeal m →
    θ_run (Cert.ReferencePrepIdeal.defs (F := Ideal)) (onTc (τ := Cert.ReferencePrepIdeal.τ) (Cert.ReferencePrepIdeal.main (F := Ideal))) ⟨m, fun _ => 0, g⟩ (fun r => (∀ c : Dev Cert.ReferencePrepIdeal.nD,
      r.2.mem ((c.tc : Thread Cert.ReferencePrepIdeal.nD Cert.ReferencePrepIdeal.τ).loc Cert.ReferencePrepIdeal.main_arg0) = m ((c.tc : Thread Cert.ReferencePrepIdeal.nD Cert.ReferencePrepIdeal.τ).loc Cert.ReferencePrepIdeal.main_arg0)
      ∧ r.2.mem ((c.tc : Thread Cert.ReferencePrepIdeal.nD Cert.ReferencePrepIdeal.τ).loc Cert.ReferencePrepIdeal.main_arg1) = m ((c.tc : Thread Cert.ReferencePrepIdeal.nD Cert.ReferencePrepIdeal.τ).loc Cert.ReferencePrepIdeal.main_arg1))
      ∧ r.2.sem = fun _ => 0)

def quiescent_KernelScores [hKernelScores : Cert.KernelScores.Facts] : Prop :=
  ∀ (m : (ℓ : Loc Cert.KernelScores.nD Cert.KernelScores.τ Cert.KernelScores.sig) → Buf (Elt Bits) ℓ) (g : Dev Cert.KernelScores.nD → PrngReg), Pre_KernelScores m →
    θ_run (Cert.KernelScores.defs (F := Bits)) (onTc (τ := Cert.KernelScores.τ) (Cert.KernelScores.main (F := Bits))) ⟨m, fun _ => 0, g⟩ (fun r => (∀ c : Dev Cert.KernelScores.nD,
      r.2.mem ((c.tc : Thread Cert.KernelScores.nD Cert.KernelScores.τ).loc Cert.KernelScores.main_arg0) = m ((c.tc : Thread Cert.KernelScores.nD Cert.KernelScores.τ).loc Cert.KernelScores.main_arg0)
      ∧ r.2.mem ((c.tc : Thread Cert.KernelScores.nD Cert.KernelScores.τ).loc Cert.KernelScores.main_arg1) = m ((c.tc : Thread Cert.KernelScores.nD Cert.KernelScores.τ).loc Cert.KernelScores.main_arg1))
      ∧ r.2.sem = fun _ => 0)

def quiescent_KernelScoresIdeal [hKernelScoresIdeal : Cert.KernelScoresIdeal.Facts] : Prop :=
  ∀ (m : (ℓ : Loc Cert.KernelScoresIdeal.nD Cert.KernelScoresIdeal.τ Cert.KernelScoresIdeal.sig) → Buf (Elt Ideal) ℓ) (g : Dev Cert.KernelScoresIdeal.nD → PrngReg), Pre_KernelScoresIdeal m →
    θ_run (Cert.KernelScoresIdeal.defs (F := Ideal)) (onTc (τ := Cert.KernelScoresIdeal.τ) (Cert.KernelScoresIdeal.main (F := Ideal))) ⟨m, fun _ => 0, g⟩ (fun r => (∀ c : Dev Cert.KernelScoresIdeal.nD,
      r.2.mem ((c.tc : Thread Cert.KernelScoresIdeal.nD Cert.KernelScoresIdeal.τ).loc Cert.KernelScoresIdeal.main_arg0) = m ((c.tc : Thread Cert.KernelScoresIdeal.nD Cert.KernelScoresIdeal.τ).loc Cert.KernelScoresIdeal.main_arg0)
      ∧ r.2.mem ((c.tc : Thread Cert.KernelScoresIdeal.nD Cert.KernelScoresIdeal.τ).loc Cert.KernelScoresIdeal.main_arg1) = m ((c.tc : Thread Cert.KernelScoresIdeal.nD Cert.KernelScoresIdeal.τ).loc Cert.KernelScoresIdeal.main_arg1))
      ∧ r.2.sem = fun _ => 0)

def quiescent_ReferenceScoresIdeal [hReferenceScoresIdeal : Cert.ReferenceScoresIdeal.Facts] : Prop :=
  ∀ (m : (ℓ : Loc Cert.ReferenceScoresIdeal.nD Cert.ReferenceScoresIdeal.τ Cert.ReferenceScoresIdeal.sig) → Buf (Elt Ideal) ℓ) (g : Dev Cert.ReferenceScoresIdeal.nD → PrngReg), Pre_ReferenceScoresIdeal m →
    θ_run (Cert.ReferenceScoresIdeal.defs (F := Ideal)) (onTc (τ := Cert.ReferenceScoresIdeal.τ) (Cert.ReferenceScoresIdeal.main (F := Ideal))) ⟨m, fun _ => 0, g⟩ (fun r => (∀ c : Dev Cert.ReferenceScoresIdeal.nD,
      r.2.mem ((c.tc : Thread Cert.ReferenceScoresIdeal.nD Cert.ReferenceScoresIdeal.τ).loc Cert.ReferenceScoresIdeal.main_arg0) = m ((c.tc : Thread Cert.ReferenceScoresIdeal.nD Cert.ReferenceScoresIdeal.τ).loc Cert.ReferenceScoresIdeal.main_arg0)
      ∧ r.2.mem ((c.tc : Thread Cert.ReferenceScoresIdeal.nD Cert.ReferenceScoresIdeal.τ).loc Cert.ReferenceScoresIdeal.main_arg1) = m ((c.tc : Thread Cert.ReferenceScoresIdeal.nD Cert.ReferenceScoresIdeal.τ).loc Cert.ReferenceScoresIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelQuery_KernelQueryIdeal : Prop :=
  True

def algebraic_KernelQueryIdeal_ReferenceQueryIdeal [hKernelQueryIdeal : Cert.KernelQueryIdeal.Facts] [hReferenceQueryIdeal : Cert.ReferenceQueryIdeal.Facts] : Prop :=
  ∀ (m : (ℓ : Loc Cert.KernelQueryIdeal.nD Cert.KernelQueryIdeal.τ Cert.KernelQueryIdeal.sig) → Buf (Elt Ideal) ℓ) (g : Dev Cert.KernelQueryIdeal.nD → PrngReg)
    (m' : (ℓ : Loc Cert.ReferenceQueryIdeal.nD Cert.ReferenceQueryIdeal.τ Cert.ReferenceQueryIdeal.sig) → Buf (Elt Ideal) ℓ) (g' : Dev Cert.ReferenceQueryIdeal.nD → PrngReg), Pre_KernelQueryIdeal m →
    (∀ c : Dev Cert.KernelQueryIdeal.nD,
      m' ((c.tc : Thread Cert.ReferenceQueryIdeal.nD Cert.ReferenceQueryIdeal.τ).loc Cert.ReferenceQueryIdeal.main_arg0) = m ((c.tc : Thread Cert.KernelQueryIdeal.nD Cert.KernelQueryIdeal.τ).loc Cert.KernelQueryIdeal.main_arg0)
      ∧ m' ((c.tc : Thread Cert.ReferenceQueryIdeal.nD Cert.ReferenceQueryIdeal.τ).loc Cert.ReferenceQueryIdeal.main_arg1) = m ((c.tc : Thread Cert.KernelQueryIdeal.nD Cert.KernelQueryIdeal.τ).loc Cert.KernelQueryIdeal.main_arg1)) →
    ∃ (v0 : (c : Dev Cert.KernelQueryIdeal.nD) → Buf (Elt Ideal) ((c.tc : Thread Cert.KernelQueryIdeal.nD Cert.KernelQueryIdeal.τ).loc Cert.KernelQueryIdeal.main_v1)),
      θ_run (Cert.KernelQueryIdeal.defs (F := Ideal)) (onTc (τ := Cert.KernelQueryIdeal.τ) (Cert.KernelQueryIdeal.main (F := Ideal))) ⟨m, fun _ => 0, g⟩ (fun r => ∀ c : Dev Cert.KernelQueryIdeal.nD,
          r.2.mem ((c.tc : Thread Cert.KernelQueryIdeal.nD Cert.KernelQueryIdeal.τ).loc Cert.KernelQueryIdeal.main_v1) = v0 c
          ∧ r.2.mem ((c.tc : Thread Cert.KernelQueryIdeal.nD Cert.KernelQueryIdeal.τ).loc Cert.KernelQueryIdeal.main_arg0) = m ((c.tc : Thread Cert.KernelQueryIdeal.nD Cert.KernelQueryIdeal.τ).loc Cert.KernelQueryIdeal.main_arg0)
          ∧ r.2.mem ((c.tc : Thread Cert.KernelQueryIdeal.nD Cert.KernelQueryIdeal.τ).loc Cert.KernelQueryIdeal.main_arg1) = m ((c.tc : Thread Cert.KernelQueryIdeal.nD Cert.KernelQueryIdeal.τ).loc Cert.KernelQueryIdeal.main_arg1))
      ∧ θ_run (Cert.ReferenceQueryIdeal.defs (F := Ideal)) (onTc (τ := Cert.ReferenceQueryIdeal.τ) (Cert.ReferenceQueryIdeal.main (F := Ideal))) ⟨m', fun _ => 0, g'⟩ (fun r => ∀ c : Dev Cert.ReferenceQueryIdeal.nD,
          r.2.mem ((c.tc : Thread Cert.ReferenceQueryIdeal.nD Cert.ReferenceQueryIdeal.τ).loc Cert.ReferenceQueryIdeal.main_v2) = v0 c
          ∧ r.2.mem ((c.tc : Thread Cert.ReferenceQueryIdeal.nD Cert.ReferenceQueryIdeal.τ).loc Cert.ReferenceQueryIdeal.main_arg0) = m' ((c.tc : Thread Cert.ReferenceQueryIdeal.nD Cert.ReferenceQueryIdeal.τ).loc Cert.ReferenceQueryIdeal.main_arg0)
          ∧ r.2.mem ((c.tc : Thread Cert.ReferenceQueryIdeal.nD Cert.ReferenceQueryIdeal.τ).loc Cert.ReferenceQueryIdeal.main_arg1) = m' ((c.tc : Thread Cert.ReferenceQueryIdeal.nD Cert.ReferenceQueryIdeal.τ).loc Cert.ReferenceQueryIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)) →
    ∃ (v0 : (c : Dev Cert.KernelMergeIdeal.nD) → Buf (Elt Ideal) ((c.tc : Thread Cert.KernelMergeIdeal.nD Cert.KernelMergeIdeal.τ).loc Cert.KernelMergeIdeal.main_v3)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v3) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v28) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v1) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v2) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)) →
    ∃ (v0 : (c : Dev Cert.KernelMemIdeal.nD) → Buf (Elt Ideal) ((c.tc : Thread Cert.KernelMemIdeal.nD Cert.KernelMemIdeal.τ).loc Cert.KernelMemIdeal.main_v4)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v4) = v0 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v52) = v0 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v14) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelMnorm_KernelMnormIdeal : Prop :=
  True

def algebraic_KernelMnormIdeal_ReferenceMnormIdeal [hKernelMnormIdeal : Cert.KernelMnormIdeal.Facts] [hReferenceMnormIdeal : Cert.ReferenceMnormIdeal.Facts] : Prop :=
  ∀ (m : (ℓ : Loc Cert.KernelMnormIdeal.nD Cert.KernelMnormIdeal.τ Cert.KernelMnormIdeal.sig) → Buf (Elt Ideal) ℓ) (g : Dev Cert.KernelMnormIdeal.nD → PrngReg)
    (m' : (ℓ : Loc Cert.ReferenceMnormIdeal.nD Cert.ReferenceMnormIdeal.τ Cert.ReferenceMnormIdeal.sig) → Buf (Elt Ideal) ℓ) (g' : Dev Cert.ReferenceMnormIdeal.nD → PrngReg), Pre_KernelMnormIdeal m →
    (∀ c : Dev Cert.KernelMnormIdeal.nD,
      m' ((c.tc : Thread Cert.ReferenceMnormIdeal.nD Cert.ReferenceMnormIdeal.τ).loc Cert.ReferenceMnormIdeal.main_arg0) = m ((c.tc : Thread Cert.KernelMnormIdeal.nD Cert.KernelMnormIdeal.τ).loc Cert.KernelMnormIdeal.main_arg0)
      ∧ m' ((c.tc : Thread Cert.ReferenceMnormIdeal.nD Cert.ReferenceMnormIdeal.τ).loc Cert.ReferenceMnormIdeal.main_arg1) = m ((c.tc : Thread Cert.KernelMnormIdeal.nD Cert.KernelMnormIdeal.τ).loc Cert.KernelMnormIdeal.main_arg1)) →
    ∃ (v0 : (c : Dev Cert.KernelMnormIdeal.nD) → Buf (Elt Ideal) ((c.tc : Thread Cert.KernelMnormIdeal.nD Cert.KernelMnormIdeal.τ).loc Cert.KernelMnormIdeal.main_v2)),
      θ_run (Cert.KernelMnormIdeal.defs (F := Ideal)) (onTc (τ := Cert.KernelMnormIdeal.τ) (Cert.KernelMnormIdeal.main (F := Ideal))) ⟨m, fun _ => 0, g⟩ (fun r => ∀ c : Dev Cert.KernelMnormIdeal.nD,
          r.2.mem ((c.tc : Thread Cert.KernelMnormIdeal.nD Cert.KernelMnormIdeal.τ).loc Cert.KernelMnormIdeal.main_v2) = v0 c
          ∧ r.2.mem ((c.tc : Thread Cert.KernelMnormIdeal.nD Cert.KernelMnormIdeal.τ).loc Cert.KernelMnormIdeal.main_arg0) = m ((c.tc : Thread Cert.KernelMnormIdeal.nD Cert.KernelMnormIdeal.τ).loc Cert.KernelMnormIdeal.main_arg0)
          ∧ r.2.mem ((c.tc : Thread Cert.KernelMnormIdeal.nD Cert.KernelMnormIdeal.τ).loc Cert.KernelMnormIdeal.main_arg1) = m ((c.tc : Thread Cert.KernelMnormIdeal.nD Cert.KernelMnormIdeal.τ).loc Cert.KernelMnormIdeal.main_arg1))
      ∧ θ_run (Cert.ReferenceMnormIdeal.defs (F := Ideal)) (onTc (τ := Cert.ReferenceMnormIdeal.τ) (Cert.ReferenceMnormIdeal.main (F := Ideal))) ⟨m', fun _ => 0, g'⟩ (fun r => ∀ c : Dev Cert.ReferenceMnormIdeal.nD,
          r.2.mem ((c.tc : Thread Cert.ReferenceMnormIdeal.nD Cert.ReferenceMnormIdeal.τ).loc Cert.ReferenceMnormIdeal.main_v14) = v0 c
          ∧ r.2.mem ((c.tc : Thread Cert.ReferenceMnormIdeal.nD Cert.ReferenceMnormIdeal.τ).loc Cert.ReferenceMnormIdeal.main_arg0) = m' ((c.tc : Thread Cert.ReferenceMnormIdeal.nD Cert.ReferenceMnormIdeal.τ).loc Cert.ReferenceMnormIdeal.main_arg0)
          ∧ r.2.mem ((c.tc : Thread Cert.ReferenceMnormIdeal.nD Cert.ReferenceMnormIdeal.τ).loc Cert.ReferenceMnormIdeal.main_arg1) = m' ((c.tc : Thread Cert.ReferenceMnormIdeal.nD Cert.ReferenceMnormIdeal.τ).loc Cert.ReferenceMnormIdeal.main_arg1))

def preserves_KernelPrep_KernelPrepIdeal : Prop :=
  True

def algebraic_KernelPrepIdeal_ReferencePrepIdeal [hKernelPrepIdeal : Cert.KernelPrepIdeal.Facts] [hReferencePrepIdeal : Cert.ReferencePrepIdeal.Facts] : Prop :=
  ∀ (m : (ℓ : Loc Cert.KernelPrepIdeal.nD Cert.KernelPrepIdeal.τ Cert.KernelPrepIdeal.sig) → Buf (Elt Ideal) ℓ) (g : Dev Cert.KernelPrepIdeal.nD → PrngReg)
    (m' : (ℓ : Loc Cert.ReferencePrepIdeal.nD Cert.ReferencePrepIdeal.τ Cert.ReferencePrepIdeal.sig) → Buf (Elt Ideal) ℓ) (g' : Dev Cert.ReferencePrepIdeal.nD → PrngReg), Pre_KernelPrepIdeal m →
    (∀ c : Dev Cert.KernelPrepIdeal.nD,
      m' ((c.tc : Thread Cert.ReferencePrepIdeal.nD Cert.ReferencePrepIdeal.τ).loc Cert.ReferencePrepIdeal.main_arg0) = m ((c.tc : Thread Cert.KernelPrepIdeal.nD Cert.KernelPrepIdeal.τ).loc Cert.KernelPrepIdeal.main_arg0)
      ∧ m' ((c.tc : Thread Cert.ReferencePrepIdeal.nD Cert.ReferencePrepIdeal.τ).loc Cert.ReferencePrepIdeal.main_arg1) = m ((c.tc : Thread Cert.KernelPrepIdeal.nD Cert.KernelPrepIdeal.τ).loc Cert.KernelPrepIdeal.main_arg1)) →
    ∃ (v0 : (c : Dev Cert.KernelPrepIdeal.nD) → Buf (Elt Ideal) ((c.tc : Thread Cert.KernelPrepIdeal.nD Cert.KernelPrepIdeal.τ).loc Cert.KernelPrepIdeal.main_v2_0)) (v1 : (c : Dev Cert.KernelPrepIdeal.nD) → Buf (Elt Ideal) ((c.tc : Thread Cert.KernelPrepIdeal.nD Cert.KernelPrepIdeal.τ).loc Cert.KernelPrepIdeal.main_v2_1)) (v2 : (c : Dev Cert.KernelPrepIdeal.nD) → Buf (Elt Ideal) ((c.tc : Thread Cert.KernelPrepIdeal.nD Cert.KernelPrepIdeal.τ).loc Cert.KernelPrepIdeal.main_v2_2)),
      θ_run (Cert.KernelPrepIdeal.defs (F := Ideal)) (onTc (τ := Cert.KernelPrepIdeal.τ) (Cert.KernelPrepIdeal.main (F := Ideal))) ⟨m, fun _ => 0, g⟩ (fun r => ∀ c : Dev Cert.KernelPrepIdeal.nD,
          r.2.mem ((c.tc : Thread Cert.KernelPrepIdeal.nD Cert.KernelPrepIdeal.τ).loc Cert.KernelPrepIdeal.main_v2_0) = v0 c
          ∧ r.2.mem ((c.tc : Thread Cert.KernelPrepIdeal.nD Cert.KernelPrepIdeal.τ).loc Cert.KernelPrepIdeal.main_v2_1) = v1 c
          ∧ r.2.mem ((c.tc : Thread Cert.KernelPrepIdeal.nD Cert.KernelPrepIdeal.τ).loc Cert.KernelPrepIdeal.main_v2_2) = v2 c
          ∧ r.2.mem ((c.tc : Thread Cert.KernelPrepIdeal.nD Cert.KernelPrepIdeal.τ).loc Cert.KernelPrepIdeal.main_arg0) = m ((c.tc : Thread Cert.KernelPrepIdeal.nD Cert.KernelPrepIdeal.τ).loc Cert.KernelPrepIdeal.main_arg0)
          ∧ r.2.mem ((c.tc : Thread Cert.KernelPrepIdeal.nD Cert.KernelPrepIdeal.τ).loc Cert.KernelPrepIdeal.main_arg1) = m ((c.tc : Thread Cert.KernelPrepIdeal.nD Cert.KernelPrepIdeal.τ).loc Cert.KernelPrepIdeal.main_arg1))
      ∧ θ_run (Cert.ReferencePrepIdeal.defs (F := Ideal)) (onTc (τ := Cert.ReferencePrepIdeal.τ) (Cert.ReferencePrepIdeal.main (F := Ideal))) ⟨m', fun _ => 0, g'⟩ (fun r => ∀ c : Dev Cert.ReferencePrepIdeal.nD,
          r.2.mem ((c.tc : Thread Cert.ReferencePrepIdeal.nD Cert.ReferencePrepIdeal.τ).loc Cert.ReferencePrepIdeal.main_v17) = v0 c
          ∧ r.2.mem ((c.tc : Thread Cert.ReferencePrepIdeal.nD Cert.ReferencePrepIdeal.τ).loc Cert.ReferencePrepIdeal.main_v18) = v1 c
          ∧ r.2.mem ((c.tc : Thread Cert.ReferencePrepIdeal.nD Cert.ReferencePrepIdeal.τ).loc Cert.ReferencePrepIdeal.main_v20) = v2 c
          ∧ r.2.mem ((c.tc : Thread Cert.ReferencePrepIdeal.nD Cert.ReferencePrepIdeal.τ).loc Cert.ReferencePrepIdeal.main_arg0) = m' ((c.tc : Thread Cert.ReferencePrepIdeal.nD Cert.ReferencePrepIdeal.τ).loc Cert.ReferencePrepIdeal.main_arg0)
          ∧ r.2.mem ((c.tc : Thread Cert.ReferencePrepIdeal.nD Cert.ReferencePrepIdeal.τ).loc Cert.ReferencePrepIdeal.main_arg1) = m' ((c.tc : Thread Cert.ReferencePrepIdeal.nD Cert.ReferencePrepIdeal.τ).loc Cert.ReferencePrepIdeal.main_arg1))

def preserves_KernelScores_KernelScoresIdeal : Prop :=
  True

def algebraic_KernelScoresIdeal_ReferenceScoresIdeal [hKernelScoresIdeal : Cert.KernelScoresIdeal.Facts] [hReferenceScoresIdeal : Cert.ReferenceScoresIdeal.Facts] : Prop :=
  ∀ (m : (ℓ : Loc Cert.KernelScoresIdeal.nD Cert.KernelScoresIdeal.τ Cert.KernelScoresIdeal.sig) → Buf (Elt Ideal) ℓ) (g : Dev Cert.KernelScoresIdeal.nD → PrngReg)
    (m' : (ℓ : Loc Cert.ReferenceScoresIdeal.nD Cert.ReferenceScoresIdeal.τ Cert.ReferenceScoresIdeal.sig) → Buf (Elt Ideal) ℓ) (g' : Dev Cert.ReferenceScoresIdeal.nD → PrngReg), Pre_KernelScoresIdeal m →
    (∀ c : Dev Cert.KernelScoresIdeal.nD,
      m' ((c.tc : Thread Cert.ReferenceScoresIdeal.nD Cert.ReferenceScoresIdeal.τ).loc Cert.ReferenceScoresIdeal.main_arg0) = m ((c.tc : Thread Cert.KernelScoresIdeal.nD Cert.KernelScoresIdeal.τ).loc Cert.KernelScoresIdeal.main_arg0)
      ∧ m' ((c.tc : Thread Cert.ReferenceScoresIdeal.nD Cert.ReferenceScoresIdeal.τ).loc Cert.ReferenceScoresIdeal.main_arg1) = m ((c.tc : Thread Cert.KernelScoresIdeal.nD Cert.KernelScoresIdeal.τ).loc Cert.KernelScoresIdeal.main_arg1)) →
    ∃ (v0 : (c : Dev Cert.KernelScoresIdeal.nD) → Buf (Elt Ideal) ((c.tc : Thread Cert.KernelScoresIdeal.nD Cert.KernelScoresIdeal.τ).loc Cert.KernelScoresIdeal.main_v2_0)) (v1 : (c : Dev Cert.KernelScoresIdeal.nD) → Buf (Elt Ideal) ((c.tc : Thread Cert.KernelScoresIdeal.nD Cert.KernelScoresIdeal.τ).loc Cert.KernelScoresIdeal.main_v2_1)),
      θ_run (Cert.KernelScoresIdeal.defs (F := Ideal)) (onTc (τ := Cert.KernelScoresIdeal.τ) (Cert.KernelScoresIdeal.main (F := Ideal))) ⟨m, fun _ => 0, g⟩ (fun r => ∀ c : Dev Cert.KernelScoresIdeal.nD,
          r.2.mem ((c.tc : Thread Cert.KernelScoresIdeal.nD Cert.KernelScoresIdeal.τ).loc Cert.KernelScoresIdeal.main_v2_0) = v0 c
          ∧ r.2.mem ((c.tc : Thread Cert.KernelScoresIdeal.nD Cert.KernelScoresIdeal.τ).loc Cert.KernelScoresIdeal.main_v2_1) = v1 c
          ∧ r.2.mem ((c.tc : Thread Cert.KernelScoresIdeal.nD Cert.KernelScoresIdeal.τ).loc Cert.KernelScoresIdeal.main_arg0) = m ((c.tc : Thread Cert.KernelScoresIdeal.nD Cert.KernelScoresIdeal.τ).loc Cert.KernelScoresIdeal.main_arg0)
          ∧ r.2.mem ((c.tc : Thread Cert.KernelScoresIdeal.nD Cert.KernelScoresIdeal.τ).loc Cert.KernelScoresIdeal.main_arg1) = m ((c.tc : Thread Cert.KernelScoresIdeal.nD Cert.KernelScoresIdeal.τ).loc Cert.KernelScoresIdeal.main_arg1))
      ∧ θ_run (Cert.ReferenceScoresIdeal.defs (F := Ideal)) (onTc (τ := Cert.ReferenceScoresIdeal.τ) (Cert.ReferenceScoresIdeal.main (F := Ideal))) ⟨m', fun _ => 0, g'⟩ (fun r => ∀ c : Dev Cert.ReferenceScoresIdeal.nD,
          r.2.mem ((c.tc : Thread Cert.ReferenceScoresIdeal.nD Cert.ReferenceScoresIdeal.τ).loc Cert.ReferenceScoresIdeal.main_v6) = v0 c
          ∧ r.2.mem ((c.tc : Thread Cert.ReferenceScoresIdeal.nD Cert.ReferenceScoresIdeal.τ).loc Cert.ReferenceScoresIdeal.main_v9) = v1 c
          ∧ r.2.mem ((c.tc : Thread Cert.ReferenceScoresIdeal.nD Cert.ReferenceScoresIdeal.τ).loc Cert.ReferenceScoresIdeal.main_arg0) = m' ((c.tc : Thread Cert.ReferenceScoresIdeal.nD Cert.ReferenceScoresIdeal.τ).loc Cert.ReferenceScoresIdeal.main_arg0)
          ∧ r.2.mem ((c.tc : Thread Cert.ReferenceScoresIdeal.nD Cert.ReferenceScoresIdeal.τ).loc Cert.ReferenceScoresIdeal.main_arg1) = m' ((c.tc : Thread Cert.ReferenceScoresIdeal.nD Cert.ReferenceScoresIdeal.τ).loc Cert.ReferenceScoresIdeal.main_arg1))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelQuery : Cert.KernelQuery.Facts) (hKernelQueryIdeal : Cert.KernelQueryIdeal.Facts) (hReferenceQueryIdeal : Cert.ReferenceQueryIdeal.Facts) (hKernelMerge : Cert.KernelMerge.Facts) (hKernelMergeIdeal : Cert.KernelMergeIdeal.Facts) (hReferenceMergeIdeal : Cert.ReferenceMergeIdeal.Facts) (hKernelKv : Cert.KernelKv.Facts) (hKernelKvIdeal : Cert.KernelKvIdeal.Facts) (hReferenceKvIdeal : Cert.ReferenceKvIdeal.Facts) (hKernelMem : Cert.KernelMem.Facts) (hKernelMemIdeal : Cert.KernelMemIdeal.Facts) (hReferenceMemIdeal : Cert.ReferenceMemIdeal.Facts) (hKernelNorm : Cert.KernelNorm.Facts) (hKernelNormIdeal : Cert.KernelNormIdeal.Facts) (hReferenceNormIdeal : Cert.ReferenceNormIdeal.Facts) (hKernelMnorm : Cert.KernelMnorm.Facts) (hKernelMnormIdeal : Cert.KernelMnormIdeal.Facts) (hReferenceMnormIdeal : Cert.ReferenceMnormIdeal.Facts) (hKernelPrep : Cert.KernelPrep.Facts) (hKernelPrepIdeal : Cert.KernelPrepIdeal.Facts) (hReferencePrepIdeal : Cert.ReferencePrepIdeal.Facts) (hKernelScores : Cert.KernelScores.Facts) (hKernelScoresIdeal : Cert.KernelScoresIdeal.Facts) (hReferenceScoresIdeal : Cert.ReferenceScoresIdeal.Facts),
    quiescent_Kernel (hKernel := hKernel)
    ∧ quiescent_KernelIdeal (hKernelIdeal := hKernelIdeal)
    ∧ quiescent_ReferenceIdeal (hReferenceIdeal := hReferenceIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelQuery (hKernelQuery := hKernelQuery)
    ∧ quiescent_KernelQueryIdeal (hKernelQueryIdeal := hKernelQueryIdeal)
    ∧ quiescent_ReferenceQueryIdeal (hReferenceQueryIdeal := hReferenceQueryIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelMnorm (hKernelMnorm := hKernelMnorm)
    ∧ quiescent_KernelMnormIdeal (hKernelMnormIdeal := hKernelMnormIdeal)
    ∧ quiescent_ReferenceMnormIdeal (hReferenceMnormIdeal := hReferenceMnormIdeal)
    ∧ quiescent_KernelPrep (hKernelPrep := hKernelPrep)
    ∧ quiescent_KernelPrepIdeal (hKernelPrepIdeal := hKernelPrepIdeal)
    ∧ quiescent_ReferencePrepIdeal (hReferencePrepIdeal := hReferencePrepIdeal)
    ∧ quiescent_KernelScores (hKernelScores := hKernelScores)
    ∧ quiescent_KernelScoresIdeal (hKernelScoresIdeal := hKernelScoresIdeal)
    ∧ quiescent_ReferenceScoresIdeal (hReferenceScoresIdeal := hReferenceScoresIdeal)
    ∧ preserves_Kernel_KernelIdeal
    ∧ algebraic_KernelIdeal_ReferenceIdeal (hKernelIdeal := hKernelIdeal) (hReferenceIdeal := hReferenceIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelQuery_KernelQueryIdeal
    ∧ algebraic_KernelQueryIdeal_ReferenceQueryIdeal (hKernelQueryIdeal := hKernelQueryIdeal) (hReferenceQueryIdeal := hReferenceQueryIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelKv_KernelKvIdeal
    ∧ algebraic_KernelKvIdeal_ReferenceKvIdeal (hKernelKvIdeal := hKernelKvIdeal) (hReferenceKvIdeal := hReferenceKvIdeal)
    ∧ preserves_KernelMem_KernelMemIdeal
    ∧ algebraic_KernelMemIdeal_ReferenceMemIdeal (hKernelMemIdeal := hKernelMemIdeal) (hReferenceMemIdeal := hReferenceMemIdeal)
    ∧ preserves_KernelNorm_KernelNormIdeal
    ∧ algebraic_KernelNormIdeal_ReferenceNormIdeal (hKernelNormIdeal := hKernelNormIdeal) (hReferenceNormIdeal := hReferenceNormIdeal)
    ∧ preserves_KernelMnorm_KernelMnormIdeal
    ∧ algebraic_KernelMnormIdeal_ReferenceMnormIdeal (hKernelMnormIdeal := hKernelMnormIdeal) (hReferenceMnormIdeal := hReferenceMnormIdeal)
    ∧ preserves_KernelPrep_KernelPrepIdeal
    ∧ algebraic_KernelPrepIdeal_ReferencePrepIdeal (hKernelPrepIdeal := hKernelPrepIdeal) (hReferencePrepIdeal := hReferencePrepIdeal)
    ∧ preserves_KernelScores_KernelScoresIdeal
    ∧ algebraic_KernelScoresIdeal_ReferenceScoresIdeal (hKernelScoresIdeal := hKernelScoresIdeal) (hReferenceScoresIdeal := hReferenceScoresIdeal)
-- ==== Kernel.lean ====
abbrev S8192x21840 : Shape := ⟨2, ![8192, 21840]⟩
abbrev S2x4096 : Shape := ⟨2, ![2, 4096]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S64 : Shape := ⟨1, ![64]⟩
abbrev S8192x1 : Shape := ⟨2, ![8192, 1]⟩
abbrev S8192x2048 : Shape := ⟨2, ![8192, 2048]⟩
abbrev S128x1024 : Shape := ⟨2, ![128, 1024]⟩
abbrev S128x2048 : Shape := ⟨2, ![128, 2048]⟩
abbrev S8x128x256 : Shape := ⟨3, ![8, 128, 256]⟩
abbrev S128x256 : Shape := ⟨2, ![128, 256]⟩
abbrev S1x128x256 : Shape := ⟨3, ![1, 128, 256]⟩
abbrev S1 : Shape := ⟨1, ![1]⟩

abbrev nBuf : Space → Nat
  | .hbm => 83
  | .vmem => 18
  | .smem => 1
  | _ => 0

abbrev bufTy : (tb : Table) → Fin (tcTables nBuf tb) → BufTy
  | .hbm, ⟨0, _⟩ => ⟨S8192x21840, .f32⟩
  | .hbm, ⟨1, _⟩ => ⟨S2x4096, .i32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S_, .f32⟩
  | .hbm, ⟨20, _⟩ => ⟨S1x128x128, .f32⟩
  | .hbm, ⟨21, _⟩ => ⟨S1x128x128, .i1⟩
  | .hbm, ⟨22, _⟩ => ⟨S8x1x1, .f32⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S8x128x128, .f32⟩
  | .hbm, ⟨28, _⟩ => ⟨S8x128x128, .f32⟩
  | .hbm, ⟨29, _⟩ => ⟨S8x128x128, .f32⟩
  | .hbm, ⟨30, _⟩ => ⟨S8x128x128, .f32⟩
  | .hbm, ⟨31, _⟩ => ⟨S_, .f32⟩
  | .hbm, ⟨32, _⟩ => ⟨S_, .f32⟩
  | .hbm, ⟨33, _⟩ => ⟨S8x128x128, .i1⟩
  | .hbm, ⟨34, _⟩ => ⟨S8x128x128, .f32⟩
  | .hbm, ⟨35, _⟩ => ⟨S8x128x128, .f32⟩
  | .hbm, ⟨36, _⟩ => ⟨S8x1, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8x128, .f32⟩
  | .hbm, ⟨42, _⟩ => ⟨S8x128, .f32⟩
  | .hbm, ⟨43, _⟩ => ⟨S8x128, .f32⟩
  | .hbm, ⟨44, _⟩ => ⟨S8x128, .f32⟩
  | .hbm, ⟨45, _⟩ => ⟨S8x1, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S8x128, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8, .f32⟩
  | .hbm, ⟨58, _⟩ => ⟨S8x128x1, .f32⟩
  | .hbm, ⟨59, _⟩ => ⟨S8x128x128, .f32⟩
  | .hbm, ⟨60, _⟩ => ⟨S8x128x1, .f32⟩
  | .hbm, ⟨61, _⟩ => ⟨S8x128x128, .f32⟩
  | .hbm, ⟨62, _⟩ => ⟨S64, .f32⟩
  | .hbm, ⟨63, _⟩ => ⟨S_, .f32⟩
  | .hbm, ⟨64, _⟩ => ⟨S64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S128, .f32⟩
  | .hbm, ⟨73, _⟩ => ⟨S1x128, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S128, .f32⟩
  | .hbm, ⟨80, _⟩ => ⟨S1x128, .f32⟩
  | .hbm, ⟨81, _⟩ => ⟨S8192x1, .i32⟩
  | .hbm, ⟨82, _⟩ => ⟨S8192x2048, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x1, .i32⟩
  | .local _ .vmem, ⟨9, _⟩ => ⟨S128x1, .i32⟩
  | .local _ .vmem, ⟨10, _⟩ => ⟨S1x128, .f32⟩
  | .local _ .vmem, ⟨11, _⟩ => ⟨S1x128, .f32⟩
  | .local _ .vmem, ⟨12, _⟩ => ⟨S8x128x128, .f32⟩
  | .local _ .vmem, ⟨13, _⟩ => ⟨S8x128x128, .f32⟩
  | .local _ .vmem, ⟨14, _⟩ => ⟨S8x128x128, .f32⟩
  | .local _ .vmem, ⟨15, _⟩ => ⟨S128x2048, .bf16⟩
  | .local _ .vmem, ⟨16, _⟩ => ⟨S128x2048, .bf16⟩
  | .local _ .vmem, ⟨17, _⟩ => ⟨S8x128x256, .f32⟩
  | .local _ .smem, ⟨0, _⟩ => ⟨S8, .f32⟩
  | _, _ => ⟨S8192x21840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8192x21840 : Shape := ⟨2, ![8192, 21840]⟩
abbrev S2x4096 : Shape := ⟨2, ![2, 4096]⟩
abbrev S2x4096x21840 : Shape := ⟨3, ![2, 4096, 21840]⟩
abbrev S2x4096x1024 : Shape := ⟨3, ![2, 4096, 1024]⟩
abbrev S2x4096x2048 : Shape := ⟨3, ![2, 4096, 2048]⟩
abbrev S2x4096x8x128 : Shape := ⟨4, ![2, 4096, 8, 128]⟩
abbrev S64 : Shape := ⟨1, ![64]⟩
abbrev S_ : Shape := ⟨0, ![]⟩
abbrev S2x4096x1 : Shape := ⟨3, ![2, 4096, 1]⟩
abbrev S1x1x64 : Shape := ⟨3, ![1, 1, 64]⟩
abbrev S2x4096x64 : Shape := ⟨3, ![2, 4096, 64]⟩
abbrev S2x4096x1x64 : Shape := ⟨4, ![2, 4096, 1, 64]⟩
abbrev S2x4096x8x64 : Shape := ⟨4, ![2, 4096, 8, 64]⟩
abbrev S2x4096x8x256 : Shape := ⟨4, ![2, 4096, 8, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S2x32x128x8x128 : Shape := ⟨5, ![2, 32, 128, 8, 128]⟩
abbrev S32x2x8x128x128 : Shape := ⟨5, ![32, 2, 8, 128, 128]⟩
abbrev S2x32x128x8x256 : Shape := ⟨5, ![2, 32, 128, 8, 256]⟩
abbrev S32x2x8x128x256 : Shape := ⟨5, ![32, 2, 8, 128, 256]⟩
abbrev S2x8x128x256 : Shape := ⟨4, ![2, 8, 128, 256]⟩
abbrev S1x2x8x128x128 : Shape := ⟨5, ![1, 2, 8, 128, 128]⟩
abbrev S2x8x128x128 : Shape := ⟨4, ![2, 8, 128, 128]⟩
abbrev S1x2x8x128x256 : Shape := ⟨5, ![1, 2, 8, 128, 256]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S2x4096x8 : Shape := ⟨3, ![2, 4096, 8]⟩
abbrev S2x4096x8x1 : Shape := ⟨4, ![2, 4096, 8, 1]⟩
abbrev S8192x2048 : Shape := ⟨2, ![8192, 2048]⟩

abbrev nBuf : Space → Nat
  | .hbm => 231
  | .vmem => 0
  | .smem => 0
  | _ => 0

abbrev hbmTy0_0 (i : Nat) : BufTy := match i % 128 with
  | 0 => ⟨S8192x21840, .f32⟩
  | 1 => ⟨S2x4096, .i32⟩
  | 2 => ⟨S2x4096x21840, .f32⟩
  | 3 => ⟨S2x4096x1024, .f32⟩
  | 4 => ⟨S2x4096x1024, .f32⟩
  | 5 => ⟨S2x4096x2048, .f32⟩
  | 6 => ⟨S2x4096x8x128, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S2x4096, .f32⟩
  | 18 => ⟨S2x4096x1, .f32⟩
  | 19 => ⟨S1x1x64, .f32⟩
  | 20 => ⟨S2x4096x64, .f32⟩
  | 21 => ⟨S2x4096x64, .f32⟩
  | 22 => ⟨S2x4096x64, .f32⟩
  | 23 => ⟨S2x4096x64, .f32⟩
  | 24 => ⟨S2x4096x1x64, .f32⟩
  | 25 => ⟨S2x4096x64, .f32⟩
  | 26 => ⟨S2x4096x1x64, .f32⟩
  | 27 => ⟨S2x4096x8x64, .f32⟩
  | 28 => ⟨S2x4096x8x64, .f32⟩
  | 29 => ⟨S2x4096x8x64, .f32⟩
  | 30 => ⟨S2x4096x8x64, .f32⟩
  | 31 => ⟨S2x4096x8x64, .f32⟩
  | 32 => ⟨S2x4096x8x64, .f32⟩
  | 33 => ⟨S2x4096x8x64, .f32⟩
  | 34 => ⟨S2x4096x8x64, .f32⟩
  | 35 => ⟨S2x4096x8x64, .f32⟩
  | 36 => ⟨S2x4096x8x64, .f32⟩
  | 37 => ⟨S2x4096x8x64, .f32⟩
  | 38 => ⟨S2x4096x8x64, .f32⟩
  | 39 => ⟨S2x4096x8x128, .f32⟩
  | 40 => ⟨S2x4096x8x128, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S_, .f32⟩
  | 49 => ⟨S64, .f32⟩
  | 50 => ⟨S64, .f32⟩
  | 51 => ⟨S2x4096, .f32⟩
  | 52 => ⟨S2x4096x1, .f32⟩
  | 53 => ⟨S1x1x64, .f32⟩
  | 54 => ⟨S2x4096x64, .f32⟩
  | 55 => ⟨S2x4096x64, .f32⟩
  | 56 => ⟨S2x4096x64, .f32⟩
  | 57 => ⟨S2x4096x64, .f32⟩
  | 58 => ⟨S2x4096x1x64, .f32⟩
  | 59 => ⟨S2x4096x64, .f32⟩
  | 60 => ⟨S2x4096x1x64, .f32⟩
  | 61 => ⟨S2x4096x8x64, .f32⟩
  | 62 => ⟨S2x4096x8x64, .f32⟩
  | 63 => ⟨S2x4096x8x64, .f32⟩
  | 64 => ⟨S2x4096x8x64, .f32⟩
  | 65 => ⟨S2x4096x8x64, .f32⟩
  | 66 => ⟨S2x4096x8x64, .f32⟩
  | 67 => ⟨S2x4096x8x64, .f32⟩
  | 68 => ⟨S2x4096x8x64, .f32⟩
  | 69 => ⟨S2x4096x8x64, .f32⟩
  | 70 => ⟨S2x4096x8x64, .f32⟩
  | 71 => ⟨S2x4096x8x64, .f32⟩
  | 72 => ⟨S2x4096x8x64, .f32⟩
  | 73 => ⟨S2x4096x8x128, .f32⟩
  | 74 => ⟨S2x4096x8x256, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S8, .f32⟩
  | 83 => ⟨S8, .f32⟩
  | 84 => ⟨S8, .f32⟩
  | 85 => ⟨S128, .f32⟩
  | 86 => ⟨S128x1, .f32⟩
  | 87 => ⟨S1x128, .f32⟩
  | 88 => ⟨S128x128, .f32⟩
  | 89 => ⟨S128x128, .f32⟩
  | 90 => ⟨S128x128, .f32⟩
  | 91 => ⟨S1x128x128, .f32⟩
  | 92 => ⟨S_, .f32⟩
  | 93 => ⟨S1x128x128, .f32⟩
  | 94 => ⟨S1x128x128, .i1⟩
  | 95 => ⟨S8x1x1, .f32⟩
  | 96 => ⟨S_, .f32⟩
  | 97 => ⟨S128x128, .f32⟩
  | 98 => ⟨S128x128, .f32⟩
  | 99 => ⟨S1x128x128, .f32⟩
  | 100 => ⟨S8x128x128, .f32⟩
  | 101 => ⟨S8x128x128, .f32⟩
  | 102 => ⟨S8x128x128, .f32⟩
  | 103 => ⟨S8x128x128, .f32⟩
  | 104 => ⟨S_, .f32⟩
  | 105 => ⟨S_, .f32⟩
  | 106 => ⟨S8x128x128, .i1⟩
  | 107 => ⟨S8x128x128, .f32⟩
  | 108 => ⟨S8x128x128, .f32⟩
  | 109 => ⟨S8x1, .f32⟩
  | 110 => ⟨S_, .f32⟩
  | 111 => ⟨S128, .f32⟩
  | 112 => ⟨S128, .f32⟩
  | 113 => ⟨S1x128, .f32⟩
  | 114 => ⟨S8x128, .f32⟩
  | 115 => ⟨S8x128, .f32⟩
  | 116 => ⟨S8x128, .f32⟩
  | 117 => ⟨S8x128, .f32⟩
  | 118 => ⟨S8x1, .f32⟩
  | 119 => ⟨S_, .f32⟩
  | 120 => ⟨S128, .f32⟩
  | 121 => ⟨S128, .f32⟩
  | 122 => ⟨S1x128, .f32⟩
  | 123 => ⟨S8x128, .f32⟩
  | 124 => ⟨S8x128, .f32⟩
  | 125 => ⟨S8x128, .f32⟩
  | 126 => ⟨S8x128, .f32⟩
  | 127 => ⟨S_, .f32⟩
  | _ => ⟨S8192x21840, .f32⟩

abbrev hbmTy0_1 (i : Nat) : BufTy := match i % 128 with
  | 0 => ⟨S8, .f32⟩
  | 1 => ⟨S8, .f32⟩
  | 2 => ⟨S8, .f32⟩
  | 3 => ⟨S_, .f32⟩
  | 4 => ⟨S2x4096x8x128, .f32⟩
  | 5 => ⟨S2x4096x8x128, .f32⟩
  | 6 => ⟨S2x32x128x8x128, .f32⟩
  | 7 => ⟨S32x2x8x128x128, .f32⟩
  | 8 => ⟨S2x32x128x8x128, .f32⟩
  | 9 => ⟨S32x2x8x128x128, .f32⟩
  | 10 => ⟨S2x32x128x8x256, .f32⟩
  | 11 => ⟨S32x2x8x128x256, .f32⟩
  | 12 => ⟨S_, .f32⟩
  | 13 => ⟨S2x8x128x256, .f32⟩
  | 14 => ⟨S_, .f32⟩
  | 15 => ⟨S32x2x8x128x256, .f32⟩
  | 16 => ⟨S_, .i32⟩
  | 17 => ⟨S32x2x8x128x128, .f32⟩
  | 18 => ⟨S32x2x8x128x128, .f32⟩
  | 19 => ⟨S32x2x8x128x256, .f32⟩
  | 20 => ⟨S8x128x128, .f32⟩
  | 21 => ⟨S8x128, .f32⟩
  | 22 => ⟨S8, .f32⟩
  | 23 => ⟨S8x128, .f32⟩
  | 24 => ⟨S_, .i32⟩
  | 25 => ⟨S2x8x128x256, .f32⟩
  | 26 => ⟨S32x2x8x128x256, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1x2x8x128x128, .f32⟩
  | 34 => ⟨S2x8x128x128, .f32⟩
  | 35 => ⟨S_, .i32⟩
  | 36 => ⟨S_, .i32⟩
  | 37 => ⟨S_, .i32⟩
  | 38 => ⟨S_, .i32⟩
  | 39 => ⟨S1x2x8x128x128, .f32⟩
  | 40 => ⟨S2x8x128x128, .f32⟩
  | 41 => ⟨S_, .i32⟩
  | 42 => ⟨S_, .i32⟩
  | 43 => ⟨S_, .i32⟩
  | 44 => ⟨S_, .i32⟩
  | 45 => ⟨S1x2x8x128x256, .f32⟩
  | 46 => ⟨S2x8x128x256, .f32⟩
  | 47 => ⟨S2x8x128x128, .f32⟩
  | 48 => ⟨S1x8x128x128, .f32⟩
  | 49 => ⟨S2x8x128x128, .f32⟩
  | 50 => ⟨S2x8x128x128, .f32⟩
  | 51 => ⟨S2x8x128x256, .f32⟩
  | 52 => ⟨S1x8x128x1, .f32⟩
  | 53 => ⟨S2x8x128x128, .f32⟩
  | 54 => ⟨S2x8x128x128, .f32⟩
  | 55 => ⟨S2x8x128x256, .f32⟩
  | 56 => ⟨S1x8x1x1, .f32⟩
  | 57 => ⟨S2x8x128x256, .f32⟩
  | 58 => ⟨S2x8x128x256, .f32⟩
  | 59 => ⟨S1x8x128x1, .f32⟩
  | 60 => ⟨S2x8x128x128, .f32⟩
  | 61 => ⟨S2x8x128x128, .f32⟩
  | 62 => ⟨S2x8x128x256, .f32⟩
  | 63 => ⟨S2x8x128x256, .f32⟩
  | 64 => ⟨S2x8x128x256, .f32⟩
  | 65 => ⟨S1x2x8x128x256, .f32⟩
  | 66 => ⟨S_, .i32⟩
  | 67 => ⟨S_, .i32⟩
  | 68 => ⟨S_, .i32⟩
  | 69 => ⟨S_, .i32⟩
  | 70 => ⟨S32x2x8x128x256, .f32⟩
  | 71 => ⟨S_, .i32⟩
  | 72 => ⟨S_, .i32⟩
  | 73 => ⟨S2x32x128x8x256, .f32⟩
  | 74 => ⟨S2x4096x8x256, .f32⟩
  | 75 => ⟨S2x4096x8x256, .f32⟩
  | 76 => ⟨S_, .f32⟩
  | 77 => ⟨S2x4096x8, .f32⟩
  | 78 => ⟨S2x4096x8x1, .f32⟩
  | 79 => ⟨S_, .f32⟩
  | 80 => ⟨S2x4096x8x1, .f32⟩
  | 81 => ⟨S2x4096x8x1, .f32⟩
  | 82 => ⟨S_, .f32⟩
  | 83 => ⟨S2x4096x8x1, .f32⟩
  | 84 => ⟨S2x4096x8x1, .f32⟩
  | 85 => ⟨S2x4096x8x1, .f32⟩
  | 86 => ⟨S2x4096x8x256, .f32⟩
  | 87 => ⟨S2x4096x8x256, .f32⟩
  | 88 => ⟨S2x4096x2048, .f32⟩
  | 89 => ⟨S2x4096x21840, .f32⟩
  | 90 => ⟨S2x4096x2048, .f32⟩
  | 91 => ⟨S2x4096x2048, .f32⟩
  | 92 => ⟨S2x4096x2048, .f32⟩
  | 93 => ⟨S_, .f32⟩
  | 94 => ⟨S2x4096x2048, .f32⟩
  | 95 => ⟨S2x4096x2048, .f32⟩
  | 96 => ⟨S_, .f32⟩
  | 97 => ⟨S2x4096x2048, .f32⟩
  | 98 => ⟨S2x4096x2048, .f32⟩
  | 99 => ⟨S2x4096x2048, .f32⟩
  | 100 => ⟨S2x4096x2048, .f32⟩
  | 101 => ⟨S2x4096x2048, .bf16⟩
  | 102 => ⟨S8192x2048, .bf16⟩
  | _ => ⟨S8192x21840, .f32⟩

abbrev hbmTy (i : Nat) : BufTy := match i / 128 with
  | 0 => hbmTy0_0 i
  | 1 => hbmTy0_1 i
  | _ => ⟨S8192x21840, .f32⟩

abbrev bufTy : (tb : Table) → Fin (tcTables nBuf tb) → BufTy
  | .hbm, ⟨i, _⟩ => hbmTy i
  | _, _ => ⟨S8192x21840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_cst_3 : Ref sig .tc := ⟨.hbm, 45, rfl⟩
abbrev main_v39 : Ref sig .tc := ⟨.hbm, 46, rfl⟩
abbrev main_v40 : Ref sig .tc := ⟨.hbm, 47, rfl⟩
abbrev main_cst_4 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_5 : Ref sig .tc := ⟨.hbm, 76, rfl⟩
abbrev main_v68 : Ref sig .tc := ⟨.hbm, 77, rfl⟩
abbrev main_v69 : Ref sig .tc := ⟨.hbm, 78, rfl⟩
abbrev main_cst_6 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_cst_7 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_cst_8 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_9 : Ref sig .tc := ⟨.hbm, 104, rfl⟩
abbrev main_call0_v0 : Ref sig .tc := ⟨.hbm, 105, rfl⟩
abbrev main_call0_v1 : Ref sig .tc := ⟨.hbm, 106, rfl⟩
abbrev main_call0_v2 : Ref sig .tc := ⟨.hbm, 107, rfl⟩
abbrev main_v92 : Ref sig .tc := ⟨.hbm, 108, rfl⟩
abbrev main_v93 : Ref sig .tc := ⟨.hbm, 109, rfl⟩
abbrev main_cst_10 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_11 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_12 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_13 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_cst_14 : Ref sig .tc := ⟨.hbm, 140, rfl⟩
abbrev main_v120 : Ref sig .tc := ⟨.hbm, 141, rfl⟩
abbrev main_cst_15 : Ref sig .tc := ⟨.hbm, 142, rfl⟩
abbrev main_v121 : Ref sig .tc := ⟨.hbm, 143, rfl⟩
abbrev main_c : Ref sig .tc := ⟨.hbm, 144, rfl⟩
abbrev main_v122_0 : Ref sig .tc := ⟨.hbm, 145, rfl⟩
abbrev main_v122_1 : Ref sig .tc := ⟨.hbm, 146, rfl⟩
abbrev main_v122_2 : Ref sig .tc := ⟨.hbm, 147, rfl⟩
abbrev main_v122_3 : Ref sig .tc := ⟨.hbm, 148, rfl⟩
abbrev main_v122_4 : Ref sig .tc := ⟨.hbm, 149, rfl⟩
abbrev main_v122_5 : Ref sig .tc := ⟨.hbm, 150, rfl⟩
abbrev main_v122_6 : Ref sig .tc := ⟨.hbm, 151, rfl⟩
abbrev main_v122_7 : Ref sig .tc := ⟨.hbm, 152, rfl⟩
abbrev main_v122_8 : Ref sig .tc := ⟨.hbm, 153, rfl⟩
abbrev main_v122_9 : Ref sig .tc := ⟨.hbm, 154, rfl⟩
abbrev main_while0c_c_28 : Ref sig .tc := ⟨.hbm, 155, rfl⟩
abbrev main_while0c_v142 : Ref sig .tc := ⟨.hbm, 156, rfl⟩
abbrev main_while0b_call1_c : Ref sig .tc := ⟨.hbm, 157, rfl⟩
abbrev main_while0b_call1_c_0 : Ref sig .tc := ⟨.hbm, 158, rfl⟩
abbrev main_while0b_call1_c_1 : Ref sig .tc := ⟨.hbm, 159, rfl⟩
abbrev main_while0b_call1_c_2 : Ref sig .tc := ⟨.hbm, 160, rfl⟩
abbrev main_while0b_call1_v0 : Ref sig .tc := ⟨.hbm, 161, rfl⟩
abbrev main_while0b_v142 : Ref sig .tc := ⟨.hbm, 162, rfl⟩
abbrev main_while0b_call2_c : Ref sig .tc := ⟨.hbm, 163, rfl⟩
abbrev main_while0b_call2_c_0 : Ref sig .tc := ⟨.hbm, 164, rfl⟩
abbrev main_while0b_call2_c_1 : Ref sig .tc := ⟨.hbm, 165, rfl⟩
abbrev main_while0b_call2_c_2 : Ref sig .tc := ⟨.hbm, 166, rfl⟩
abbrev main_while0b_call2_v0 : Ref sig .tc := ⟨.hbm, 167, rfl⟩
abbrev main_while0b_v143 : Ref sig .tc := ⟨.hbm, 168, rfl⟩
abbrev main_while0b_call3_c : Ref sig .tc := ⟨.hbm, 169, rfl⟩
abbrev main_while0b_call3_c_0 : Ref sig .tc := ⟨.hbm, 170, rfl⟩
abbrev main_while0b_call3_c_1 : Ref sig .tc := ⟨.hbm, 171, rfl⟩
abbrev main_while0b_call3_c_2 : Ref sig .tc := ⟨.hbm, 172, rfl⟩
abbrev main_while0b_call3_v0 : Ref sig .tc := ⟨.hbm, 173, rfl⟩
abbrev main_while0b_v144 : Ref sig .tc := ⟨.hbm, 174, rfl⟩
abbrev main_while0b_v145 : Ref sig .tc := ⟨.hbm, 175, rfl⟩
abbrev main_while0b_v146 : Ref sig .tc := ⟨.hbm, 176, rfl⟩
abbrev main_while0b_v147 : Ref sig .tc := ⟨.hbm, 177, rfl⟩
abbrev main_while0b_v148 : Ref sig .tc := ⟨.hbm, 178, rfl⟩
abbrev main_while0b_v149 : Ref sig .tc := ⟨.hbm, 179, rfl⟩
abbrev main_while0b_v150 : Ref sig .tc := ⟨.hbm, 180, rfl⟩
abbrev main_while0b_v151 : Ref sig .tc := ⟨.hbm, 181, rfl⟩
abbrev main_while0b_v152 : Ref sig .tc := ⟨.hbm, 182, rfl⟩
abbrev main_while0b_v153 : Ref sig .tc := ⟨.hbm, 183, rfl⟩
abbrev main_while0b_v154 : Ref sig .tc := ⟨.hbm, 184, rfl⟩
abbrev main_while0b_v155 : Ref sig .tc := ⟨.hbm, 185, rfl⟩
abbrev main_while0b_v156 : Ref sig .tc := ⟨.hbm, 186, rfl⟩
abbrev main_while0b_v157 : Ref sig .tc := ⟨.hbm, 187, rfl⟩
abbrev main_while0b_v158 : Ref sig .tc := ⟨.hbm, 188, rfl⟩
abbrev main_while0b_v159 : Ref sig .tc := ⟨.hbm, 189, rfl⟩
abbrev main_while0b_v160 : Ref sig .tc := ⟨.hbm, 190, rfl⟩
abbrev main_while0b_v161 : Ref sig .tc := ⟨.hbm, 191, rfl⟩
abbrev main_while0b_v162 : Ref sig .tc := ⟨.hbm, 192, rfl⟩
abbrev main_while0b_call4_v0 : Ref sig .tc := ⟨.hbm, 193, rfl⟩
abbrev main_while0b_call4_c : Ref sig .tc := ⟨.hbm, 194, rfl⟩
abbrev main_while0b_call4_c_0 : Ref sig .tc := ⟨.hbm, 195, rfl⟩
abbrev main_while0b_call4_c_1 : Ref sig .tc := ⟨.hbm, 196, rfl⟩
abbrev main_while0b_call4_c_2 : Ref sig .tc := ⟨.hbm, 197, rfl⟩
abbrev main_while0b_v163 : Ref sig .tc := ⟨.hbm, 198, rfl⟩
abbrev main_while0b_c_28 : Ref sig .tc := ⟨.hbm, 199, rfl⟩
abbrev main_while0b_v164 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_cst_16 : Ref sig .tc := ⟨.hbm, 204, rfl⟩
abbrev main_v126 : Ref sig .tc := ⟨.hbm, 205, rfl⟩
abbrev main_v127 : Ref sig .tc := ⟨.hbm, 206, rfl⟩
abbrev main_cst_17 : Ref sig .tc := ⟨.hbm, 207, rfl⟩
abbrev main_v128 : Ref sig .tc := ⟨.hbm, 208, rfl⟩
abbrev main_v129 : Ref sig .tc := ⟨.hbm, 209, rfl⟩
abbrev main_cst_18 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_call5_v0 : Ref sig .tc := ⟨.hbm, 219, rfl⟩
abbrev main_call5_v1 : Ref sig .tc := ⟨.hbm, 220, rfl⟩
abbrev main_call5_cst : Ref sig .tc := ⟨.hbm, 221, rfl⟩
abbrev main_call5_v2 : Ref sig .tc := ⟨.hbm, 222, rfl⟩
abbrev main_call5_v3 : Ref sig .tc := ⟨.hbm, 223, rfl⟩
abbrev main_call5_cst_0 : Ref sig .tc := ⟨.hbm, 224, rfl⟩
abbrev main_call5_v4 : Ref sig .tc := ⟨.hbm, 225, rfl⟩
abbrev main_call5_v5 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩

abbrev nD : Nat := 1
abbrev τ : Topo := Topo.v7x

variable {F : FTy → Type} [FloatOps F]

abbrev main_while0_count : Scf.Loop 32 := ⟨0#32, 32#32, 1#32⟩
-- ==== KernelIn.lean ====
abbrev S8192x4096 : Shape := ⟨2, ![8192, 4096]⟩
abbrev S1x4096x21840 : Shape := ⟨3, ![1, 4096, 21840]⟩
abbrev S4096x21840 : Shape := ⟨2, ![4096, 21840]⟩
abbrev S8192x21840 : Shape := ⟨2, ![8192, 21840]⟩
abbrev S512x4096 : Shape := ⟨2, ![512, 4096]⟩
abbrev S4096x768 : Shape := ⟨2, ![4096, 768]⟩
abbrev S512x768 : Shape := ⟨2, ![512, 768]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x21840, .f32⟩
  | .hbm, ⟨2, _⟩ => ⟨S4096x21840, .f32⟩
  | .hbm, ⟨3, _⟩ => ⟨S8192x21840, .f32⟩
  | .local _ .vmem, ⟨0, _⟩ => ⟨S512x4096, .bf16⟩
  | .local _ .vmem, ⟨1, _⟩ => ⟨S512x4096, .bf16⟩
  | .local _ .vmem, ⟨2, _⟩ => ⟨S4096x768, .f32⟩
  | .local _ .vmem, ⟨3, _⟩ => ⟨S4096x768, .f32⟩
  | .local _ .vmem, ⟨4, _⟩ => ⟨S512x768, .f32⟩
  | .local _ .vmem, ⟨5, _⟩ => ⟨S512x768, .f32⟩
  | .local _ .vmem, ⟨6, _⟩ => ⟨S4096x768, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![29, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S8192x4096 : Shape := ⟨2, ![8192, 4096]⟩
abbrev S1x4096x21840 : Shape := ⟨3, ![1, 4096, 21840]⟩
abbrev S4096x21840 : Shape := ⟨2, ![4096, 21840]⟩
abbrev S8192x21840 : Shape := ⟨2, ![8192, 21840]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x21840, .f32⟩
  | .hbm, ⟨2, _⟩ => ⟨S8192x4096, .f32⟩
  | .hbm, ⟨3, _⟩ => ⟨S4096x21840, .f32⟩
  | .hbm, ⟨4, _⟩ => ⟨S8192x21840, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelOut.lean ====
abbrev S8192x4096 : Shape := ⟨2, ![8192, 4096]⟩
abbrev S1x4096x4096 : Shape := ⟨3, ![1, 4096, 4096]⟩
abbrev S4096x4096 : Shape := ⟨2, ![4096, 4096]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelQuery.lean ====
abbrev S8192x4096 : Shape := ⟨2, ![8192, 4096]⟩
abbrev S1x4096x2048 : Shape := ⟨3, ![1, 4096, 2048]⟩
abbrev S4096x2048 : Shape := ⟨2, ![4096, 2048]⟩
abbrev S8192x2048 : Shape := ⟨2, ![8192, 2048]⟩
abbrev S512x4096 : Shape := ⟨2, ![512, 4096]⟩
abbrev S4096x512 : Shape := ⟨2, ![4096, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S4096x2048, .f32⟩
  | .hbm, ⟨3, _⟩ => ⟨S8192x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .f32⟩
  | .local _ .vmem, ⟨3, _⟩ => ⟨S4096x512, .f32⟩
  | .local _ .vmem, ⟨4, _⟩ => ⟨S512x512, .f32⟩
  | .local _ .vmem, ⟨5, _⟩ => ⟨S512x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQueryIdeal.lean ====
abbrev S8192x4096 : Shape := ⟨2, ![8192, 4096]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMerge.lean ====
abbrev S8192x21840 : Shape := ⟨2, ![8192, 21840]⟩
abbrev S8192x2048 : Shape := ⟨2, ![8192, 2048]⟩
abbrev S8192x1024 : Shape := ⟨2, ![8192, 1024]⟩
abbrev S1x2048x4096 : Shape := ⟨3, ![1, 2048, 4096]⟩
abbrev S1x1024x4096 : Shape := ⟨3, ![1, 1024, 4096]⟩
abbrev S2048x4096 : Shape := ⟨2, ![2048, 4096]⟩
abbrev S1024x4096 : Shape := ⟨2, ![1024, 4096]⟩
abbrev S8192x4096 : Shape := ⟨2, ![8192, 4096]⟩
abbrev S1024x2048 : Shape := ⟨2, ![1024, 2048]⟩
abbrev S1024x1024 : Shape := ⟨2, ![1024, 1024]⟩
abbrev S2048x256 : Shape := ⟨2, ![2048, 256]⟩
abbrev S1024x256 : Shape := ⟨2, ![1024, 256]⟩
abbrev S1024x128 : Shape := ⟨2, ![1024, 128]⟩
abbrev S1024x384 : Shape := ⟨2, ![1024, 384]⟩

abbrev nBuf : Space → Nat
  | .hbm => 11
  | .vmem => 26
  | .smem => 0
  | _ => 0

abbrev bufTy : (tb : Table) → Fin (tcTables nBuf tb) → BufTy
  | .hbm, ⟨0, _⟩ => ⟨S8192x21840, .f32⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S1x2048x4096, .f32⟩
  | .hbm, ⟨5, _⟩ => ⟨S1x1024x4096, .f32⟩
  | .hbm, ⟨6, _⟩ => ⟨S1x1024x4096, .f32⟩
  | .hbm, ⟨7, _⟩ => ⟨S2048x4096, .f32⟩
  | .hbm, ⟨8, _⟩ => ⟨S1024x4096, .f32⟩
  | .hbm, ⟨9, _⟩ => ⟨S1024x4096, .f32⟩
  | .hbm, ⟨10, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2048x256, .f32⟩
  | .local _ .vmem, ⟨7, _⟩ => ⟨S2048x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x128, .f32⟩
  | .local _ .vmem, ⟨15, _⟩ => ⟨S1024x128, .f32⟩
  | .local _ .vmem, ⟨16, _⟩ => ⟨S1024x256, .f32⟩
  | .local _ .vmem, ⟨17, _⟩ => ⟨S1024x256, .f32⟩
  | .local _ .vmem, ⟨18, _⟩ => ⟨S1024x128, .f32⟩
  | .local _ .vmem, ⟨19, _⟩ => ⟨S1024x128, .f32⟩
  | .local _ .vmem, ⟨20, _⟩ => ⟨S1024x256, .f32⟩
  | .local _ .vmem, ⟨21, _⟩ => ⟨S1024x256, .f32⟩
  | .local _ .vmem, ⟨22, _⟩ => ⟨S1024x128, .f32⟩
  | .local _ .vmem, ⟨23, _⟩ => ⟨S1024x128, .f32⟩
  | .local _ .vmem, ⟨24, _⟩ => ⟨S1024x256, .bf16⟩
  | .local _ .vmem, ⟨25, _⟩ => ⟨S1024x256, .bf16⟩
  | _, _ => ⟨S8192x21840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c37_i32 : BitVec 32 := 37#32
  let v0 : BitVec 32 := Scalar.addi c37_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c74_i32 : BitVec 32 := 74#32
  let v2 : BitVec 32 := Scalar.addi c74_i32 v1
  let c0_i32 : BitVec 32 := 0#32
  ![arg0.toNat, v2.toNat]

def cc0_transform_8 (i : grid0.Coords) : Fin 2 → Nat :=
  let arg0 : BitVec 32 := BitVec.ofNat 32 (i 0).val
  let arg1 : BitVec 32 := BitVec.ofNat 32 (i 1).val
  let c53_i32 : BitVec 32 := 53#32
  let v0 : BitVec 32 := Scalar.addi c53_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c106_i32 : BitVec 32 := 106#32
  let v2 : BitVec 32 := Scalar.addi c106_i32 v1
  let c0_i32 : BitVec 32 := 0#32
  ![arg0.toNat, v2.toNat]

def cc0_transform_10 (i : grid0.Coords) : Fin 2 → Nat :=
  let arg0 : BitVec 32 := BitVec.ofNat 32 (i 0).val
  let arg1 : BitVec 32 := BitVec.ofNat 32 (i 1).val
  let c69_i32 : BitVec 32 := 69#32
  let v0 : BitVec 32 := Scalar.addi c69_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c138_i32 : BitVec 32 := 138#32
  let v2 : BitVec 32 := Scalar.addi c138_i32 v1
  let c0_i32 : BitVec 32 := 0#32
  ![arg0.toNat, v2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceMergeIdeal.lean ====
abbrev S8192x21840 : Shape := ⟨2, ![8192, 21840]⟩
abbrev S8192x2048 : Shape := ⟨2, ![8192, 2048]⟩
abbrev S8192x1024 : Shape := ⟨2, ![8192, 1024]⟩
abbrev S1x2048x4096 : Shape := ⟨3, ![1, 2048, 4096]⟩
abbrev S1x1024x4096 : Shape := ⟨3, ![1, 1024, 4096]⟩
abbrev S8192x12288 : Shape := ⟨2, ![8192, 12288]⟩
abbrev S8192x3x4096 : Shape := ⟨3, ![8192, 3, 4096]⟩
abbrev S_ : Shape := ⟨0, ![]⟩
abbrev S8192x1x4096 : Shape := ⟨3, ![8192, 1, 4096]⟩
abbrev S8192x4096 : Shape := ⟨2, ![8192, 4096]⟩
abbrev S2048x4096 : Shape := ⟨2, ![2048, 4096]⟩
abbrev S1024x4096 : Shape := ⟨2, ![1024, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x21840, .f32⟩
  | .hbm, ⟨1, _⟩ => ⟨S8192x2048, .bf16⟩
  | .hbm, ⟨2, _⟩ => ⟨S8192x1024, .bf16⟩
  | .hbm, ⟨3, _⟩ => ⟨S8192x1024, .bf16⟩
  | .hbm, ⟨4, _⟩ => ⟨S1x2048x4096, .f32⟩
  | .hbm, ⟨5, _⟩ => ⟨S1x1024x4096, .f32⟩
  | .hbm, ⟨6, _⟩ => ⟨S1x1024x4096, .f32⟩
  | .hbm, ⟨7, _⟩ => ⟨S8192x12288, .f32⟩
  | .hbm, ⟨8, _⟩ => ⟨S8192x3x4096, .f32⟩
  | .hbm, ⟨9, _⟩ => ⟨S8192x3x4096, .f32⟩
  | .hbm, ⟨10, _⟩ => ⟨S8192x3x4096, .f32⟩
  | .hbm, ⟨11, _⟩ => ⟨S_, .f32⟩
  | .hbm, ⟨12, _⟩ => ⟨S8192x3x4096, .f32⟩
  | .hbm, ⟨13, _⟩ => ⟨S8192x3x4096, .f32⟩
  | .hbm, ⟨14, _⟩ => ⟨S_, .f32⟩
  | .hbm, ⟨15, _⟩ => ⟨S8192x3x4096, .f32⟩
  | .hbm, ⟨16, _⟩ => ⟨S8192x3x4096, .f32⟩
  | .hbm, ⟨17, _⟩ => ⟨S8192x1x4096, .f32⟩
  | .hbm, ⟨18, _⟩ => ⟨S8192x4096, .f32⟩
  | .hbm, ⟨19, _⟩ => ⟨S8192x2048, .f32⟩
  | .hbm, ⟨20, _⟩ => ⟨S2048x4096, .f32⟩
  | .hbm, ⟨21, _⟩ => ⟨S8192x4096, .f32⟩
  | .hbm, ⟨22, _⟩ => ⟨S8192x4096, .f32⟩
  | .hbm, ⟨23, _⟩ => ⟨S8192x1x4096, .f32⟩
  | .hbm, ⟨24, _⟩ => ⟨S8192x4096, .f32⟩
  | .hbm, ⟨25, _⟩ => ⟨S8192x1024, .f32⟩
  | .hbm, ⟨26, _⟩ => ⟨S1024x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x1x4096, .f32⟩
  | .hbm, ⟨31, _⟩ => ⟨S8192x4096, .f32⟩
  | .hbm, ⟨32, _⟩ => ⟨S8192x1024, .f32⟩
  | .hbm, ⟨33, _⟩ => ⟨S1024x4096, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x21840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== KernelKv.lean ====
abbrev S512x4096 : Shape := ⟨2, ![512, 4096]⟩
abbrev S1x4096x2048 : Shape := ⟨3, ![1, 4096, 2048]⟩
abbrev S4096x2048 : Shape := ⟨2, ![4096, 2048]⟩
abbrev S512x2048 : Shape := ⟨2, ![512, 2048]⟩
abbrev S4096x512 : Shape := ⟨2, ![4096, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S512x4096, .bf16⟩
  | .hbm, ⟨1, _⟩ => ⟨S1x4096x2048, .f32⟩
  | .hbm, ⟨2, _⟩ => ⟨S4096x2048, .f32⟩
  | .hbm, ⟨3, _⟩ => ⟨S512x2048, .f32⟩
  | .local _ .vmem, ⟨0, _⟩ => ⟨S512x4096, .bf16⟩
  | .local _ .vmem, ⟨1, _⟩ => ⟨S4096x512, .f32⟩
  | .local _ .vmem, ⟨2, _⟩ => ⟨S4096x512, .f32⟩
  | .local _ .vmem, ⟨3, _⟩ => ⟨S512x512, .f32⟩
  | .local _ .vmem, ⟨4, _⟩ => ⟨S512x512, .f32⟩
  | .local _ .vmem, ⟨5, _⟩ => ⟨S4096x512, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceKvIdeal.lean ====
abbrev S512x4096 : Shape := ⟨2, ![512, 4096]⟩
abbrev S1x4096x2048 : Shape := ⟨3, ![1, 4096, 2048]⟩
abbrev S4096x2048 : Shape := ⟨2, ![4096, 2048]⟩
abbrev S512x2048 : Shape := ⟨2, ![512, 2048]⟩

abbrev nBuf : Space → Nat
  | .hbm => 5
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S1x4096x2048, .f32⟩
  | .hbm, ⟨2, _⟩ => ⟨S512x4096, .f32⟩
  | .hbm, ⟨3, _⟩ => ⟨S4096x2048, .f32⟩
  | .hbm, ⟨4, _⟩ => ⟨S512x2048, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMem.lean ====
abbrev S8192x21840 : Shape := ⟨2, ![8192, 21840]⟩
abbrev S512x2048 : Shape := ⟨2, ![512, 2048]⟩
abbrev S1x256 : Shape := ⟨2, ![1, 256]⟩
abbrev S256 : Shape := ⟨1, ![256]⟩
abbrev S8192x1024 : Shape := ⟨2, ![8192, 1024]⟩
abbrev S512x384 : Shape := ⟨2, ![512, 384]⟩
abbrev S256x2048 : Shape := ⟨2, ![256, 2048]⟩
abbrev S512x1024 : Shape := ⟨2, ![512, 1024]⟩
abbrev S512x1152 : Shape := ⟨2, ![512, 1152]⟩
abbrev S512x256 : Shape := ⟨2, ![512, 256]⟩
abbrev S512 : Shape := ⟨1, ![512]⟩
abbrev S512x1 : Shape := ⟨2, ![512, 1]⟩
abbrev S256x256 : Shape := ⟨2, ![256, 256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x21840, .f32⟩
  | .hbm, ⟨1, _⟩ => ⟨S512x2048, .f32⟩
  | .hbm, ⟨2, _⟩ => ⟨S1x256, .f32⟩
  | .hbm, ⟨3, _⟩ => ⟨S1x256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S8192x1024, .bf16⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S256x2048, .f32⟩
  | .local _ .vmem, ⟨7, _⟩ => ⟨S256x2048, .f32⟩
  | .local _ .vmem, ⟨8, _⟩ => ⟨S1x256, .f32⟩
  | .local _ .vmem, ⟨9, _⟩ => ⟨S1x256, .f32⟩
  | .local _ .vmem, ⟨10, _⟩ => ⟨S512x1024, .bf16⟩
  | .local _ .vmem, ⟨11, _⟩ => ⟨S512x1024, .bf16⟩
  | _, _ => ⟨S8192x21840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c22_i32 : BitVec 32 := 22#32
  let c0_i32 : BitVec 32 := 0#32
  ![v1.toNat, c22_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c23_i32 : BitVec 32 := 23#32
  let c0_i32 : BitVec 32 := 0#32
  ![v1.toNat, c23_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c24_i32 : BitVec 32 := 24#32
  let c0_i32 : BitVec 32 := 0#32
  ![v1.toNat, c24_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMemIdeal.lean ====
abbrev S8192x21840 : Shape := ⟨2, ![8192, 21840]⟩
abbrev S512x2048 : Shape := ⟨2, ![512, 2048]⟩
abbrev S1x256 : Shape := ⟨2, ![1, 256]⟩
abbrev S8192x1024 : Shape := ⟨2, ![8192, 1024]⟩
abbrev S2x4096x4x256 : Shape := ⟨4, ![2, 4096, 4, 256]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S256 : Shape := ⟨1, ![256]⟩
abbrev S_ : Shape := ⟨0, ![]⟩
abbrev S2x256x4 : Shape := ⟨3, ![2, 256, 4]⟩
abbrev S2x256x4x1 : Shape := ⟨4, ![2, 256, 4, 1]⟩
abbrev S1x1x1x256 : Shape := ⟨4, ![1, 1, 1, 256]⟩
abbrev S2x4096x4 : Shape := ⟨3, ![2, 4096, 4]⟩
abbrev S2x4096x4x1 : Shape := ⟨4, ![2, 4096, 4, 1]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x256x4096 : Shape := ⟨4, ![2, 4, 256, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8192x21840, .f32⟩
  | .hbm, ⟨1, _⟩ => ⟨S512x2048, .f32⟩
  | .hbm, ⟨2, _⟩ => ⟨S1x256, .f32⟩
  | .hbm, ⟨3, _⟩ => ⟨S1x256, .f32⟩
  | .hbm, ⟨4, _⟩ => ⟨S8192x1024, .f32⟩
  | .hbm, ⟨5, _⟩ => ⟨S2x4096x4x256, .f32⟩
  | .hbm, ⟨6, _⟩ => ⟨S2x256x2048, .f32⟩
  | .hbm, ⟨7, _⟩ => ⟨S2x256x1024, .f32⟩
  | .hbm, ⟨8, _⟩ => ⟨S2x256x1024, .f32⟩
  | .hbm, ⟨9, _⟩ => ⟨S2x256x4x256, .f32⟩
  | .hbm, ⟨10, _⟩ => ⟨S256, .f32⟩
  | .hbm, ⟨11, _⟩ => ⟨S2x256x4x256, .f32⟩
  | .hbm, ⟨12, _⟩ => ⟨S_, .f32⟩
  | .hbm, ⟨13, _⟩ => ⟨S2x256x4, .f32⟩
  | .hbm, ⟨14, _⟩ => ⟨S2x256x4x1, .f32⟩
  | .hbm, ⟨15, _⟩ => ⟨S_, .f32⟩
  | .hbm, ⟨16, _⟩ => ⟨S2x256x4x1, .f32⟩
  | .hbm, ⟨17, _⟩ => ⟨S2x256x4x1, .f32⟩
  | .hbm, ⟨18, _⟩ => ⟨S_, .f32⟩
  | .hbm, ⟨19, _⟩ => ⟨S2x256x4x1, .f32⟩
  | .hbm, ⟨20, _⟩ => ⟨S2x256x4x1, .f32⟩
  | .hbm, ⟨21, _⟩ => ⟨S2x256x4x1, .f32⟩
  | .hbm, ⟨22, _⟩ => ⟨S2x256x4x256, .f32⟩
  | .hbm, ⟨23, _⟩ => ⟨S2x256x4x256, .f32⟩
  | .hbm, ⟨24, _⟩ => ⟨S1x1x1x256, .f32⟩
  | .hbm, ⟨25, _⟩ => ⟨S2x256x4x256, .f32⟩
  | .hbm, ⟨26, _⟩ => ⟨S2x256x4x256, .f32⟩
  | .hbm, ⟨27, _⟩ => ⟨S2x256x4x256, .f32⟩
  | .hbm, ⟨28, _⟩ => ⟨S256, .f32⟩
  | .hbm, ⟨29, _⟩ => ⟨S2x4096x4x256, .f32⟩
  | .hbm, ⟨30, _⟩ => ⟨S_, .f32⟩
  | .hbm, ⟨31, _⟩ => ⟨S2x4096x4, .f32⟩
  | .hbm, ⟨32, _⟩ => ⟨S2x4096x4x1, .f32⟩
  | .hbm, ⟨33, _⟩ => ⟨S_, .f32⟩
  | .hbm, ⟨34, _⟩ => ⟨S2x4096x4x1, .f32⟩
  | .hbm, ⟨35, _⟩ => ⟨S2x4096x4x1, .f32⟩
  | .hbm, ⟨36, _⟩ => ⟨S_, .f32⟩
  | .hbm, ⟨37, _⟩ => ⟨S2x4096x4x1, .f32⟩
  | .hbm, ⟨38, _⟩ => ⟨S2x4096x4x1, .f32⟩
  | .hbm, ⟨39, _⟩ => ⟨S2x4096x4x1, .f32⟩
  | .hbm, ⟨40, _⟩ => ⟨S2x4096x4x256, .f32⟩
  | .hbm, ⟨41, _⟩ => ⟨S2x4096x4x256, .f32⟩
  | .hbm, ⟨42, _⟩ => ⟨S1x1x1x256, .f32⟩
  | .hbm, ⟨43, _⟩ => ⟨S2x4096x4x256, .f32⟩
  | .hbm, ⟨44, _⟩ => ⟨S2x4096x4x256, .f32⟩
  | .hbm, ⟨45, _⟩ => ⟨S2x4x4096x256, .f32⟩
  | .hbm, ⟨46, _⟩ => ⟨S_, .f32⟩
  | .hbm, ⟨47, _⟩ => ⟨S2x4x4096x256, .f32⟩
  | .hbm, ⟨48, _⟩ => ⟨S2x4x4096x256, .f32⟩
  | .hbm, ⟨49, _⟩ => ⟨S_, .f32⟩
  | .hbm, ⟨50, _⟩ => ⟨S2x4x4096, .f32⟩
  | .hbm, ⟨51, _⟩ => ⟨S_, .f32⟩
  | .hbm, ⟨52, _⟩ => ⟨S2x4x4096, .f32⟩
  | .hbm, ⟨53, _⟩ => ⟨S2x4x4096, .f32⟩
  | .hbm, ⟨54, _⟩ => ⟨S2x4x4096x1, .f32⟩
  | .hbm, ⟨55, _⟩ => ⟨S2x4x4096x256, .f32⟩
  | .hbm, ⟨56, _⟩ => ⟨S2x4x4096x256, .f32⟩
  | .hbm, ⟨57, _⟩ => ⟨S2x4x4096x256, .f32⟩
  | .hbm, ⟨58, _⟩ => ⟨S_, .f32⟩
  | .hbm, ⟨59, _⟩ => ⟨S2x4x4096, .f32⟩
  | .hbm, ⟨60, _⟩ => ⟨S2x4x4096x1, .f32⟩
  | .hbm, ⟨61, _⟩ => ⟨S2x4x4096x256, .f32⟩
  | .hbm, ⟨62, _⟩ => ⟨S2x4x4096x256, .f32⟩
  | .hbm, ⟨63, _⟩ => ⟨S2x4x256x4096, .f32⟩
  | .hbm, ⟨64, _⟩ => ⟨S2x4096x4x256, .f32⟩
  | .hbm, ⟨65, _⟩ => ⟨S8192x1024, .f32⟩
  | .hbm, ⟨66, _⟩ => ⟨S8192x1024, .bf16⟩
  | _, _ => ⟨S8192x21840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== KernelNorm.lean ====
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelNormIdeal.lean ====
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelMnorm.lean ====
abbrev S512x4096 : Shape := ⟨2, ![512, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S512x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceMnormIdeal.lean ====
abbrev S512x4096 : Shape := ⟨2, ![512, 4096]⟩
abbrev S1x4096 : Shape := ⟨2, ![1, 4096]⟩
abbrev S4096 : Shape := ⟨1, ![4096]⟩
abbrev S_ : Shape := ⟨0, ![]⟩
abbrev S512 : Shape := ⟨1, ![512]⟩
abbrev S512x1 : Shape := ⟨2, ![512, 1]⟩

abbrev nBuf : Space → Nat
  | .hbm => 20
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | .hbm, ⟨19, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelPrep.lean ====
abbrev S8192x21840 : Shape := ⟨2, ![8192, 21840]⟩
abbrev S1x128 : Shape := ⟨2, ![1, 128]⟩
abbrev S128 : Shape := ⟨1, ![128]⟩
abbrev S8192x128 : Shape := ⟨2, ![8192, 128]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x21840, .f32⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S8192x128, .bf16⟩
  | .hbm, ⟨5, _⟩ => ⟨S8192x128, .bf16⟩
  | .hbm, ⟨6, _⟩ => ⟨S8192x128, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | _, _ => ⟨S8192x21840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c56_i32 : BitVec 32 := 56#32
  let c0_i32 : BitVec 32 := 0#32
  ![arg0.toNat, c56_i32.toNat]

def cc0_transform_1 (i : grid0.Coords) : Fin 2 → Nat :=
  let arg0 : BitVec 32 := BitVec.ofNat 32 (i 0).val
  let c57_i32 : BitVec 32 := 57#32
  let c0_i32 : BitVec 32 := 0#32
  ![arg0.toNat, c57_i32.toNat]

def cc0_transform_2 (i : grid0.Coords) : Fin 2 → Nat :=
  let arg0 : BitVec 32 := BitVec.ofNat 32 (i 0).val
  let c66_i32 : BitVec 32 := 66#32
  let c0_i32 : BitVec 32 := 0#32
  ![arg0.toNat, c66_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferencePrepIdeal.lean ====
abbrev S8192x21840 : Shape := ⟨2, ![8192, 21840]⟩
abbrev S1x128 : Shape := ⟨2, ![1, 128]⟩
abbrev S8192x128 : Shape := ⟨2, ![8192, 128]⟩
abbrev S8192x64 : Shape := ⟨2, ![8192, 64]⟩
abbrev S128 : Shape := ⟨1, ![128]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x21840, .f32⟩
  | .hbm, ⟨1, _⟩ => ⟨S1x128, .f32⟩
  | .hbm, ⟨2, _⟩ => ⟨S8192x128, .f32⟩
  | .hbm, ⟨3, _⟩ => ⟨S8192x128, .f32⟩
  | .hbm, ⟨4, _⟩ => ⟨S8192x64, .f32⟩
  | .hbm, ⟨5, _⟩ => ⟨S128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x128, .f32⟩
  | .hbm, ⟨18, _⟩ => ⟨S8192x128, .f32⟩
  | .hbm, ⟨19, _⟩ => ⟨S1x128, .f32⟩
  | .hbm, ⟨20, _⟩ => ⟨S8192x128, .f32⟩
  | .hbm, ⟨21, _⟩ => ⟨S8192x128, .f32⟩
  | .hbm, ⟨22, _⟩ => ⟨S8192x128, .bf16⟩
  | .hbm, ⟨23, _⟩ => ⟨S8192x128, .bf16⟩
  | .hbm, ⟨24, _⟩ => ⟨S8192x128, .f32⟩
  | .hbm, ⟨25, _⟩ => ⟨S8192x128, .bf16⟩
  | _, _ => ⟨S8192x21840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== KernelScores.lean ====
abbrev S8192x2048 : Shape := ⟨2, ![8192, 2048]⟩
abbrev S1x8x2x128x128 : Shape := ⟨5, ![1, 8, 2, 128, 128]⟩
abbrev S8x2x128x128 : Shape := ⟨4, ![8, 2, 128, 128]⟩
abbrev S16x128x128 : Shape := ⟨3, ![16, 128, 128]⟩
abbrev S8x128x8192 : Shape := ⟨3, ![8, 128, 8192]⟩
abbrev S8x8x8192 : Shape := ⟨3, ![8, 8, 8192]⟩
abbrev S256x256 : Shape := ⟨2, ![256, 256]⟩
abbrev S2x128x128 : Shape := ⟨3, ![2, 128, 128]⟩
abbrev S1x128x256 : Shape := ⟨3, ![1, 128, 256]⟩
abbrev S1x8x256 : Shape := ⟨3, ![1, 8, 256]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S256 : Shape := ⟨1, ![256]⟩
abbrev S1x256 : Shape := ⟨2, ![1, 256]⟩
abbrev S16x256 : Shape := ⟨2, ![16, 256]⟩
abbrev S8x256 : Shape := ⟨2, ![8, 256]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x8x2x128x128, .f32⟩
  | .hbm, ⟨2, _⟩ => ⟨S8x2x128x128, .f32⟩
  | .hbm, ⟨3, _⟩ => ⟨S16x128x128, .f32⟩
  | .hbm, ⟨4, _⟩ => ⟨S8x128x8192, .f32⟩
  | .hbm, ⟨5, _⟩ => ⟨S8x128x8192, .f32⟩
  | .hbm, ⟨6, _⟩ => ⟨S8x8x8192, .f32⟩
  | .local _ .vmem, ⟨0, _⟩ => ⟨S256x256, .f32⟩
  | .local _ .vmem, ⟨1, _⟩ => ⟨S256x256, .f32⟩
  | .local _ .vmem, ⟨2, _⟩ => ⟨S2x128x128, .f32⟩
  | .local _ .vmem, ⟨3, _⟩ => ⟨S2x128x128, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x8x256, .f32⟩
  | .local _ .vmem, ⟨9, _⟩ => ⟨S1x8x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceScoresIdeal.lean ====
abbrev S8192x2048 : Shape := ⟨2, ![8192, 2048]⟩
abbrev S1x8x2x128x128 : Shape := ⟨5, ![1, 8, 2, 128, 128]⟩
abbrev S8192x8x2x128 : Shape := ⟨4, ![8192, 8, 2, 128]⟩
abbrev S8x2x128x128 : Shape := ⟨4, ![8, 2, 128, 128]⟩
abbrev S8x2x128x8192 : Shape := ⟨4, ![8, 2, 128, 8192]⟩
abbrev S8192x8x1x128 : Shape := ⟨4, ![8192, 8, 1, 128]⟩
abbrev S8192x8x128 : Shape := ⟨3, ![8192, 8, 128]⟩
abbrev S8x128x8192 : Shape := ⟨3, ![8, 128, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x8x2x128x128, .f32⟩
  | .hbm, ⟨2, _⟩ => ⟨S8192x8x2x128, .f32⟩
  | .hbm, ⟨3, _⟩ => ⟨S8x2x128x128, .f32⟩
  | .hbm, ⟨4, _⟩ => ⟨S8x2x128x8192, .f32⟩
  | .hbm, ⟨5, _⟩ => ⟨S8192x8x2x128, .f32⟩
  | .hbm, ⟨6, _⟩ => ⟨S8192x8x1x128, .f32⟩
  | .hbm, ⟨7, _⟩ => ⟨S8192x8x128, .f32⟩
  | .hbm, ⟨8, _⟩ => ⟨S8x128x8192, .f32⟩
  | .hbm, ⟨9, _⟩ => ⟨S8192x8x1x128, .f32⟩
  | .hbm, ⟨10, _⟩ => ⟨S8192x8x128, .f32⟩
  | .hbm, ⟨11, _⟩ => ⟨S8x128x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Proof.Recurrence.lean ====
module

public import Idealize.ShloMosaic.Lib.Pipeline.ValueKit
public import Idealize.ShloMosaic.Lib.Pointwise

/-! The recurrence of one head, over the extended reals: the state after each chunk, one chunk's mixed rows, the rotation
    of a coordinate pair, and the frequency of a coordinate. -/

@[expose] public section

noncomputable section

namespace Cert.Retention

open Idealize.ShloMosaic

/-- The chunk index of a number of chunks. -/
abbrev chunk (n : ℕ) : Fin 32 := ⟨n % 32, Nat.mod_lt _ (by decide)⟩

/-- The state of a head before chunk `n`: zero, then decayed by `cd` and increased by the chunk's keys and values. -/
def state (K : Fin 32 → Fin 128 → Fin 128 → EReal) (W : Fin 32 → Fin 128 → Fin 256 → EReal)
    (kd : Fin 128 → EReal) (cd : EReal) : ℕ → Fin 128 → Fin 256 → EReal
  | 0 => fun _ _ => 0
  | n + 1 => fun d e => state K W kd cd n d e * cd + ∑ j, K (chunk n) j d * kd j * W (chunk n) j e

/-- One row of a chunk before normalisation: the causal part inside the chunk and the part from the state. -/
def mix (Q K : Fin 128 → Fin 128 → EReal) (W : Fin 128 → Fin 256 → EReal) (idec : Fin 128 → Fin 128 → EReal)
    (qd : Fin 128 → EReal) (S : Fin 128 → Fin 256 → EReal) (i : Fin 128) (e : Fin 256) : EReal :=
  ∑ j, (∑ d, Q i d * K j d) * idec i j * W j e + ∑ d, Q i d * qd i * S d e

/-- The frequency of coordinate `d` of the first half. -/
def freq (d : ℕ) : EReal :=
  Ideal.div 1 (Ideal.pow (Ideal.ofBits .f32 1176256512#32)
    (Ideal.div (FloatOps.sitofp (F := Ideal) .f32 (BitVec.ofNat 32 d)) (Ideal.ofBits .f32 1115684864#32)))

/-- A whole number as a value. -/
abbrev num (n : ℕ) : EReal := FloatOps.sitofp (F := Ideal) .f32 (BitVec.ofNat 32 n)

/-- The logarithm of head `h`'s decay. -/
abbrev logDecay (h : ℕ) : EReal :=
  Ideal.log1p (-Ideal.exp (Ideal.ofBits .f32 1060205080#32 * (Ideal.ofBits .f32 3231711232#32 - num h)))

/-- The decay between two rows of a chunk, 0 above the diagonal. -/
def causal (h i j : ℕ) : EReal :=
  if (0 : EReal) ≤ num i - num j then Ideal.exp (logDecay h * max (num i - num j) 0) else 0

/-- The decay from the chunk's start to row `i`. -/
def queryDecay (h i : ℕ) : EReal := Ideal.exp (logDecay h * (num i + 1))

/-- The decay from row `i` to the chunk's end. -/
def keyDecay (h i : ℕ) : EReal := Ideal.exp (logDecay h * (Ideal.ofBits .f32 1123942400#32 - num i))

/-- The decay over a whole chunk. -/
def chunkDecay (h : ℕ) : EReal := Ideal.exp (logDecay h * Ideal.ofBits .f32 1124073472#32)

/-- A coordinate of a rotated vector: `x` at the angle of each coordinate of the first half. -/
def rot (x : Fin 128 → EReal) (a : ℕ → EReal) (d : Fin 128) : EReal :=
  if h : d.val < 64 then
    x d * Ideal.cos (a d.val) - x ⟨d.val + 64, by omega⟩ * Ideal.sin (a d.val)
  else
    x ⟨d.val - 64, by omega⟩ * Ideal.sin (a (d.val - 64)) + x d * Ideal.cos (a (d.val - 64))

end Cert.Retention

end

end
-- ==== Proof.Point.lean ====
module

public import proofs.«01_k».proof.Proof.Gen.KernelIdeal.Value
public import proofs.«01_k».proof.Proof.Recurrence
public import Idealize.ShloMosaic.Lib.Pipeline.ReadBack

/-! What one grid point of the retention kernel leaves: the next state of every head and the output rows of every head. -/

@[expose] public section

set_option maxRecDepth 16384

noncomputable section

namespace Cert.KernelIdeal.Point

open Cert.KernelIdeal Cert.KernelIdeal.Gen Cert.KernelIdeal.Value Cert.Retention
open Idealize.ShloMosaic Idealize.ShloMosaic.TcCoe Idealize.SL.Sem

/-- A rotated coordinate of head `h`, from a block of queries or keys. -/
def turn (pos : Vec Ideal S128x1 .i32) (f sg : Vec Ideal S1x128 .f32) (X : Vec Ideal S128x1024 .f32)
    (h : Fin 8) (i d : Fin 128) : EReal :=
  X (ix2 i ⟨128 * h.val + d.val, by omega⟩)
      * Ideal.cos (FloatOps.sitofp (F := Ideal) .f32 (pos (ix2 i 0)) * f (ix2 0 d))
    + X (ix2 i ⟨128 * h.val + (d.val + 128 - 64) % 128, by omega⟩)
      * (Ideal.sin (FloatOps.sitofp (F := Ideal) .f32 (pos (ix2 i 0)) * f (ix2 0 d)) * sg (ix2 0 d))

/-- The next state of every head from the state `S` and the point's blocks. -/
def nextState (pos : Vec Ideal S128x1 .i32) (f sg : Vec Ideal S1x128 .f32) (K : Vec Ideal S128x1024 .f32)
    (W : Vec Ideal S128x2048 .f32) (cd : Vec Ideal S8 .f32) (kd : Vec Ideal S8x128x128 .f32)
    (S : Vec Ideal S8x128x256 .f32) : Vec Ideal S8x128x256 .f32 := fun y =>
  S y * cd (ix1 (y 0)) + ∑ j : Fin 128, turn pos f sg K (y 0) j (y 1) * Ideal.ofBits .f32 1035273459#32 * kd (ix3 (y 0) j (y 1))
    * W (ix2 j ⟨256 * (y 0).val + (y 2).val, by
      have h0 : (y 0).val < 8 := (y 0).isLt
      have h2 : (y 2).val < 256 := (y 2).isLt
      omega⟩)

/-- A row of head `h` before normalisation, from the state `S` and the point's blocks. -/
def mixed (pos : Vec Ideal S128x1 .i32) (f sg : Vec Ideal S1x128 .f32) (Q K : Vec Ideal S128x1024 .f32)
    (W : Vec Ideal S128x2048 .f32) (idec qd : Vec Ideal S8x128x128 .f32)
    (S : Vec Ideal S8x128x256 .f32) (h : Fin 8) (i : Fin 128) (e : Fin 256) : EReal :=
  (∑ j : Fin 128, (∑ d : Fin 128, turn pos f sg Q h i d * (turn pos f sg K h j d * Ideal.ofBits .f32 1035273459#32))
      * idec (ix3 h i j) * W (ix2 j ⟨256 * h.val + e.val, by omega⟩))
    + ∑ d : Fin 128, turn pos f sg Q h i d * qd (ix3 h i d) * S (ix3 h d e)

/-- The normalised and gated row from a row before normalisation. -/
def gated (g : EReal) (Y : Fin 256 → EReal) (e : Fin 256) : EReal :=
  Ideal.div g (1 + Ideal.exp (0 - g))
    * (Y e * Ideal.rsqrt (Ideal.div (∑ e, Y e * Y e) (Ideal.ofBits .f32 1132462080#32) + Ideal.ofBits .f32 897988541#32))

/-- The output block of a point from the state `S` and the point's blocks. -/
def outRows (pos : Vec Ideal S128x1 .i32) (f sg : Vec Ideal S1x128 .f32) (Q K : Vec Ideal S128x1024 .f32)
    (W G : Vec Ideal S128x2048 .f32) (idec qd : Vec Ideal S8x128x128 .f32)
    (S : Vec Ideal S8x128x256 .f32) : Vec Ideal S128x2048 .bf16 := fun y =>
  gated (G y) (mixed pos f sg Q K W idec qd S
      ⟨(y 1).val / 256, by have h1 : (y 1).val < 2048 := (y 1).isLt; omega⟩ (y 0))
    ⟨(y 1).val % 256, by omega⟩

/-- Earlier stores are not seen at an index that one of the later stores covers. -/
theorem canon_front {Val : EltTy → Type} {S : Shape} {e : EltTy} [∀ e, Nonempty (Val e)]
    (L' : List (View.Piece Val S e)) : ∀ (L : List (View.Piece Val S e)) (y : S.Idx) (_ : ∃ p ∈ L, y ∈ p.1.set),
      View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl]
      exact (View.canon_cons_emb _ _ _ x).trans (View.canon_cons_emb _ _ _ x).symm
    · rw [List.cons_append, View.canon_cons_of_not_mem _ _ hm, View.canon_cons_of_not_mem _ _ hm]
      refine canon_front L' L y ?_
      obtain ⟨q, hq, hyq⟩ := hy
      rcases List.mem_cons.mp hq with rfl | hq'
      · exact absurd hyq hm
      · exact ⟨q, hq', hyq⟩

/-- An index of the state array from its three coordinates. -/
theorem at_head (y : S8x128x256.Idx) (k : Fin 8) (d : Fin 128) (e : Fin 256) (p0 : (y 0).val = k.val)
    (p1 : (y 1).val = d.val) (p2 : (y 2).val = e.val) : y = ix3 k d e := by
  funext a
  apply Fin.ext
  fin_cases a
  · exact p0
  · exact p1
  · exact p2

/-- An index of the output block from its row, its head and its place within the head. -/
theorem at_row (y : S128x2048.Idx) (k : Fin 8) (i : Fin 128) (e : Fin 256) (p0 : (y 0).val = i.val)
    (p1 : (y 1).val = 256 * k.val + e.val) : y = ix2 i ⟨256 * k.val + e.val, by omega⟩ := by
  funext a
  apply Fin.ext
  fin_cases a
  · exact p0
  · exact p1

/-- The output block read at a head, a row and a place within the head. -/
theorem outRows_head (pos : Vec Ideal S128x1 .i32) (f sg : Vec Ideal S1x128 .f32) (Q K : Vec Ideal S128x1024 .f32)
    (W G : Vec Ideal S128x2048 .f32) (idec qd : Vec Ideal S8x128x128 .f32) (S : Vec Ideal S8x128x256 .f32)
    (k : Fin 8) (i : Fin 128) (e : Fin 256) :
    outRows pos f sg Q K W G idec qd S (ix2 i ⟨256 * k.val + e.val, by omega⟩)
      = gated (G (ix2 i ⟨256 * k.val + e.val, by omega⟩)) (mixed pos f sg Q K W idec qd S k i) e := by
  have h1 : (256 * k.val + e.val) / 256 = k.val := by omega
  have h2 : (256 * k.val + e.val) % 256 = e.val := by omega
  have e1 : (⟨(256 * k.val + e.val) / 256, by omega⟩ : Fin 8) = k := Fin.ext h1
  have e2 : (⟨(256 * k.val + e.val) % 256, by omega⟩ : Fin 256) = e := Fin.ext h2
  show gated _ (mixed pos f sg Q K W idec qd S (⟨(256 * k.val + e.val) / 256, _⟩ : Fin 8) i)
    (⟨(256 * k.val + e.val) % 256, _⟩ : Fin 256) = _
  rw [e1, e2]

/-- The output block read at an index given by its head, its row and its place within the head. -/
theorem outRows_at (pos : Vec Ideal S128x1 .i32) (f sg : Vec Ideal S1x128 .f32) (Q K : Vec Ideal S128x1024 .f32)
    (W G : Vec Ideal S128x2048 .f32) (idec qd : Vec Ideal S8x128x128 .f32) (S : Vec Ideal S8x128x256 .f32)
    (y : S128x2048.Idx) (k : Fin 8) (i : Fin 128) (e : Fin 256) (p0 : (y 0).val = i.val)
    (p1 : (y 1).val = 256 * k.val + e.val) :
    outRows pos f sg Q K W G idec qd S y
      = gated (G (ix2 i ⟨256 * k.val + e.val, by omega⟩)) (mixed pos f sg Q K W idec qd S k i) e := by
  rw [at_row y k i e p0 p1]
  exact outRows_head pos f sg Q K W G idec qd S k i e

variable (m : (ℓ : Loc nD τ sig) → Buf (Elt Ideal) ℓ) (c : Dev nD)

/-- The state after a point that carries the state before it. -/
theorem state_B (t : Fin cfg0.N) (h : ¬ t.val % 32 = 0) :
    (outsAt0 m c t.val t.isLt).2 = nextState (iblk m c 5 t) (iblk m c 6 t) (iblk m c 7 t) (X0_2 m c t) (X0_3 m c t) (iblk m c 0 t) (iblk m c 10 t) (outsAt0 m c (t.val - 1) (Nat.lt_of_le_of_lt (Nat.sub_le _ _) t.isLt)).2 := by
  funext y
  rw [outsAt0_B m c t h]
  frame_out
  simp only [read_unread_whole]
  generalize (outsAt0 m c (t.val - 1) _).2 = S
  generalize X0_2 m c t = K
  generalize X0_3 m c t = W
  generalize iblk m c 0 t = cd
  generalize iblk m c 5 t = pos
  generalize iblk m c 6 t = f
  generalize iblk m c 7 t = sg
  generalize iblk m c 10 t = kd
  change Vec Ideal S128x1024 .f32 at K
  change Vec Ideal S128x2048 .f32 at W
  change Vec Ideal S8 .f32 at cd
  change Vec Ideal S128x1 .i32 at pos
  change Vec Ideal S1x128 .f32 at f
  change Vec Ideal S1x128 .f32 at sg
  change Vec Ideal S8x128x128 .f32 at kd
  clear h
  canon_tiles x p
  all_goals open_payloads
  all_goals first
    | rw [at_head y 0 (x 1) (x 2) (by show (y 0).val = 0; omega) p1 p2]
    | rw [at_head y 1 (x 1) (x 2) (by show (y 0).val = 1; omega) p1 p2]
    | rw [at_head y 2 (x 1) (x 2) (by show (y 0).val = 2; omega) p1 p2]
    | rw [at_head y 3 (x 1) (x 2) (by show (y 0).val = 3; omega) p1 p2]
    | rw [at_head y 4 (x 1) (x 2) (by show (y 0).val = 4; omega) p1 p2]
    | rw [at_head y 5 (x 1) (x 2) (by show (y 0).val = 5; omega) p1 p2]
    | rw [at_head y 6 (x 1) (x 2) (by show (y 0).val = 6; omega) p1 p2]
    | rw [at_head y 7 (x 1) (x 2) (by show (y 0).val = 7; omega) p1 p2]
  all_goals pointwise [nextState, turn]

/-- The state after a point that starts from the zero state. -/
theorem state_A (t : Fin cfg0.N) (h : t.val % 32 = 0) :
    (outsAt0 m c t.val t.isLt).2 = nextState (iblk m c 5 t) (iblk m c 6 t) (iblk m c 7 t) (X0_2 m c t) (X0_3 m c t) (iblk m c 0 t) (iblk m c 10 t) (fun _ => 0) := by
  funext y
  rw [outsAt0_A m c t h]
  frame_open
  simp (disch := decide) only [↓ View.readCov_skip, ↓ View.readCov_cons_toLoadRect, ↓ View.readCov_fill]
  frame_out
  generalize X0_2 m c t = K
  generalize X0_3 m c t = W
  generalize iblk m c 0 t = cd
  generalize iblk m c 5 t = pos
  generalize iblk m c 6 t = f
  generalize iblk m c 7 t = sg
  generalize iblk m c 10 t = kd
  change Vec Ideal S128x1024 .f32 at K
  change Vec Ideal S128x2048 .f32 at W
  change Vec Ideal S8 .f32 at cd
  change Vec Ideal S128x1 .i32 at pos
  change Vec Ideal S1x128 .f32 at f
  change Vec Ideal S1x128 .f32 at sg
  change Vec Ideal S8x128x128 .f32 at kd
  clear h
  refine (canon_front [_] [_, _, _, _, _, _, _, _] y (View.cover_of_tiled_head _ _ _ rfl y)).trans ?_
  canon_tiles x p
  all_goals open_payloads
  all_goals first
    | rw [at_head y 0 (x 1) (x 2) (by show (y 0).val = 0; omega) p1 p2]
    | rw [at_head y 1 (x 1) (x 2) (by show (y 0).val = 1; omega) p1 p2]
    | rw [at_head y 2 (x 1) (x 2) (by show (y 0).val = 2; omega) p1 p2]
    | rw [at_head y 3 (x 1) (x 2) (by show (y 0).val = 3; omega) p1 p2]
    | rw [at_head y 4 (x 1) (x 2) (by show (y 0).val = 4; omega) p1 p2]
    | rw [at_head y 5 (x 1) (x 2) (by show (y 0).val = 5; omega) p1 p2]
    | rw [at_head y 6 (x 1) (x 2) (by show (y 0).val = 6; omega) p1 p2]
    | rw [at_head y 7 (x 1) (x 2) (by show (y 0).val = 7; omega) p1 p2]
  all_goals pointwise [nextState, turn]

end Cert.KernelIdeal.Point

end

end
-- ==== Proof.Rows.lean ====
module

public import proofs.«01_k».proof.Proof.Point

/-! The output rows of one grid point, for a point that starts from the zero state and for one that carries the state. -/

@[expose] public section

set_option maxRecDepth 16384

noncomputable section

namespace Cert.KernelIdeal.Point

open Cert.KernelIdeal Cert.KernelIdeal.Gen Cert.KernelIdeal.Value Cert.Retention
open Idealize.ShloMosaic Idealize.ShloMosaic.TcCoe Idealize.SL.Sem

variable (m : (ℓ : Loc nD τ sig) → Buf (Elt Ideal) ℓ) (c : Dev nD)

/-- The output rows of a point that carries the state before it. -/
theorem out_B (t : Fin cfg0.N) (h : ¬ t.val % 32 = 0) :
    (outsAt0 m c t.val t.isLt).1 = outRows (iblk m c 5 t) (iblk m c 6 t) (iblk m c 7 t) (X0_1 m c t) (X0_2 m c t) (X0_3 m c t) (X0_4 m c t) (iblk m c 8 t) (iblk m c 9 t) (outsAt0 m c (t.val - 1) (Nat.lt_of_le_of_lt (Nat.sub_le _ _) t.isLt)).2 := by
  funext y
  rw [outsAt0_B m c t h]
  frame_out
  simp only [read_unread_whole]
  generalize (outsAt0 m c (t.val - 1) _).2 = S
  generalize X0_2 m c t = K
  generalize X0_3 m c t = W
  generalize iblk m c 0 t = cd
  generalize iblk m c 5 t = pos
  generalize iblk m c 6 t = f
  generalize iblk m c 7 t = sg
  generalize iblk m c 10 t = kd
  change Vec Ideal S128x1024 .f32 at K
  change Vec Ideal S128x2048 .f32 at W
  change Vec Ideal S8 .f32 at cd
  change Vec Ideal S128x1 .i32 at pos
  change Vec Ideal S1x128 .f32 at f
  change Vec Ideal S1x128 .f32 at sg
  change Vec Ideal S8x128x128 .f32 at kd
  generalize X0_1 m c t = Q
  generalize X0_4 m c t = G
  generalize iblk m c 8 t = idec
  generalize iblk m c 9 t = qd
  change Vec Ideal S128x1024 .f32 at Q
  change Vec Ideal S128x2048 .f32 at G
  change Vec Ideal S8x128x128 .f32 at idec
  change Vec Ideal S8x128x128 .f32 at qd
  clear h
  canon_tiles x p
  all_goals open_payloads
  all_goals first
    | rw [outRows_at _ _ _ _ _ _ _ _ _ _ y 0 (x 0) (x 1) p0 (by show (y 1).val = 256 * 0 + (x 1).val; omega)]
    | rw [outRows_at _ _ _ _ _ _ _ _ _ _ y 1 (x 0) (x 1) p0 (by show (y 1).val = 256 * 1 + (x 1).val; omega)]
    | rw [outRows_at _ _ _ _ _ _ _ _ _ _ y 2 (x 0) (x 1) p0 (by show (y 1).val = 256 * 2 + (x 1).val; omega)]
    | rw [outRows_at _ _ _ _ _ _ _ _ _ _ y 3 (x 0) (x 1) p0 (by show (y 1).val = 256 * 3 + (x 1).val; omega)]
    | rw [outRows_at _ _ _ _ _ _ _ _ _ _ y 4 (x 0) (x 1) p0 (by show (y 1).val = 256 * 4 + (x 1).val; omega)]
    | rw [outRows_at _ _ _ _ _ _ _ _ _ _ y 5 (x 0) (x 1) p0 (by show (y 1).val = 256 * 5 + (x 1).val; omega)]
    | rw [outRows_at _ _ _ _ _ _ _ _ _ _ y 6 (x 0) (x 1) p0 (by show (y 1).val = 256 * 6 + (x 1).val; omega)]
    | rw [outRows_at _ _ _ _ _ _ _ _ _ _ y 7 (x 0) (x 1) p0 (by show (y 1).val = 256 * 7 + (x 1).val; omega)]
  all_goals pointwise [mixed, gated, turn]

/-- The output rows of a point that starts from the zero state. -/
theorem out_A (t : Fin cfg0.N) (h : t.val % 32 = 0) :
    (outsAt0 m c t.val t.isLt).1 = outRows (iblk m c 5 t) (iblk m c 6 t) (iblk m c 7 t) (X0_1 m c t) (X0_2 m c t) (X0_3 m c t) (X0_4 m c t) (iblk m c 8 t) (iblk m c 9 t) (fun _ => 0) := by
  funext y
  rw [outsAt0_A m c t h]
  frame_open
  simp (disch := decide) only [↓ View.readCov_skip, ↓ View.readCov_cons_toLoadRect, ↓ View.readCov_fill]
  frame_out
  generalize X0_2 m c t = K
  generalize X0_3 m c t = W
  generalize iblk m c 0 t = cd
  generalize iblk m c 5 t = pos
  generalize iblk m c 6 t = f
  generalize iblk m c 7 t = sg
  generalize iblk m c 10 t = kd
  change Vec Ideal S128x1024 .f32 at K
  change Vec Ideal S128x2048 .f32 at W
  change Vec Ideal S8 .f32 at cd
  change Vec Ideal S128x1 .i32 at pos
  change Vec Ideal S1x128 .f32 at f
  change Vec Ideal S1x128 .f32 at sg
  change Vec Ideal S8x128x128 .f32 at kd
  generalize X0_1 m c t = Q
  generalize X0_4 m c t = G
  generalize iblk m c 8 t = idec
  generalize iblk m c 9 t = qd
  change Vec Ideal S128x1024 .f32 at Q
  change Vec Ideal S128x2048 .f32 at G
  change Vec Ideal S8x128x128 .f32 at idec
  change Vec Ideal S8x128x128 .f32 at qd
  clear h
  canon_tiles x p
  all_goals open_payloads
  all_goals first
    | rw [outRows_at _ _ _ _ _ _ _ _ _ _ y 0 (x 0) (x 1) p0 (by show (y 1).val = 256 * 0 + (x 1).val; omega)]
    | rw [outRows_at _ _ _ _ _ _ _ _ _ _ y 1 (x 0) (x 1) p0 (by show (y 1).val = 256 * 1 + (x 1).val; omega)]
    | rw [outRows_at _ _ _ _ _ _ _ _ _ _ y 2 (x 0) (x 1) p0 (by show (y 1).val = 256 * 2 + (x 1).val; omega)]
    | rw [outRows_at _ _ _ _ _ _ _ _ _ _ y 3 (x 0) (x 1) p0 (by show (y 1).val = 256 * 3 + (x 1).val; omega)]
    | rw [outRows_at _ _ _ _ _ _ _ _ _ _ y 4 (x 0) (x 1) p0 (by show (y 1).val = 256 * 4 + (x 1).val; omega)]
    | rw [outRows_at _ _ _ _ _ _ _ _ _ _ y 5 (x 0) (x 1) p0 (by show (y 1).val = 256 * 5 + (x 1).val; omega)]
    | rw [outRows_at _ _ _ _ _ _ _ _ _ _ y 6 (x 0) (x 1) p0 (by show (y 1).val = 256 * 6 + (x 1).val; omega)]
    | rw [outRows_at _ _ _ _ _ _ _ _ _ _ y 7 (x 0) (x 1) p0 (by show (y 1).val = 256 * 7 + (x 1).val; omega)]
  all_goals pointwise [mixed, gated, turn]

end Cert.KernelIdeal.Point

end

end
-- ==== Proof.Tables.lean ====
module

public import proofs.«01_k».proof.Proof.Gen.KernelIdeal.Value
public import proofs.«01_k».proof.Proof.Recurrence
public import Idealize.ShloMosaic.Lib.StableHlo.ReadAt
public import Idealize.ShloMosaic.Lib.StableHlo.RunLoop

/-! The tables that the kernel's host code builds and hands to the launch, entry by entry. -/

@[expose] public section

set_option maxRecDepth 16384

noncomputable section

namespace Cert.KernelIdeal.Tables

open Cert.KernelIdeal Cert.KernelIdeal.Gen Cert.KernelIdeal.Value Cert.Retention
open Idealize.ShloMosaic Idealize.ShloMosaic.TcCoe Idealize.SL.Sem
open Idealize.ShloMosaic.StableHlo Idealize.ShloMosaic.HostLoop

variable (m : (ℓ : Loc nD τ sig) → Buf (Elt Ideal) ℓ) (c : Dev nD)

/-- The decay of a whole chunk. -/
theorem chunk_table (h : Fin 8) : (V m c main_v44 : FVec Ideal S8 .f32) (ix1 h) = chunkDecay h.val := by
  unfold V
  rw [← afterL_eq_after_flatten]
  simp only [afterL_cons, afterL_nil]
  after_reads_at
  unfold chunkDecay
  pointwise

/-- The decay inside a chunk. -/
theorem causal_table (h : Fin 8) (i j : Fin 128) :
    (V m c main_v25 : FVec Ideal S8x128x128 .f32) (ix3 h i j) = causal h.val i.val j.val := by
  unfold V
  rw [← afterL_eq_after_flatten]
  simp only [afterL_cons, afterL_nil]
  after_reads_at
  simp only [id]
  unfold causal
  pointwise

/-- The decay from the chunk's start, laid out along the coordinates. -/
theorem query_table (h : Fin 8) (i d : Fin 128) :
    (V m c main_v46 : FVec Ideal S8x128x128 .f32) (ix3 h i d) = queryDecay h.val i.val := by
  unfold V
  rw [← afterL_eq_after_flatten]
  simp only [afterL_cons, afterL_nil]
  after_reads_at
  unfold queryDecay
  pointwise

/-- The decay to the chunk's end, laid out along the coordinates. -/
theorem key_table (h : Fin 8) (i d : Fin 128) :
    (V m c main_v48 : FVec Ideal S8x128x128 .f32) (ix3 h i d) = keyDecay h.val i.val := by
  unfold V
  rw [← afterL_eq_after_flatten]
  simp only [afterL_cons, afterL_nil]
  after_reads_at
  unfold keyDecay
  pointwise

/-- One half of the frequencies. -/
theorem half_freq (U : Valuation τ sig (Elt Ideal)) (d : Fin 64) :
    (upto hostOps0_2 U 36 (Proc.tc.devRef main_v55) : FVec Ideal S64 .f32) (ix1 d) = freq d.val := by
  after_reads_at
  unfold freq
  pointwise

/-- The signs of the first half. -/
theorem half_minus (U : Valuation τ sig (Elt Ideal)) (d : Fin 64) :
    (upto hostOps0_2 U 43 (Proc.tc.devRef main_v59) : FVec Ideal S64 .f32) (ix1 d) = (-1 : EReal) := by
  after_reads_at

/-- The signs of the second half. -/
theorem half_plus (U : Valuation τ sig (Elt Ideal)) (d : Fin 64) :
    (upto hostOps0_2 U 43 (Proc.tc.devRef main_v60) : FVec Ideal S64 .f32) (ix1 d) = (1 : EReal) := by
  after_reads_at

/-- The frequencies, written twice. -/
theorem freq_table (d : Fin 128) :
    (V m c main_v57 : FVec Ideal S1x128 .f32) (ix2 0 d) = freq (d.val % 64) := by
  unfold V
  rw [← afterL_eq_after_flatten]
  simp only [afterL_cons, afterL_nil]
  after_reads_at
  by_cases h : d.val < 64
  · rw [dif_pos h, Nat.mod_eq_of_lt h]
    exact half_freq _ ⟨d.val, h⟩
  · rw [dif_neg h, show d.val % 64 = d.val - 64 by omega]
    exact half_freq _ ⟨d.val - 64, by omega⟩

/-- The signs of the two halves. -/
theorem sign_table (d : Fin 128) :
    (V m c main_v62 : FVec Ideal S1x128 .f32) (ix2 0 d) = (if d.val < 64 then -1 else 1 : EReal) := by
  unfold V
  rw [← afterL_eq_after_flatten]
  simp only [afterL_cons, afterL_nil]
  after_reads_at
  by_cases h : d.val < 64
  · rw [dif_pos h, if_pos h]
    exact half_minus _ ⟨d.val, h⟩
  · rw [dif_neg h, if_neg h]
    exact half_plus _ ⟨d.val - 64, by omega⟩

/-- The positions, one row per position. -/
theorem pos_table (r : Fin 8192) :
    (V m c main_v63 : IVec S8192x1 32) (ix2 r 0)
      = (m ((c : Thread nD τ).loc main_arg1) : IVec S2x4096 32) (ix2 ⟨r.val / 4096, by omega⟩ ⟨r.val % 4096, by omega⟩) := by
  unfold V
  rw [← afterL_eq_after_flatten]
  simp only [afterL_cons, afterL_nil]
  after_reads_at

end Cert.KernelIdeal.Tables

end

end
-- ==== Proof.Blocks.lean ====
module

public import proofs.«01_k».proof.Proof.Tables

/-! What each window's block holds at a grid point, entry by entry, in terms of the two arguments. -/

@[expose] public section

set_option maxRecDepth 16384

noncomputable section

namespace Cert.KernelIdeal.Blocks

open Cert.KernelIdeal Cert.KernelIdeal.Gen Cert.KernelIdeal.Value Cert.KernelIdeal.Tables Cert.Retention
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![0] ∧ win0_1.index t = ![t.val, 0] ∧ win0_2.index t = ![t.val, 1]
    ∧ win0_3.index t = ![t.val, 1] ∧ win0_4.index t = ![t.val, 2] ∧ win0_5.index t = ![t.val, 0]
    ∧ win0_6.index t = ![0, 0] ∧ win0_7.index t = ![0, 0] ∧ win0_8.index t = ![0, 0, 0] ∧ win0_9.index t = ![0, 0, 0]
    ∧ win0_10.index t = ![0, 0, 0] ∧ win0_11.index t = ![t.val, 0] :=
  (by decide +kernel : ∀ t : Fin grid0.N, _)

/-- There are 64 grid points. -/
theorem points (t : Fin cfg0.N) : t.val < 64 := lt_of_lt_of_eq t.isLt N_0

/-- The projections. -/
abbrev proj : FVec Ideal S8192x21840 .f32 := m ((c : Thread nD τ).loc main_arg0)

/-- The positions. -/
abbrev place : IVec S2x4096 32 := m ((c : Thread nD τ).loc main_arg1)

/-- The decay of a whole chunk at a point. -/
theorem block0 (t : Fin cfg0.N) (h : Fin 8) : (iblk m c 0 t : Vec Ideal S8 .f32) (ix1 h) = chunkDecay h.val := by
  refine Eq.trans ?_ (chunk_table m c h)
  blk_ext [iblk, idx t]

/-- The queries at a point. -/
theorem block1 (t : Fin cfg0.N) (i : Fin 128) (k : Fin 1024) :
    (X0_1 m c t : Vec Ideal S128x1024 .f32) (ix2 i k)
      = proj m c (ix2 ⟨t.val * 128 + i.val, by have := points t; omega⟩ ⟨k.val, by omega⟩) := by
  unfold X0_1 Pipeline.Window.fill
  rw [dif_pos (moved0_1 t (ix2 i k))]
  blk_ext [iblk, V, idx t]

/-- The keys at a point. -/
theorem block2 (t : Fin cfg0.N) (i : Fin 128) (k : Fin 1024) :
    (X0_2 m c t : Vec Ideal S128x1024 .f32) (ix2 i k)
      = proj m c (ix2 ⟨t.val * 128 + i.val, by have := points t; omega⟩ ⟨1024 + k.val, by omega⟩) := by
  unfold X0_2 Pipeline.Window.fill
  rw [dif_pos (moved0_2 t (ix2 i k))]
  blk_ext [iblk, V, idx t]

/-- The values at a point. -/
theorem block3 (t : Fin cfg0.N) (i : Fin 128) (k : Fin 2048) :
    (X0_3 m c t : Vec Ideal S128x2048 .f32) (ix2 i k)
      = proj m c (ix2 ⟨t.val * 128 + i.val, by have := points t; omega⟩ ⟨2048 + k.val, by omega⟩) := by
  unfold X0_3 Pipeline.Window.fill
  rw [dif_pos (moved0_3 t (ix2 i k))]
  blk_ext [iblk, V, idx t]

/-- The gates at a point. -/
theorem block4 (t : Fin cfg0.N) (i : Fin 128) (k : Fin 2048) :
    (X0_4 m c t : Vec Ideal S128x2048 .f32) (ix2 i k)
      = proj m c (ix2 ⟨t.val * 128 + i.val, by have := points t; omega⟩ ⟨4096 + k.val, by omega⟩) := by
  unfold X0_4 Pipeline.Window.fill
  rw [dif_pos (moved0_4 t (ix2 i k))]
  blk_ext [iblk, V, idx t]

/-- The positions at a point. -/
theorem block5 (t : Fin cfg0.N) (i : Fin 128) :
    (iblk m c 5 t : Vec Ideal S128x1 .i32) (ix2 i 0)
      = place m c (ix2 ⟨(t.val * 128 + i.val) / 4096, by have := points t; omega⟩ ⟨(t.val * 128 + i.val) % 4096, by omega⟩) := by
  refine Eq.trans ?_ (pos_table m c ⟨t.val * 128 + i.val, by have := points t; omega⟩)
  blk_ext [iblk, idx t]

/-- The frequencies at a point. -/
theorem block6 (t : Fin cfg0.N) (d : Fin 128) : (iblk m c 6 t : Vec Ideal S1x128 .f32) (ix2 0 d) = freq (d.val % 64) := by
  refine Eq.trans ?_ (freq_table m c d)
  blk_ext [iblk, idx t]

/-- The signs at a point. -/
theorem block7 (t : Fin cfg0.N) (d : Fin 128) :
    (iblk m c 7 t : Vec Ideal S1x128 .f32) (ix2 0 d) = (if d.val < 64 then -1 else 1 : EReal) := by
  refine Eq.trans ?_ (sign_table m c d)
  blk_ext [iblk, idx t]

/-- The decay inside a chunk at a point. -/
theorem block8 (t : Fin cfg0.N) (h : Fin 8) (i j : Fin 128) :
    (iblk m c 8 t : Vec Ideal S8x128x128 .f32) (ix3 h i j) = causal h.val i.val j.val := by
  refine Eq.trans ?_ (causal_table m c h i j)
  blk_ext [iblk, idx t]

/-- The decay from the chunk's start at a point. -/
theorem block9 (t : Fin cfg0.N) (h : Fin 8) (i j : Fin 128) :
    (iblk m c 9 t : Vec Ideal S8x128x128 .f32) (ix3 h i j) = queryDecay h.val i.val := by
  refine Eq.trans ?_ (query_table m c h i j)
  blk_ext [iblk, idx t]

/-- The decay to the chunk's end at a point. -/
theorem block10 (t : Fin cfg0.N) (h : Fin 8) (i j : Fin 128) :
    (iblk m c 10 t : Vec Ideal S8x128x128 .f32) (ix3 h i j) = keyDecay h.val i.val := by
  refine Eq.trans ?_ (key_table m c h i j)
  blk_ext [iblk, idx t]

end Cert.KernelIdeal.Blocks

end

end
-- ==== Proof.Result.lean ====
module

public import proofs.«01_k».proof.Proof.Recurrence

/-! The retention of every head over the projections and the positions, as one formula that neither program's blocks enter. -/

@[expose] public section

noncomputable section

namespace Cert.Retention

open Idealize.ShloMosaic

variable (x : Fin 8192 → Fin 21840 → EReal) (p : Fin 2 → Fin 4096 → BitVec 32)

/-- The angle of coordinate `d` at position `s` of sequence `b`. -/
def angle (b : Fin 2) (s : Fin 4096) (d : ℕ) : EReal := FloatOps.sitofp (F := Ideal) .f32 (p b s) * freq d

/-- The rotated query in row `i` of chunk `n`. -/
def queryAt (b : Fin 2) (h : Fin 8) (n : Fin 32) (i d : Fin 128) : EReal :=
  rot (fun d => x ⟨b.val * 4096 + (n.val * 128 + i.val), by omega⟩ ⟨h.val * 128 + d.val, by omega⟩)
    (angle p b ⟨n.val * 128 + i.val, by omega⟩) d

/-- The rotated and scaled key in row `i` of chunk `n`. -/
def keyAt (b : Fin 2) (h : Fin 8) (n : Fin 32) (i d : Fin 128) : EReal :=
  rot (fun d => x ⟨b.val * 4096 + (n.val * 128 + i.val), by omega⟩ ⟨1024 + (h.val * 128 + d.val), by omega⟩)
    (angle p b ⟨n.val * 128 + i.val, by omega⟩) d * Ideal.ofBits .f32 1035273459#32

/-- The value in row `i` of chunk `n`. -/
def valueAt (b : Fin 2) (h : Fin 8) (n : Fin 32) (i : Fin 128) (e : Fin 256) : EReal :=
  x ⟨b.val * 4096 + (n.val * 128 + i.val), by omega⟩ ⟨2048 + (h.val * 256 + e.val), by omega⟩

/-- The state before chunk `n`. -/
def stateAt (b : Fin 2) (h : Fin 8) (n : ℕ) : Fin 128 → Fin 256 → EReal :=
  state (keyAt x p b h) (valueAt x b h) (fun j => keyDecay h.val j.val) (chunkDecay h.val) n

/-- The rows of chunk `n` before normalisation. -/
def rowsAt (b : Fin 2) (h : Fin 8) (n : Fin 32) : Fin 128 → Fin 256 → EReal :=
  mix (queryAt x p b h n) (keyAt x p b h n) (valueAt x b h n) (fun i j => causal h.val i.val j.val)
    (fun i => queryDecay h.val i.val) (stateAt x p b h n.val)

/-- A row divided by its root mean square. -/
def unitRow (Y : Fin 256 → EReal) (e : Fin 256) : EReal :=
  Y e * Ideal.rsqrt (Ideal.div (∑ e, Y e * Y e) (Ideal.ofBits .f32 1132462080#32) + Ideal.ofBits .f32 897988541#32)

/-- The gated retention at row `r`, column `j`. -/
def retained (r : Fin 8192) (j : Fin 2048) : EReal :=
  x r ⟨4096 + j.val, by omega⟩ * Ideal.div 1 (1 + Ideal.exp (-x r ⟨4096 + j.val, by omega⟩))
    * unitRow (rowsAt x p ⟨r.val / 4096, by omega⟩ ⟨j.val / 256, by omega⟩ ⟨r.val % 4096 / 128, by omega⟩
        ⟨r.val % 4096 % 128, by omega⟩) ⟨j.val % 256, by omega⟩

/-- The exponential is not negative. -/
theorem exp_nonneg (y : EReal) : 0 ≤ Ideal.exp y := by
  induction y with
  | bot => exact le_refl _
  | top => exact le_top
  | coe r => exact EReal.coe_nonneg.mpr (Real.exp_pos r).le

/-- A value divided by its gate's denominator is the value times the quotient. -/
theorem div_gate (s g : EReal) : Ideal.div s (1 + Ideal.exp (0 - g)) = s * Ideal.div 1 (1 + Ideal.exp (-g)) := by
  have h0 : (0 : EReal) - g = -g := by rw [sub_eq_add_neg, zero_add]
  have h1 : (1 : EReal) + Ideal.exp (-g) ≠ 0 := by
    have h2 : (1 : EReal) ≤ 1 + Ideal.exp (-g) := le_add_of_nonneg_right (exp_nonneg _)
    exact ne_of_gt (lt_of_lt_of_le zero_lt_one h2)
  rw [h0]
  unfold Ideal.div
  rw [if_neg h1, if_neg h1, one_mul]

/-- The gate divided in one step is the gate times the quotient. -/
theorem gate_eq (g : EReal) : Ideal.div g (1 + Ideal.exp (0 - g)) = g * Ideal.div 1 (1 + Ideal.exp (-g)) := div_gate g g

/-- A coordinate of the first half, turned with the sign −1. -/
theorem rot_low (y : Fin 128 → EReal) (a : ℕ → EReal) (d : Fin 128) (h : d.val < 64) :
    y d * Ideal.cos (a (d.val % 64)) + y ⟨(d.val + 128 - 64) % 128, Nat.mod_lt _ (by decide)⟩ * (Ideal.sin (a (d.val % 64)) * -1)
      = rot y a d := by
  have e1 : d.val % 64 = d.val := Nat.mod_eq_of_lt h
  have e2 : (⟨(d.val + 128 - 64) % 128, Nat.mod_lt _ (by decide)⟩ : Fin 128) = ⟨d.val + 64, by omega⟩ := Fin.ext (by
    show (d.val + 128 - 64) % 128 = d.val + 64
    omega)
  rw [e1, e2, rot, dif_pos h, mul_neg, mul_one, mul_neg, sub_eq_add_neg]

/-- A coordinate of the second half, turned with the sign 1. -/
theorem rot_high (y : Fin 128 → EReal) (a : ℕ → EReal) (d : Fin 128) (h : ¬ d.val < 64) :
    y d * Ideal.cos (a (d.val % 64)) + y ⟨(d.val + 128 - 64) % 128, Nat.mod_lt _ (by decide)⟩ * (Ideal.sin (a (d.val % 64)) * 1)
      = rot y a d := by
  have e1 : d.val % 64 = d.val - 64 := by omega
  have e2 : (⟨(d.val + 128 - 64) % 128, Nat.mod_lt _ (by decide)⟩ : Fin 128) = ⟨d.val - 64, by omega⟩ := Fin.ext (by
    show (d.val + 128 - 64) % 128 = d.val - 64
    omega)
  rw [e1, e2, rot, dif_neg h, mul_one, add_comm]

/-- The turn by a sign that changes with the half is the rotation. -/
theorem rot_sign (y : Fin 128 → EReal) (a : ℕ → EReal) (d : Fin 128) :
    y d * Ideal.cos (a (d.val % 64)) + y ⟨(d.val + 128 - 64) % 128, Nat.mod_lt _ (by decide)⟩
        * (Ideal.sin (a (d.val % 64)) * (if d.val < 64 then -1 else 1))
      = rot y a d := by
  by_cases h : d.val < 64
  · rw [if_pos h]
    exact rot_low y a d h
  · rw [if_neg h]
    exact rot_high y a d h

end Cert.Retention

end

end
-- ==== Proof.Chain.lean ====
module

public import proofs.«01_k».proof.Proof.Rows
public import proofs.«01_k».proof.Proof.Blocks
public import proofs.«01_k».proof.Proof.Result

/-! The state that the kernel carries and the rows it writes, chunk after chunk, and the whole output array. -/

@[expose] public section

set_option maxRecDepth 16384

noncomputable section

namespace Cert.KernelIdeal.Chain

open Cert.KernelIdeal Cert.KernelIdeal.Gen Cert.KernelIdeal.Value Cert.KernelIdeal.Blocks Cert.KernelIdeal.Point Cert.Retention
open Idealize.ShloMosaic Idealize.ShloMosaic.TcCoe Idealize.SL.Sem

variable (m : (ℓ : Loc nD τ sig) → Buf (Elt Ideal) ℓ) (c : Dev nD)

/-- The projections by row and column. -/
abbrev X (r : Fin 8192) (k : Fin 21840) : EReal := proj m c (ix2 r k)

/-- The positions by sequence and place. -/
abbrev P (b : Fin 2) (s : Fin 4096) : BitVec 32 := place m c (ix2 b s)

/-- The row of a point's block in the arrays. -/
theorem row_eq (t : Fin cfg0.N) (b : Fin 2) (n : Fin 32) (ht : t.val = b.val * 32 + n.val) (i : Fin 128) (hlt : t.val * 128 + i.val < 8192) :
    (⟨t.val * 128 + i.val, hlt⟩ : Fin 8192) = ⟨b.val * 4096 + (n.val * 128 + i.val), by omega⟩ :=
  Fin.ext (by show t.val * 128 + i.val = b.val * 4096 + (n.val * 128 + i.val); omega)

/-- The angle of a point's row. -/
theorem angle_eq (t : Fin cfg0.N) (b : Fin 2) (n : Fin 32) (ht : t.val = b.val * 32 + n.val) (i d : Fin 128) :
    FloatOps.sitofp (F := Ideal) .f32 ((iblk m c 5 t : Vec Ideal S128x1 .i32) (ix2 i 0)) * (iblk m c 6 t : Vec Ideal S1x128 .f32) (ix2 0 d)
      = angle (P m c) b ⟨n.val * 128 + i.val, by omega⟩ (d.val % 64) := by
  have e1 : (⟨(t.val * 128 + i.val) / 4096, by have := points t; omega⟩ : Fin 2) = b := Fin.ext (by
    show (t.val * 128 + i.val) / 4096 = b.val
    omega)
  have e2 : (⟨(t.val * 128 + i.val) % 4096, by omega⟩ : Fin 4096) = ⟨n.val * 128 + i.val, by omega⟩ := Fin.ext (by
    show (t.val * 128 + i.val) % 4096 = n.val * 128 + i.val
    omega)
  rw [block5 m c t i, block6 m c t d, e1, e2]
  rfl

/-- A turned coordinate is the rotation of the row that the block holds. -/
theorem turn_eq (t : Fin cfg0.N) (b : Fin 2) (n : Fin 32) (ht : t.val = b.val * 32 + n.val)
    (Y : Vec Ideal S128x1024 .f32) (h : Fin 8) (i d : Fin 128) (y : Fin 128 → EReal)
    (hY : ∀ d : Fin 128, Y (ix2 i ⟨128 * h.val + d.val, by omega⟩) = y d) :
    turn (iblk m c 5 t) (iblk m c 6 t) (iblk m c 7 t) Y h i d = rot y (angle (P m c) b ⟨n.val * 128 + i.val, by omega⟩) d := by
  unfold turn
  rw [angle_eq m c t b n ht i d, hY d, block7 m c t d,
    hY ⟨(d.val + 128 - 64) % 128, Nat.mod_lt _ (by decide)⟩]
  exact rot_sign _ _ d

/-- The turned query. -/
theorem turn_query (t : Fin cfg0.N) (b : Fin 2) (n : Fin 32) (ht : t.val = b.val * 32 + n.val) (h : Fin 8) (i d : Fin 128) :
    turn (iblk m c 5 t) (iblk m c 6 t) (iblk m c 7 t) (X0_1 m c t) h i d = queryAt (X m c) (P m c) b h n i d := by
  refine turn_eq m c t b n ht _ h i d _ fun d => ?_
  rw [block1 m c t i, row_eq t b n ht i]
  exact congrArg (fun k => X m c _ k) (Fin.ext (by show 128 * h.val + d.val = h.val * 128 + d.val; omega))

/-- The turned and scaled key. -/
theorem turn_key (t : Fin cfg0.N) (b : Fin 2) (n : Fin 32) (ht : t.val = b.val * 32 + n.val) (h : Fin 8) (i d : Fin 128) :
    turn (iblk m c 5 t) (iblk m c 6 t) (iblk m c 7 t) (X0_2 m c t) h i d * Ideal.ofBits .f32 1035273459#32
      = keyAt (X m c) (P m c) b h n i d := by
  refine congrArg (· * Ideal.ofBits .f32 1035273459#32) (turn_eq m c t b n ht _ h i d _ fun d => ?_)
  rw [block2 m c t i, row_eq t b n ht i]
  exact congrArg (fun k => X m c _ k) (Fin.ext (by show 1024 + (128 * h.val + d.val) = 1024 + (h.val * 128 + d.val); omega))

/-- The value in the block. -/
theorem value_eq (t : Fin cfg0.N) (b : Fin 2) (n : Fin 32) (ht : t.val = b.val * 32 + n.val) (h : Fin 8) (i : Fin 128) (e : Fin 256) :
    (X0_3 m c t : Vec Ideal S128x2048 .f32) (ix2 i ⟨256 * h.val + e.val, by omega⟩) = valueAt (X m c) b h n i e := by
  rw [block3 m c t i, row_eq t b n ht i]
  exact congrArg (fun k => X m c _ k) (Fin.ext (by show 2048 + (256 * h.val + e.val) = 2048 + (h.val * 256 + e.val); omega))

/-- One step of the carried state. -/
theorem step_eq (t : Fin cfg0.N) (b : Fin 2) (n : Fin 32) (ht : t.val = b.val * 32 + n.val) (S : Vec Ideal S8x128x256 .f32)
    (h : Fin 8) (d : Fin 128) (e : Fin 256) (hS : S (ix3 h d e) = stateAt (X m c) (P m c) b h n.val d e) :
    nextState (iblk m c 5 t) (iblk m c 6 t) (iblk m c 7 t) (X0_2 m c t) (X0_3 m c t) (iblk m c 0 t) (iblk m c 10 t) S (ix3 h d e)
      = stateAt (X m c) (P m c) b h (n.val + 1) d e := by
  have hn : chunk n.val = n := Fin.ext (Nat.mod_eq_of_lt n.isLt)
  unfold stateAt state
  rw [hn]
  refine congrArg₂ (· + ·) (congrArg₂ (· * ·) hS (block0 m c t h)) ?_
  refine Finset.sum_congr rfl fun j _ => congrArg₂ (· * ·) (congrArg₂ (· * ·) ?_ (block10 m c t h j d)) ?_
  · exact turn_key m c t b n ht h j d
  · exact value_eq m c t b n ht h j e

/-- The state after the point of chunk `n`. -/
theorem states (b : Fin 2) (n : ℕ) (hn : n < 32) (t : Fin cfg0.N) (ht : t.val = b.val * 32 + n) (h : Fin 8) (d : Fin 128) (e : Fin 256) :
    (outsAt0 m c t.val t.isLt).2 (ix3 h d e) = stateAt (X m c) (P m c) b h (n + 1) d e := by
  induction n generalizing t with
  | zero =>
    rw [state_A m c t (by omega)]
    exact step_eq m c t b ⟨0, hn⟩ ht _ h d e rfl
  | succ n ih =>
    rw [state_B m c t (by omega)]
    exact step_eq m c t b ⟨n + 1, hn⟩ ht _ h d e
      (ih (by omega) ⟨t.val - 1, Nat.lt_of_le_of_lt (Nat.sub_le _ _) t.isLt⟩ (by show t.val - 1 = _; omega))

/-- The rows before normalisation. -/
theorem mixed_eq (t : Fin cfg0.N) (b : Fin 2) (n : Fin 32) (ht : t.val = b.val * 32 + n.val) (S : Vec Ideal S8x128x256 .f32)
    (h : Fin 8) (i : Fin 128) (e : Fin 256) (hS : ∀ d e, S (ix3 h d e) = stateAt (X m c) (P m c) b h n.val d e) :
    mixed (iblk m c 5 t) (iblk m c 6 t) (iblk m c 7 t) (X0_1 m c t) (X0_2 m c t) (X0_3 m c t) (iblk m c 8 t) (iblk m c 9 t) S h i e
      = rowsAt (X m c) (P m c) b h n i e := by
  unfold mixed rowsAt mix
  refine congrArg₂ (· + ·) ?_ ?_
  · refine Finset.sum_congr rfl fun j _ => congrArg₂ (· * ·) (congrArg₂ (· * ·) ?_ (block8 m c t h i j)) (value_eq m c t b n ht h j e)
    exact Finset.sum_congr rfl fun d _ => congrArg₂ (· * ·) (turn_query m c t b n ht h i d) (turn_key m c t b n ht h j d)
  · exact Finset.sum_congr rfl fun d _ => congrArg₂ (· * ·) (congrArg₂ (· * ·) (turn_query m c t b n ht h i d) (block9 m c t h i d)) (hS d e)

/-- The output rows at a point, from the state before it. -/
theorem out_eq (t : Fin cfg0.N) (b : Fin 2) (n : Fin 32) (ht : t.val = b.val * 32 + n.val) (S : Vec Ideal S8x128x256 .f32)
    (hS : ∀ h d e, S (ix3 h d e) = stateAt (X m c) (P m c) b h n.val d e) (i : Fin 128) (j : Fin 2048) (r : Fin 8192)
    (hr : r.val = t.val * 128 + i.val) :
    outRows (iblk m c 5 t) (iblk m c 6 t) (iblk m c 7 t) (X0_1 m c t) (X0_2 m c t) (X0_3 m c t) (X0_4 m c t) (iblk m c 8 t) (iblk m c 9 t) S
        (ix2 i j) = retained (X m c) (P m c) r j := by
  have e1 : (⟨r.val / 4096, by omega⟩ : Fin 2) = b := Fin.ext (by show r.val / 4096 = b.val; omega)
  have e2 : (⟨r.val % 4096 / 128, by omega⟩ : Fin 32) = n := Fin.ext (by show r.val % 4096 / 128 = n.val; omega)
  have e3 : (⟨r.val % 4096 % 128, by omega⟩ : Fin 128) = i := Fin.ext (by show r.val % 4096 % 128 = i.val; omega)
  have e4 : (⟨t.val * 128 + i.val, by omega⟩ : Fin 8192) = r := Fin.ext hr.symm
  show gated ((X0_4 m c t : Vec Ideal S128x2048 .f32) (ix2 i j)) (mixed _ _ _ _ _ _ _ _ S ⟨j.val / 256, _⟩ i) ⟨j.val % 256, _⟩ = _
  unfold gated retained unitRow
  rw [e1, e2, e3, gate_eq, block4 m c t i j, e4]
  have hY : mixed (iblk m c 5 t) (iblk m c 6 t) (iblk m c 7 t) (X0_1 m c t) (X0_2 m c t) (X0_3 m c t) (iblk m c 8 t) (iblk m c 9 t) S
      ⟨j.val / 256, by omega⟩ i = rowsAt (X m c) (P m c) b ⟨j.val / 256, by omega⟩ n i :=
    funext fun e => mixed_eq m c t b n ht S _ i e (hS _)
  rw [hY]

/-- The state before the first chunk is zero. -/
theorem start_eq (b : Fin 2) (h : Fin 8) (n : Fin 32) (hn : n.val = 0) (d : Fin 128) (e : Fin 256) :
    (0 : EReal) = stateAt (X m c) (P m c) b h n.val d e := by
  rw [hn]
  rfl

/-- The output block that a point leaves. -/
theorem rows_eq (t : Fin cfg0.N) (i : Fin 128) (j : Fin 2048) (r : Fin 8192) (hr : r.val = t.val * 128 + i.val) :
    (outsAt0 m c t.val t.isLt).1 (ix2 i j) = retained (X m c) (P m c) r j := by
  have hp := points t
  obtain ⟨b, n, ht⟩ : ∃ (b : Fin 2) (n : Fin 32), t.val = b.val * 32 + n.val :=
    ⟨⟨t.val / 32, by omega⟩, ⟨t.val % 32, by omega⟩, by
      show t.val = t.val / 32 * 32 + t.val % 32
      omega⟩
  by_cases h : n.val = 0
  · rw [out_A m c t (by omega)]
    have hS : ∀ h d e, ((fun _ => (0 : EReal)) : Vec Ideal S8x128x256 .f32) (ix3 h d e) = stateAt (X m c) (P m c) b h n.val d e :=
      fun h' d e => start_eq m c b h' n h d e
    exact out_eq m c t b n ht _ hS i j r hr
  · rw [out_B m c t (by omega)]
    refine out_eq m c t b n ht _ (fun h' d e => ?_) i j r hr
    refine (states m c b (n.val - 1) (by omega) ⟨t.val - 1, Nat.lt_of_le_of_lt (Nat.sub_le _ _) t.isLt⟩ (by
      show t.val - 1 = b.val * 32 + (n.val - 1)
      omega) h' d e).trans ?_
    rw [Nat.sub_add_cancel (Nat.pos_of_ne_zero h)]

/-- The array that the kernel leaves. -/
def retention : FVec Ideal S8192x2048 .bf16 := fun y => retained (X m c) (P m c) (y 0) (y 1)

/-- After every point, the output array is the gated retention. -/
theorem array_eq : (dats m 0 c).arrAt 11 cfg0.N = retention m c := by
  refine (dats m 0 c).arrAt_eq_of_covers 11 _ (by decide +kernel) fun t _ y => ?_
  blk_simp
  rw [after0_11]
  have e0 : ((win0_11.blk t).view.emb y 0).val = t.val * 128 + (y 0).val := by
    blk_simp [idx t]
  have e1 : (win0_11.blk t).view.emb y 1 = y 1 := Fin.ext (by blk_simp [idx t])
  unfold retention
  rw [e1]
  refine Eq.trans ?_ (rows_eq m c t (y 0) (y 1) _ e0)
  exact congrArg _ (by blk_ext)

end Cert.KernelIdeal.Chain

end

end
-- ==== Proof.RefEntry.lean ====
module

public import proofs.«01_k».proof.Proof.Gen.ReferenceIdeal.Run
public import proofs.«01_k».proof.Proof.Recurrence
public import Idealize.ShloMosaic.Lib.Claim
public import Idealize.ShloMosaic.Lib.StableHlo.ReadAt

/-! What the reference's loop starts from: the chunked queries, keys and values, and the decay tables, each at an index. -/

@[expose] public section

set_option maxRecDepth 16384

noncomputable section

namespace Cert.ReferenceIdeal.Entry

open Cert.ReferenceIdeal Cert.ReferenceIdeal.Gen Cert.ReferenceIdeal.Value Cert.Retention
open Idealize.ShloMosaic Idealize.ShloMosaic.TcCoe Idealize.SL.Sem
open Idealize.ShloMosaic.StableHlo Idealize.ShloMosaic.HostLoop

/-- Chunking: entry `i` of chunk `n` is position `n * 128 + i`. -/
theorem chunked (Y : FVec Ideal S2x4096x8x128 .f32) (n : Fin 32) (b : Fin 2) (h : Fin 8) (i d : Fin 128) :
    transpose S32x2x8x128x128 [1, 0, 3, 2, 4]
        (shapeCast S2x32x128x8x128 Y shapeCasts_S2x4096x8x128_S2x32x128x8x128)
        transposes_S2x32x128x8x128_S32x2x8x128x128_1_0_3_2_4 (ix5 n b h i d)
      = Y (ix4 b (⟨n.val * 128 + i.val, by omega⟩) h d) := by
  pointwise

/-- The two halves side by side. -/
theorem halves (Y Z : FVec Ideal S2x4096x8x64 .f32) (b : Fin 2) (s : Fin 4096) (h : Fin 8) (d : Fin 128) :
    concatenate S2x4096x8x128 3 [⟨S2x4096x8x64, Y⟩, ⟨S2x4096x8x64, Z⟩]
        concatenates_S2x4096x8x64_S2x4096x8x64_S2x4096x8x128_d3 (ix4 b s h d)
      = if hd : d.val < 64 then Y (ix4 b s h ⟨d.val, hd⟩) else Z (ix4 b s h ⟨d.val - 64, by omega⟩) := by
  pointwise

/-- A head's coordinate in the projections' columns from 0 on. -/
theorem heads0 (X : FVec Ideal S8192x21840 .f32) (b : Fin 2) (s : Fin 4096) (h : Fin 8) (d : Fin 128) :
    shapeCast S2x4096x8x128
        (extractStridedSlice S2x4096x1024 ![0, 0, 0]
          (shapeCast S2x4096x21840 X shapeCasts_S8192x21840_S2x4096x21840)
          slices_S2x4096x21840_S2x4096x1024_0_0_0)
        shapeCasts_S2x4096x1024_S2x4096x8x128 (ix4 b s h d)
      = X (ix2 ⟨b.val * 4096 + s.val, by omega⟩ ⟨h.val * 128 + d.val, by omega⟩) := by
  pointwise

/-- A head's coordinate in the projections' columns from 1024 on. -/
theorem heads1024 (X : FVec Ideal S8192x21840 .f32) (b : Fin 2) (s : Fin 4096) (h : Fin 8) (d : Fin 128) :
    shapeCast S2x4096x8x128
        (extractStridedSlice S2x4096x1024 ![0, 0, 1024]
          (shapeCast S2x4096x21840 X shapeCasts_S8192x21840_S2x4096x21840)
          slices_S2x4096x21840_S2x4096x1024_0_0_1024)
        shapeCasts_S2x4096x1024_S2x4096x8x128 (ix4 b s h d)
      = X (ix2 ⟨b.val * 4096 + s.val, by omega⟩ ⟨1024 + (h.val * 128 + d.val), by omega⟩) := by
  pointwise

/-- The angle of a position and a coordinate of the first half. -/
theorem angle (P : IVec S2x4096 32) (b : Fin 2) (s : Fin 4096) (d : Fin 64) :
    (mulf (F := Ideal) (φ := .f32)
      (broadcastInDim S2x4096x64 ![0, 1, 2] bcast_S2x4096x1_S2x4096x64_0_1_2
        (broadcastInDim S2x4096x1 ![0, 1] bcast_S2x4096_S2x4096x1_0_1 (sitofp FTy.f32 P)))
      (broadcastInDim S2x4096x64 ![0, 1, 2] bcast_S1x1x64_S2x4096x64_0_1_2
        (broadcastInDim S1x1x64 ![2] bcast_S64_S1x1x64_2
          (Host.divf (broadcastInDim S64 ![] bcast_S_S64 (constant S_ FTy.f32 1065353216#32))
            (Host.powf (broadcastInDim S64 ![] bcast_S_S64 (constant S_ FTy.f32 1176256512#32))
              (Host.divf (sitofp FTy.f32 (iotaInDim S64 32 0))
                (broadcastInDim S64 ![] bcast_S_S64 (constant S_ FTy.f32 1115684864#32)))))))) (ix3 b s d)
      = FloatOps.sitofp (F := Ideal) .f32 (P (ix2 b s)) * freq d.val := by
  unfold freq
  pointwise

/-- The first half of the rotation, from the unrotated heads `Y` and the angles `A`. -/
theorem rot_lo (Y : FVec Ideal S2x4096x8x128 .f32) (A : FVec Ideal S2x4096x64 .f32)
    (b : Fin 2) (s : Fin 4096) (h : Fin 8) (d : Fin 64) :
    subf (mulf (extractStridedSlice S2x4096x8x64 ![0, 0, 0, 0] Y slices_S2x4096x8x128_S2x4096x8x64_0_0_0_0)
        (broadcastInDim S2x4096x8x64 ![0, 1, 2, 3] bcast_S2x4096x1x64_S2x4096x8x64_0_1_2_3
          (broadcastInDim S2x4096x1x64 ![0, 1, 3] bcast_S2x4096x64_S2x4096x1x64_0_1_3 (Host.cos A))))
      (mulf (extractStridedSlice S2x4096x8x64 ![0, 0, 0, 64] Y slices_S2x4096x8x128_S2x4096x8x64_0_0_0_64)
        (broadcastInDim S2x4096x8x64 ![0, 1, 2, 3] bcast_S2x4096x1x64_S2x4096x8x64_0_1_2_3
          (broadcastInDim S2x4096x1x64 ![0, 1, 3] bcast_S2x4096x64_S2x4096x1x64_0_1_3 (Host.sin A)))) (ix4 b s h d)
      = Y (ix4 b s h ⟨d.val, by omega⟩) * Ideal.cos (A (ix3 b s d))
        - Y (ix4 b s h ⟨d.val + 64, by omega⟩) * Ideal.sin (A (ix3 b s d)) := by
  pointwise
  simp only [Nat.add_comm 64]

/-- The second half of the rotation. -/
theorem rot_hi (Y : FVec Ideal S2x4096x8x128 .f32) (A : FVec Ideal S2x4096x64 .f32)
    (b : Fin 2) (s : Fin 4096) (h : Fin 8) (d : Fin 64) :
    addf (mulf (extractStridedSlice S2x4096x8x64 ![0, 0, 0, 0] Y slices_S2x4096x8x128_S2x4096x8x64_0_0_0_0)
        (broadcastInDim S2x4096x8x64 ![0, 1, 2, 3] bcast_S2x4096x1x64_S2x4096x8x64_0_1_2_3
          (broadcastInDim S2x4096x1x64 ![0, 1, 3] bcast_S2x4096x64_S2x4096x1x64_0_1_3 (Host.sin A))))
      (mulf (extractStridedSlice S2x4096x8x64 ![0, 0, 0, 64] Y slices_S2x4096x8x128_S2x4096x8x64_0_0_0_64)
        (broadcastInDim S2x4096x8x64 ![0, 1, 2, 3] bcast_S2x4096x1x64_S2x4096x8x64_0_1_2_3
          (broadcastInDim S2x4096x1x64 ![0, 1, 3] bcast_S2x4096x64_S2x4096x1x64_0_1_3 (Host.cos A)))) (ix4 b s h d)
      = Y (ix4 b s h ⟨d.val, by omega⟩) * Ideal.sin (A (ix3 b s d))
        + Y (ix4 b s h ⟨d.val + 64, by omega⟩) * Ideal.cos (A (ix3 b s d)) := by
  pointwise
  simp only [Nat.add_comm 64]

variable (V : Valuation τ sig (Elt Ideal)) (X : FVec Ideal S8192x21840 .f32) (P : IVec S2x4096 32)
  (hX : V (Proc.devRef .tc main_arg0) = X) (hP : V (Proc.devRef .tc main_arg1) = P)

/-- The angle of position `s` of sequence `b`, by coordinate. -/
def ang (P : IVec S2x4096 32) (b : Fin 2) (s : Fin 4096) (d : ℕ) : EReal :=
  FloatOps.sitofp (F := Ideal) .f32 (P (ix2 b s)) * freq d

include hX hP in
/-- Rotated queries, first half. -/
theorem q_lo (b : Fin 2) (s : Fin 4096) (h : Fin 8) (d : Fin 64) :
    (upto hostOps0 V 37 (Proc.devRef .tc main_v28) : FVec Ideal S2x4096x8x64 .f32) (ix4 b s h d)
      = X (ix2 ⟨b.val * 4096 + s.val, by omega⟩ ⟨h.val * 128 + d.val, by omega⟩) * Ideal.cos (ang P b s d.val)
        - X (ix2 ⟨b.val * 4096 + s.val, by omega⟩ ⟨h.val * 128 + (d.val + 64), by omega⟩) * Ideal.sin (ang P b s d.val) := by
  after_reads_simp
  rw [hX, hP]
  exact (rot_lo _ _ b s h d).trans (congrArg₂ (· - ·)
    (congrArg₂ (· * ·) (heads0 X b s h _) (congrArg Ideal.cos (angle P b s d)))
    (congrArg₂ (· * ·) (heads0 X b s h _) (congrArg Ideal.sin (angle P b s d))))

include hX hP in
/-- Rotated queries, second half. -/
theorem q_hi (b : Fin 2) (s : Fin 4096) (h : Fin 8) (d : Fin 64) :
    (upto hostOps0 V 37 (Proc.devRef .tc main_v33) : FVec Ideal S2x4096x8x64 .f32) (ix4 b s h d)
      = X (ix2 ⟨b.val * 4096 + s.val, by omega⟩ ⟨h.val * 128 + d.val, by omega⟩) * Ideal.sin (ang P b s d.val)
        + X (ix2 ⟨b.val * 4096 + s.val, by omega⟩ ⟨h.val * 128 + (d.val + 64), by omega⟩) * Ideal.cos (ang P b s d.val) := by
  after_reads_simp
  rw [hX, hP]
  exact (rot_hi _ _ b s h d).trans (congrArg₂ (· + ·)
    (congrArg₂ (· * ·) (heads0 X b s h _) (congrArg Ideal.sin (angle P b s d)))
    (congrArg₂ (· * ·) (heads0 X b s h _) (congrArg Ideal.cos (angle P b s d))))

include hX hP in
/-- Rotated keys, first half. -/
theorem k_lo (b : Fin 2) (s : Fin 4096) (h : Fin 8) (d : Fin 64) :
    (upto hostOps0 V 71 (Proc.devRef .tc main_v59) : FVec Ideal S2x4096x8x64 .f32) (ix4 b s h d)
      = X (ix2 ⟨b.val * 4096 + s.val, by omega⟩ ⟨1024 + (h.val * 128 + d.val), by omega⟩) * Ideal.cos (ang P b s d.val)
        - X (ix2 ⟨b.val * 4096 + s.val, by omega⟩ ⟨1024 + (h.val * 128 + (d.val + 64)), by omega⟩) * Ideal.sin (ang P b s d.val) := by
  after_reads_simp
  rw [hX, hP]
  exact (rot_lo _ _ b s h d).trans (congrArg₂ (· - ·)
    (congrArg₂ (· * ·) (heads1024 X b s h _) (congrArg Ideal.cos (angle P b s d)))
    (congrArg₂ (· * ·) (heads1024 X b s h _) (congrArg Ideal.sin (angle P b s d))))

include hX hP in
/-- Rotated keys, second half. -/
theorem k_hi (b : Fin 2) (s : Fin 4096) (h : Fin 8) (d : Fin 64) :
    (upto hostOps0 V 71 (Proc.devRef .tc main_v64) : FVec Ideal S2x4096x8x64 .f32) (ix4 b s h d)
      = X (ix2 ⟨b.val * 4096 + s.val, by omega⟩ ⟨1024 + (h.val * 128 + d.val), by omega⟩) * Ideal.sin (ang P b s d.val)
        + X (ix2 ⟨b.val * 4096 + s.val, by omega⟩ ⟨1024 + (h.val * 128 + (d.val + 64)), by omega⟩) * Ideal.cos (ang P b s d.val) := by
  after_reads_simp
  rw [hX, hP]
  exact (rot_hi _ _ b s h d).trans (congrArg₂ (· + ·)
    (congrArg₂ (· * ·) (heads1024 X b s h _) (congrArg Ideal.sin (angle P b s d)))
    (congrArg₂ (· * ·) (heads1024 X b s h _) (congrArg Ideal.cos (angle P b s d))))

/-- The scale of the keys. -/
theorem scaled (Y : FVec Ideal S2x4096x8x128 .f32) (x : S2x4096x8x128.Idx) :
    mulf Y (broadcastInDim S2x4096x8x128 ![] bcast_S_S2x4096x8x128 (constant S_ FTy.f32 1035273459#32)) x
      = Y x * Ideal.ofBits .f32 1035273459#32 := by
  pointwise

include hX hP in
/-- The loop's chunked queries. -/
theorem entry0 (n : Fin 32) (b : Fin 2) (h : Fin 8) (i d : Fin 128) :
    (afterL preI V (Proc.devRef .tc main_v122_0) : FVec Ideal S32x2x8x128x128 .f32) (ix5 n b h i d)
      = rot (fun d => X (ix2 ⟨b.val * 4096 + (n.val * 128 + i.val), by omega⟩ ⟨h.val * 128 + d.val, by omega⟩))
          (ang P b ⟨n.val * 128 + i.val, by omega⟩) d := by
  simp only [afterL_cons, afterL_nil]
  after_reads_simp
  rw [id_eq]
  refine (chunked _ n b h i d).trans ?_
  refine (halves _ _ b _ h d).trans ?_
  unfold rot
  by_cases hd : d.val < 64
  · rw [dif_pos hd, dif_pos hd]
    exact q_lo V X P hX hP b _ h ⟨d.val, hd⟩
  · rw [dif_neg hd, dif_neg hd]
    refine (q_hi V X P hX hP b _ h ⟨d.val - 64, by omega⟩).trans ?_
    simp only [show d.val - 64 + 64 = d.val by omega]

include hX hP in
/-- The loop's chunked keys. -/
theorem entry1 (n : Fin 32) (b : Fin 2) (h : Fin 8) (i d : Fin 128) :
    (afterL preI V (Proc.devRef .tc main_v122_1) : FVec Ideal S32x2x8x128x128 .f32) (ix5 n b h i d)
      = rot (fun d => X (ix2 ⟨b.val * 4096 + (n.val * 128 + i.val), by omega⟩ ⟨1024 + (h.val * 128 + d.val), by omega⟩))
          (ang P b ⟨n.val * 128 + i.val, by omega⟩) d * Ideal.ofBits .f32 1035273459#32 := by
  simp only [afterL_cons, afterL_nil]
  after_reads_simp
  rw [id_eq]
  refine (chunked _ n b h i d).trans ?_
  refine (scaled _ _).trans (congrArg (· * Ideal.ofBits .f32 1035273459#32) ?_)
  refine (halves _ _ b _ h d).trans ?_
  unfold rot
  by_cases hd : d.val < 64
  · rw [dif_pos hd, dif_pos hd]
    exact k_lo V X P hX hP b _ h ⟨d.val, hd⟩
  · rw [dif_neg hd, dif_neg hd]
    refine (k_hi V X P hX hP b _ h ⟨d.val - 64, by omega⟩).trans ?_
    simp only [show d.val - 64 + 64 = d.val by omega]

include hX in
/-- The loop's chunked values. -/
theorem entry2 (n : Fin 32) (b : Fin 2) (h : Fin 8) (i : Fin 128) (e : Fin 256) :
    (afterL preI V (Proc.devRef .tc main_v122_2) : FVec Ideal S32x2x8x128x256 .f32) (ix5 n b h i e)
      = X (ix2 ⟨b.val * 4096 + (n.val * 128 + i.val), by omega⟩ ⟨2048 + (h.val * 256 + e.val), by omega⟩) := by
  simp only [afterL_cons, afterL_nil]
  after_reads_simp
  rw [hX, id_eq]
  pointwise

/-- The loop's table of `causal`. -/
theorem entry3 (h : Fin 8) (i d : Fin 128) :
    (afterL preI V (Proc.devRef .tc main_v122_3) : FVec Ideal S8x128x128 .f32) (ix3 h i d) = causal h.val i.val d.val := by
  simp only [afterL_cons, afterL_nil]
  after_reads_at
  simp only [id]
  unfold causal
  pointwise

/-- The loop's table of `queryDecay`. -/
theorem entry4 (h : Fin 8) (i : Fin 128) :
    (afterL preI V (Proc.devRef .tc main_v122_4) : FVec Ideal S8x128 .f32) (ix2 h i) = queryDecay h.val i.val := by
  simp only [afterL_cons, afterL_nil]
  after_reads_at
  simp only [id]
  unfold queryDecay
  pointwise

/-- The loop's table of `chunkDecay`. -/
theorem entry5 (h : Fin 8) :
    (afterL preI V (Proc.devRef .tc main_v122_5) : FVec Ideal S8 .f32) (ix1 h) = chunkDecay h.val := by
  simp only [afterL_cons, afterL_nil]
  after_reads_at
  simp only [id]
  unfold chunkDecay
  pointwise

/-- The loop's table of `keyDecay`. -/
theorem entry6 (h : Fin 8) (i : Fin 128) :
    (afterL preI V (Proc.devRef .tc main_v122_6) : FVec Ideal S8x128 .f32) (ix2 h i) = keyDecay h.val i.val := by
  simp only [afterL_cons, afterL_nil]
  after_reads_at
  simp only [id]
  unfold keyDecay
  pointwise

/-- The loop starts from the zero state. -/
theorem entry8 (x : S2x8x128x256.Idx) :
    (afterL preI V (Proc.devRef .tc main_v122_8) : FVec Ideal S2x8x128x256 .f32) x = (0 : EReal) := by
  simp only [afterL_cons, afterL_nil]
  after_reads_at
  simp only [id]
  pointwise

end Cert.ReferenceIdeal.Entry

end

end
-- ==== Proof.RefLoop.lean ====
module

public import proofs.«01_k».proof.Proof.RefEntry
public import Idealize.ShloMosaic.Lib.DynamicIndex

/-! One trip of the reference's loop at an index, and the rows that are stored after all 32 trips. -/

@[expose] public section

set_option maxRecDepth 16384

noncomputable section

namespace Cert.ReferenceIdeal.Loop

open Cert.ReferenceIdeal Cert.ReferenceIdeal.Gen Cert.ReferenceIdeal.Value Cert.Retention
open Idealize.ShloMosaic Idealize.ShloMosaic.TcCoe Idealize.SL.Sem
open Idealize.ShloMosaic.StableHlo Idealize.ShloMosaic.HostLoop

/-- The starts of the block of chunk `n`. -/
abbrev starts (n : Fin 32) : Fin 5 → Int := fun k =>
  (((![fun _ => BitVec.ofNat 32 n.val, constantI S_ 32 0#32, constantI S_ 32 0#32, constantI S_ 32 0#32,
    constantI S_ 32 0#32] : Fin 5 → IVec S_ 32)) k (Shape.Idx.first h_S_)).toInt

/-- The start of chunk `n`'s slice, as numbers. -/
theorem starts_eq (n : Fin 32) (a : Fin 5) : starts n a = ((![n.val, 0, 0, 0, 0] : Fin 5 → ℕ) a : Int) := by
  fin_cases a
  · show (BitVec.ofNat 32 n.val).toInt = (n.val : Int)
    rw [BitVec.toInt_eq_toNat_of_lt] <;> simp [BitVec.toNat_ofNat] <;> omega
  all_goals rfl

/-- The slice of a chunk lies inside the chunked queries or keys. -/
theorem fits128 (n : Fin 32) : S32x2x8x128x128.Slices (![n.val, 0, 0, 0, 0] : Fin 5 → ℕ) S1x2x8x128x128 :=
  ⟨rfl, fun a => by
    fin_cases a
    · show n.val + 1 ≤ 32
      omega
    all_goals exact Nat.le_refl _⟩

/-- The slice of a chunk lies inside the chunked values. -/
theorem fits256 (n : Fin 32) : S32x2x8x128x256.Slices (![n.val, 0, 0, 0, 0] : Fin 5 → ℕ) S1x2x8x128x256 :=
  ⟨rfl, fun a => by
    fin_cases a
    · show n.val + 1 ≤ 32
      omega
    all_goals exact Nat.le_refl _⟩

/-- Chunk `n` of the queries or keys. -/
theorem chunk128 (T : FVec Ideal S32x2x8x128x128 .f32) (n : Fin 32) (b : Fin 2) (h : Fin 8) (i d : Fin 128) :
    shapeCast S2x8x128x128 (Host.dynamicSlice S1x2x8x128x128 T (starts n) sliceFits_S32x2x8x128x128_S1x2x8x128x128)
        shapeCasts_S1x2x8x128x128_S2x8x128x128 (ix4 b h i d)
      = T (ix5 n b h i d) := by
  rw [Host.dynamicSlice_eq_extractStridedSlice _ _ _ _ _ (fits128 n) (starts_eq n)]
  pointwise

/-- Chunk `n` of the values. -/
theorem chunk256 (T : FVec Ideal S32x2x8x128x256 .f32) (n : Fin 32) (b : Fin 2) (h : Fin 8) (i : Fin 128) (e : Fin 256) :
    shapeCast S2x8x128x256 (Host.dynamicSlice S1x2x8x128x256 T (starts n) sliceFits_S32x2x8x128x256_S1x2x8x128x256)
        shapeCasts_S1x2x8x128x256_S2x8x128x256 (ix4 b h i e)
      = T (ix5 n b h i e) := by
  rw [Host.dynamicSlice_eq_extractStridedSlice _ _ _ _ _ (fits256 n) (starts_eq n)]
  pointwise

/-- A chunk's rows stored at slot `n`: that slot holds them, the others are as before. -/
theorem stored (O : FVec Ideal S32x2x8x128x256 .f32) (U : FVec Ideal S2x8x128x256 .f32) (n k : Fin 32)
    (b : Fin 2) (h : Fin 8) (i : Fin 128) (e : Fin 256) :
    Host.dynamicUpdateSlice O
        (broadcastInDim S1x2x8x128x256 ![1, 2, 3, 4] bcast_S2x8x128x256_S1x2x8x128x256_1_2_3_4 U)
        (starts n) updateFits_S32x2x8x128x256_S1x2x8x128x256 (ix5 k b h i e)
      = if k = n then U (ix4 b h i e) else O (ix5 k b h i e) := by
  rw [Host.dynamicUpdateSlice_eq_updateSlice _ _ _ _ (![n.val, 0, 0, 0, 0] : Fin 5 → ℕ)
    (fun a => by
      have := (fits256 n).2 a
      rw [starts_eq n a]
      omega) (fits256 n)]
  pointwise
  by_cases hk : k = n
  · subst hk
    rw [dif_pos ⟨le_refl _, Nat.lt_succ_self _⟩, if_pos rfl]
  · rw [dif_neg (fun hh => hk (Fin.ext (by omega))), if_neg hk]

/-- The state after a trip. -/
theorem next_state (S : FVec Ideal S2x8x128x256 .f32) (cd : FVec Ideal S8 .f32) (kd : FVec Ideal S8x128 .f32)
    (K : FVec Ideal S2x8x128x128 .f32) (W : FVec Ideal S2x8x128x256 .f32)
    (b : Fin 2) (h : Fin 8) (d : Fin 128) (e : Fin 256) :
    addf (mulf S (broadcastInDim S2x8x128x256 ![0, 1, 2, 3] bcast_S1x8x1x1_S2x8x128x256_0_1_2_3 (broadcastInDim S1x8x1x1 ![1] bcast_S8_S1x8x1x1_1 cd)))
      (Host.dotGeneral dot_S2x8x128x128_S2x8x128x256_S2x8x128x256_2_2_3_3_01_01 none
        (mulf K (broadcastInDim S2x8x128x128 ![0, 1, 2, 3] bcast_S1x8x128x1_S2x8x128x128_0_1_2_3
          (broadcastInDim S1x8x128x1 ![1, 2] bcast_S8x128_S1x8x128x1_1_2 kd))) W) (ix4 b h d e)
      = S (ix4 b h d e) * cd (ix1 h) + ∑ j, K (ix4 b h j d) * kd (ix2 h j) * W (ix4 b h j e) := by
  pointwise

/-- The rows a trip makes. -/
theorem rows (S : FVec Ideal S2x8x128x256 .f32) (idec : FVec Ideal S8x128x128 .f32) (qd : FVec Ideal S8x128 .f32)
    (Q K : FVec Ideal S2x8x128x128 .f32) (W : FVec Ideal S2x8x128x256 .f32)
    (b : Fin 2) (h : Fin 8) (i : Fin 128) (e : Fin 256) :
    addf (Host.dotGeneral dot_S2x8x128x128_S2x8x128x256_S2x8x128x256_3_2_2_3_01_01 none
        (mulf (Host.dotGeneral dot_S2x8x128x128_S2x8x128x128_S2x8x128x128_3_3_2_2_01_01 none Q K)
          (broadcastInDim S2x8x128x128 ![0, 1, 2, 3] bcast_S1x8x128x128_S2x8x128x128_0_1_2_3
            (broadcastInDim S1x8x128x128 ![1, 2, 3] bcast_S8x128x128_S1x8x128x128_1_2_3 idec))) W)
      (Host.dotGeneral dot_S2x8x128x128_S2x8x128x256_S2x8x128x256_3_2_2_3_01_01 none
        (mulf Q (broadcastInDim S2x8x128x128 ![0, 1, 2, 3] bcast_S1x8x128x1_S2x8x128x128_0_1_2_3
          (broadcastInDim S1x8x128x1 ![1, 2] bcast_S8x128_S1x8x128x1_1_2 qd))) S) (ix4 b h i e)
      = mix (fun i d => Q (ix4 b h i d)) (fun j d => K (ix4 b h j d)) (fun j e => W (ix4 b h j e))
          (fun i j => idec (ix3 h i j)) (fun i => qd (ix2 h i)) (fun d e => S (ix4 b h d e)) i e := by
  unfold mix
  pointwise

/-- After the loop: each result at an index, from the rows `O` and the projections `X`. -/
theorem normalised (V : Valuation τ sig (Elt Ideal)) (X : FVec Ideal S8192x21840 .f32) (O : FVec Ideal S32x2x8x128x256 .f32)
    (hX : V (Proc.devRef .tc main_arg0) = X) (hO : V (Proc.devRef .tc main_v122_9) = O) (r : Fin 8192) (j : Fin 2048) :
    (out_main_v141 V : FVec Ideal S8192x2048 .bf16) (ix2 r j)
      = X (ix2 r ⟨4096 + j.val, by omega⟩) * Ideal.div 1 (1 + Ideal.exp (-X (ix2 r ⟨4096 + j.val, by omega⟩)))
        * (O (ix5 ⟨r.val % 4096 / 128, by omega⟩ ⟨r.val / 4096, by omega⟩ ⟨j.val / 256, by omega⟩ ⟨r.val % 4096 % 128, by omega⟩ ⟨j.val % 256, by omega⟩)
          * Ideal.rsqrt (Ideal.div (∑ e, O (ix5 ⟨r.val % 4096 / 128, by omega⟩ ⟨r.val / 4096, by omega⟩ ⟨j.val / 256, by omega⟩ ⟨r.val % 4096 % 128, by omega⟩ e)
                * O (ix5 ⟨r.val % 4096 / 128, by omega⟩ ⟨r.val / 4096, by omega⟩ ⟨j.val / 256, by omega⟩ ⟨r.val % 4096 % 128, by omega⟩ e))
              (Ideal.ofBits .f32 1132462080#32) + Ideal.ofBits .f32 897988541#32)) := by
  unfold out_main_v141
  rw [hX, hO]
  pointwise

section
variable (E : Valuation τ sig (Elt Ideal))

/-- The chunked queries, keys and values and the tables a loop starts from. -/
abbrev queries : FVec Ideal S32x2x8x128x128 .f32 := E (Proc.devRef .tc main_v122_0)
/-- The chunked keys that the loop carries. -/
abbrev keys : FVec Ideal S32x2x8x128x128 .f32 := E (Proc.devRef .tc main_v122_1)
/-- The chunked values that the loop carries. -/
abbrev vals : FVec Ideal S32x2x8x128x256 .f32 := E (Proc.devRef .tc main_v122_2)
/-- The decay inside a chunk. -/
abbrev causalT : FVec Ideal S8x128x128 .f32 := E (Proc.devRef .tc main_v122_3)
/-- The decay on the queries. -/
abbrev queryT : FVec Ideal S8x128 .f32 := E (Proc.devRef .tc main_v122_4)
/-- The decay over a chunk. -/
abbrev chunkT : FVec Ideal S8 .f32 := E (Proc.devRef .tc main_v122_5)
/-- The decay on the keys. -/
abbrev keyT : FVec Ideal S8x128 .f32 := E (Proc.devRef .tc main_v122_6)

/-- The state of head `h` of sequence `b` before chunk `n`. -/
def stateOf (b : Fin 2) (h : Fin 8) (n : ℕ) : Fin 128 → Fin 256 → EReal :=
  state (fun n i d => keys E (ix5 n b h i d)) (fun n i e => vals E (ix5 n b h i e)) (fun j => keyT E (ix2 h j))
    (chunkT E (ix1 h)) n

/-- The rows of chunk `n` of head `h` of sequence `b`. -/
def rowsOf (n : Fin 32) (b : Fin 2) (h : Fin 8) : Fin 128 → Fin 256 → EReal :=
  mix (fun i d => queries E (ix5 n b h i d)) (fun j d => keys E (ix5 n b h j d)) (fun j e => vals E (ix5 n b h j e))
    (fun i j => causalT E (ix3 h i j)) (fun i => queryT E (ix2 h i)) (stateOf E b h n.val)

/-- What the trips keep. -/
theorem kept (n : ℕ) :
    queries (STEP^[n] E) = queries E ∧ keys (STEP^[n] E) = keys E ∧ vals (STEP^[n] E) = vals E
      ∧ causalT (STEP^[n] E) = causalT E ∧ queryT (STEP^[n] E) = queryT E ∧ chunkT (STEP^[n] E) = chunkT E
      ∧ keyT (STEP^[n] E) = keyT E := by
  induction n with
  | zero => exact ⟨rfl, rfl, rfl, rfl, rfl, rfl, rfl⟩
  | succ n ih =>
    rw [Function.iterate_succ_apply']
    obtain ⟨h0, h1, h2, h3, h4, h5, h6⟩ := ih
    exact ⟨(STEP_main_v122_0 _).trans h0, (STEP_main_v122_1 _).trans h1, (STEP_main_v122_2 _).trans h2,
      (STEP_main_v122_3 _).trans h3, (STEP_main_v122_4 _).trans h4, (STEP_main_v122_5 _).trans h5,
      (STEP_main_v122_6 _).trans h6⟩

variable (h7 : E (Proc.devRef .tc main_v122_7) = fun _ => (0#32 : BitVec 32))
  (h8 : ∀ x : S2x8x128x256.Idx, (E (Proc.devRef .tc main_v122_8) : FVec Ideal S2x8x128x256 .f32) x = (0 : EReal))

include h7 in
/-- The trip counter. -/
theorem counter (n : ℕ) : (STEP^[n] E) (Proc.devRef .tc main_v122_7) = fun _ => BitVec.ofNat 32 n := by
  induction n with
  | zero => exact h7
  | succ n ih =>
    rw [Function.iterate_succ_apply', STEP_main_v122_7, step_main_v122_7, ih]
    funext _
    show BitVec.ofNat 32 n + 1#32 = _
    rw [BitVec.ofNat_add]

include h7 in
/-- The queries that a trip reads. -/
theorem q_trip (n : Fin 32) (b : Fin 2) (h : Fin 8) (i d : Fin 128) :
    (res_main_while0b_v142 (STEP^[n.val] E) : FVec Ideal S2x8x128x128 .f32) (ix4 b h i d) = queries E (ix5 n b h i d) := by
  rw [res_main_while0b_v142, counter E h7 n.val]
  exact (chunk128 (queries (STEP^[n.val] E)) n b h i d).trans (by rw [(kept E n.val).1])

include h7 in
/-- The keys that a trip reads. -/
theorem k_trip (n : Fin 32) (b : Fin 2) (h : Fin 8) (i d : Fin 128) :
    (res_main_while0b_v143 (STEP^[n.val] E) : FVec Ideal S2x8x128x128 .f32) (ix4 b h i d) = keys E (ix5 n b h i d) := by
  rw [res_main_while0b_v143, counter E h7 n.val]
  exact (chunk128 (keys (STEP^[n.val] E)) n b h i d).trans (by rw [(kept E n.val).2.1])

include h7 in
/-- The values that a trip reads. -/
theorem v_trip (n : Fin 32) (b : Fin 2) (h : Fin 8) (i : Fin 128) (e : Fin 256) :
    (res_main_while0b_v144 (STEP^[n.val] E) : FVec Ideal S2x8x128x256 .f32) (ix4 b h i e) = vals E (ix5 n b h i e) := by
  rw [res_main_while0b_v144, counter E h7 n.val]
  exact (chunk256 (vals (STEP^[n.val] E)) n b h i e).trans (by rw [(kept E n.val).2.2.1])

include h7 h8 in
/-- The state after `n` trips. -/
theorem states (n : ℕ) (hn : n ≤ 32) (b : Fin 2) (h : Fin 8) (d : Fin 128) (e : Fin 256) :
    ((STEP^[n] E) (Proc.devRef .tc main_v122_8) : FVec Ideal S2x8x128x256 .f32) (ix4 b h d e) = stateOf E b h n d e := by
  induction n generalizing d e with
  | zero => exact h8 _
  | succ n ih =>
    have hc : chunk n = (⟨n, hn⟩ : Fin 32) := Fin.ext (Nat.mod_eq_of_lt hn)
    rw [Function.iterate_succ_apply', STEP_main_v122_8, step_main_v122_8, id_eq]
    refine (next_state _ _ _ _ _ b h d e).trans ?_
    rw [stateOf, state, hc]
    refine congrArg₂ (· + ·) (congrArg₂ (· * ·) (ih (Nat.le_of_succ_le hn) d e) ?_) ?_
    · exact congrFun (kept E n).2.2.2.2.2.1 _
    · refine Finset.sum_congr rfl fun j _ => congrArg₂ (· * ·) (congrArg₂ (· * ·) (k_trip E h7 ⟨n, hn⟩ b h j d) ?_) (v_trip E h7 ⟨n, hn⟩ b h j e)
      exact congrFun (kept E n).2.2.2.2.2.2 _

include h7 h8 in
/-- The rows stored after `n` trips: those of every chunk before `n`. -/
theorem stored_rows (n : ℕ) (hn : n ≤ 32) (k : Fin 32) (hk : k.val < n) (b : Fin 2) (h : Fin 8) (i : Fin 128) (e : Fin 256) :
    ((STEP^[n] E) (Proc.devRef .tc main_v122_9) : FVec Ideal S32x2x8x128x256 .f32) (ix5 k b h i e) = rowsOf E k b h i e := by
  induction n with
  | zero => exact absurd hk (Nat.not_lt_zero _)
  | succ n ih =>
    rw [Function.iterate_succ_apply', STEP_main_v122_9, step_main_v122_9, id_eq, counter E h7 n]
    refine (stored _ _ ⟨n, hn⟩ k b h i e).trans ?_
    by_cases he : k = ⟨n, hn⟩
    · rw [if_pos he]
      subst he
      refine (rows _ _ _ _ _ _ b h i e).trans ?_
      rw [rowsOf]
      have hq : (fun i d => (res_main_while0b_v142 (STEP^[n] E) : FVec Ideal S2x8x128x128 .f32) (ix4 b h i d)) = fun i d => queries E (ix5 ⟨n, hn⟩ b h i d) :=
        funext fun i => funext fun d => q_trip E h7 ⟨n, hn⟩ b h i d
      have hkk : (fun i d => (res_main_while0b_v143 (STEP^[n] E) : FVec Ideal S2x8x128x128 .f32) (ix4 b h i d)) = fun i d => keys E (ix5 ⟨n, hn⟩ b h i d) :=
        funext fun i => funext fun d => k_trip E h7 ⟨n, hn⟩ b h i d
      have hv : (fun i e => (res_main_while0b_v144 (STEP^[n] E) : FVec Ideal S2x8x128x256 .f32) (ix4 b h i e)) = fun i e => vals E (ix5 ⟨n, hn⟩ b h i e) :=
        funext fun i => funext fun e => v_trip E h7 ⟨n, hn⟩ b h i e
      have hs : (fun d e => ((STEP^[n] E) (Proc.devRef .tc main_v122_8) : FVec Ideal S2x8x128x256 .f32) (ix4 b h d e)) = stateOf E b h n :=
        funext fun d => funext fun e => states E h7 h8 n (Nat.le_of_succ_le hn) b h d e
      have h3 : (fun i j => ((STEP^[n] E) (Proc.devRef .tc main_v122_3) : FVec Ideal S8x128x128 .f32) (ix3 h i j)) = fun i j => causalT E (ix3 h i j) :=
        funext fun i => funext fun j => congrFun (kept E n).2.2.2.1 _
      have h4 : (fun i => ((STEP^[n] E) (Proc.devRef .tc main_v122_4) : FVec Ideal S8x128 .f32) (ix2 h i)) = fun i => queryT E (ix2 h i) :=
        funext fun i => congrFun (kept E n).2.2.2.2.1 _
      exact congrFun (congrFun (by rw [hq, hkk, hv, hs, h3, h4]) i) e
    · rw [if_neg he]
      refine ih (Nat.le_of_succ_le hn) ?_
      have : k.val ≠ n := fun hh => he (Fin.ext hh)
      omega

end

end Cert.ReferenceIdeal.Loop

end

end
-- ==== Proof.RefResult.lean ====
module

public import proofs.«01_k».proof.Proof.Result
public import proofs.«01_k».proof.Proof.RefLoop

/-! The array that the reference leaves, as the gated retention of its two arguments. -/

@[expose] public section

set_option maxRecDepth 16384

noncomputable section

namespace Cert.ReferenceIdeal.Outcome

open Cert.ReferenceIdeal Cert.ReferenceIdeal.Gen Cert.ReferenceIdeal.Value Cert.ReferenceIdeal.Entry Cert.ReferenceIdeal.Loop Cert.Retention
open Idealize.ShloMosaic Idealize.ShloMosaic.TcCoe Idealize.SL.Sem
open Idealize.ShloMosaic.StableHlo Idealize.ShloMosaic.HostLoop

section Contents

variable (V : Valuation τ sig (Elt Ideal)) (X : FVec Ideal S8192x21840 .f32) (P : IVec S2x4096 32)
  (hX : V (Proc.devRef .tc main_arg0) = X) (hP : V (Proc.devRef .tc main_arg1) = P)

include hX hP in
/-- The loop's keys are the rotated and scaled keys. -/
theorem keys_eq (b : Fin 2) (h : Fin 8) :
    (fun n i d => keys (afterL preI V) (ix5 n b h i d)) = keyAt (fun r k => X (ix2 r k)) (fun b s => P (ix2 b s)) b h := by
  funext n i d
  exact entry1 V X P hX hP n b h i d

include hX in
/-- The loop's values are the projected values. -/
theorem vals_eq (b : Fin 2) (h : Fin 8) :
    (fun n i e => vals (afterL preI V) (ix5 n b h i e)) = valueAt (fun r k => X (ix2 r k)) b h := by
  funext n i e
  exact entry2 V X hX n b h i e

include hX hP in
/-- The state before each chunk. -/
theorem state_eq (b : Fin 2) (h : Fin 8) (n : ℕ) :
    stateOf (afterL preI V) b h n = stateAt (fun r k => X (ix2 r k)) (fun b s => P (ix2 b s)) b h n := by
  have e6 : (fun j => keyT (afterL preI V) (ix2 h j)) = fun j : Fin 128 => keyDecay h.val j.val := funext fun j => entry6 V h j
  have e5 : chunkT (afterL preI V) (ix1 h) = chunkDecay h.val := entry5 V h
  unfold stateOf stateAt
  rw [keys_eq V X P hX hP, vals_eq V X hX, e6, e5]

include hX hP in
/-- The rows of each chunk. -/
theorem rows_eq (n : Fin 32) (b : Fin 2) (h : Fin 8) :
    rowsOf (afterL preI V) n b h = rowsAt (fun r k => X (ix2 r k)) (fun b s => P (ix2 b s)) b h n := by
  have e0 : (fun i d => queries (afterL preI V) (ix5 n b h i d)) = queryAt (fun r k => X (ix2 r k)) (fun b s => P (ix2 b s)) b h n := by
    funext i d
    exact entry0 V X P hX hP n b h i d
  have e1 : (fun i d => keys (afterL preI V) (ix5 n b h i d)) = keyAt (fun r k => X (ix2 r k)) (fun b s => P (ix2 b s)) b h n :=
    congrFun (keys_eq V X P hX hP b h) n
  have e2 : (fun i e => vals (afterL preI V) (ix5 n b h i e)) = valueAt (fun r k => X (ix2 r k)) b h n :=
    congrFun (vals_eq V X hX b h) n
  have e3 : (fun i j => causalT (afterL preI V) (ix3 h i j)) = fun i j : Fin 128 => causal h.val i.val j.val :=
    funext fun i => funext fun j => entry3 V h i j
  have e4 : (fun i => queryT (afterL preI V) (ix2 h i)) = fun i : Fin 128 => queryDecay h.val i.val := funext fun i => entry4 V h i
  unfold rowsOf rowsAt
  rw [e0, e1, e2, e3, e4, state_eq V X P hX hP]

end Contents

variable (m : (ℓ : Loc nD τ sig) → Buf (Elt Ideal) ℓ) (c : Dev nD)

/-- The projections. -/
abbrev proj : FVec Ideal S8192x21840 .f32 := m ((c : Thread nD τ).loc main_arg0)

/-- The positions. -/
abbrev place : IVec S2x4096 32 := m ((c : Thread nD τ).loc main_arg1)

/-- The array that the reference leaves. -/
def retention : FVec Ideal S8192x2048 .bf16 :=
  fun y => retained (fun r k => proj m c (ix2 r k)) (fun b s => place m c (ix2 b s)) (y 0) (y 1)

/-- The rows that all the trips have stored. -/
theorem stored_eq (k : Fin 32) (b : Fin 2) (h : Fin 8) (i : Fin 128) (e : Fin 256) :
    ((STEP^[32] (entryContents preI m c)) (Proc.devRef .tc main_v122_9) : FVec Ideal S32x2x8x128x256 .f32) (ix5 k b h i e)
      = rowsAt (fun r k => proj m c (ix2 r k)) (fun b s => place m c (ix2 b s)) b h k i e :=
  (stored_rows (entryContents preI m c) (ctr_entry m c) (entry8 (launchContents m c)) 32 (le_refl _) k k.isLt b h i e).trans
    (congrFun (congrFun (rows_eq (launchContents m c) (proj m c) (place m c) rfl rfl k b h) i) e)

/-- The reference's result is the gated retention. -/
theorem result_eq : (out_main_v141 (STEP^[32] (entryContents preI m c)) : FVec Ideal S8192x2048 .bf16) = retention m c := by
  funext y
  obtain ⟨r, j, rfl⟩ : ∃ r j, y = ix2 r j := ⟨y 0, y 1, by idx_vars y⟩
  refine (normalised _ (proj m c) _ (iter_main_arg0 m c 32) rfl r j).trans ?_
  simp only [stored_eq m c]
  rfl

end Cert.ReferenceIdeal.Outcome

end

end
-- ==== Proof.OutProj.lean ====
module

public import proofs.«01_k».proof.Proof.Gen.KernelOutIdeal.Value
public import proofs.«01_k».proof.Proof.Gen.ReferenceOutIdeal.Run
public import Idealize.ShloMosaic.Lib.Pipeline.ValueKit
public import Idealize.ShloMosaic.Lib.Pipeline.ReadBack
public import Idealize.ShloMosaic.Lib.Pointwise

/-! The output projection: its blocks are the rows of one product, with the residual added, and the reference's array is the same. -/

@[expose] public section

set_option maxRecDepth 16384

noncomputable section

namespace Cert.KernelOutIdeal.Product

open Cert.KernelOutIdeal Cert.KernelOutIdeal.Gen Cert.KernelOutIdeal.Value
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![t.val % 16, 0] ∧ win0_1.index t = ![0, t.val / 16]
    ∧ win0_2.index t = ![t.val % 16, t.val / 16] ∧ win0_3.index t = ![t.val % 16, t.val / 16] :=
  (by decide +kernel : ∀ t : Fin grid0.N, _)

/-- There are 128 grid points. -/
theorem points (t : Fin cfg0.N) : t.val < 128 := lt_of_lt_of_eq t.isLt N_0

/-- The merged rows. -/
abbrev merged : FVec Ideal S8192x4096 .bf16 := m ((c : Thread nD τ).loc main_arg0)

/-- The weights. -/
abbrev weights : FVec Ideal S1x4096x4096 .f32 := m ((c : Thread nD τ).loc main_arg1)

/-- The residual rows. -/
abbrev residual : FVec Ideal S8192x4096 .f32 := m ((c : Thread nD τ).loc main_arg2)

/-- The rows at a point. -/
theorem rows_block (t : Fin cfg0.N) (i : Fin 512) (k : Fin 4096) :
    (iblk m c 0 t : Vec Ideal S512x4096 .bf16) (ix2 i k) = merged m c (ix2 ⟨t.val % 16 * 512 + i.val, by omega⟩ k) := by
  blk_ext [iblk, V, idx t]

/-- The weights' columns at a point. -/
theorem weights_block (t : Fin cfg0.N) (k : Fin 4096) (j : Fin 512) :
    (iblk m c 1 t : Vec Ideal S4096x512 .f32) (ix2 k j)
      = weights m c (ix3 0 k ⟨t.val / 16 * 512 + j.val, by have := points t; omega⟩) := by
  have e : V m c (Pipeline.arrRef spec0 1) = (shapeCast S4096x4096 (weights m c) shapeCasts_S1x4096x4096_S4096x4096 : FVec Ideal S4096x4096 .f32) := by
    entry_read
    rfl
  have e' : (shapeCast S4096x4096 (weights m c) shapeCasts_S1x4096x4096_S4096x4096 : FVec Ideal S4096x4096 .f32) (ix2 k ⟨t.val / 16 * 512 + j.val, by have := points t; omega⟩)
      = weights m c (ix3 0 k ⟨t.val / 16 * 512 + j.val, by have := points t; omega⟩) := by
    pointwise
  refine Eq.trans ?_ e'
  rw [← e]
  blk_ext [iblk, idx t]

/-- The residual at a point. -/
theorem residual_block (t : Fin cfg0.N) (i j : Fin 512) :
    (iblk m c 2 t : Vec Ideal S512x512 .f32) (ix2 i j)
      = residual m c (ix2 ⟨t.val % 16 * 512 + i.val, by omega⟩ ⟨t.val / 16 * 512 + j.val, by have := points t; omega⟩) := by
  blk_ext [iblk, V, idx t]

/-- A block of the product, with the residual's block added. -/
def block (X : FVec Ideal S512x4096 .bf16) (W : FVec Ideal S4096x512 .bf16) (R : FVec Ideal S512x512 .f32) :
    FVec Ideal S512x512 .f32 :=
  fun y => (∑ k : Fin 4096, X (ix2 (y 0) k) * W (ix2 k (y 1))) + R y

/-- At the first row block of a column, the scratch receives the weights' columns. -/
theorem scratch_A (t : Fin cfg0.N) (h : t.val % 16 = 0) :
    (outsAt0 m c t.val t.isLt).2 = (iblk m c 1 t : FVec Ideal S4096x512 .f32) := by
  rw [outsAt0_A m c t h]
  frame_open
  frame_out
  funext x
  generalize iblk m c 1 t = W
  change FVec Ideal S4096x512 .f32 at W
  open_payloads
  pointwise

/-- At the other row blocks, the scratch keeps what it holds. -/
theorem scratch_B (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  rfl

/-- At the first row block of a column, the block written is the product with the weights just stored. -/
theorem out_A (t : Fin cfg0.N) (h : t.val % 16 = 0) :
    (outsAt0 m c t.val t.isLt).1 = block (iblk m c 0 t) (iblk m c 1 t) (iblk m c 2 t) := by
  rw [outsAt0_A m c t h]
  frame_open
  frame_out
  funext y
  generalize iblk m c 0 t = X
  generalize iblk m c 1 t = W
  generalize iblk m c 2 t = R
  change FVec Ideal S512x4096 .bf16 at X
  change FVec Ideal S4096x512 .f32 at W
  change FVec Ideal S512x512 .f32 at R
  open_payloads
  pointwise [block]

/-- At the other row blocks, the block written is the product with what the scratch holds. -/
theorem out_B (t : Fin cfg0.N) (h : ¬t.val % 16 = 0) :
    (outsAt0 m c t.val t.isLt).1
      = block (iblk m c 0 t) (outsAt0 m c (t.val - 1) (Nat.lt_of_le_of_lt (Nat.sub_le _ _) t.isLt)).2 (iblk m c 2 t) := by
  rw [outsAt0_B m c t h]
  frame_out
  simp only [read_unread_whole]
  generalize (outsAt0 m c (t.val - 1) _).2 = S
  funext y
  generalize iblk m c 0 t = X
  generalize iblk m c 2 t = R
  change FVec Ideal S512x4096 .bf16 at X
  change FVec Ideal S512x512 .f32 at R
  open_payloads
  pointwise [block]

/-- After each point, the scratch holds the weights' columns of the point's column. -/
theorem scratch_eq (n : ℕ) (hn : n < cfg0.N) (k : Fin 4096) (j : Fin 512) :
    (outsAt0 m c n hn).2 (ix2 k j)
      = weights m c (ix3 0 k ⟨n / 16 * 512 + j.val, by have := points ⟨n, hn⟩; simp only at this; omega⟩) := by
  induction n with
  | zero => exact (congrFun (scratch_A m c ⟨0, hn⟩ rfl) (ix2 k j)).trans (weights_block m c ⟨0, hn⟩ k j)
  | succ n ih =>
    by_cases h : (n + 1) % 16 = 0
    · exact (congrFun (scratch_A m c ⟨n + 1, hn⟩ h) (ix2 k j)).trans (weights_block m c ⟨n + 1, hn⟩ k j)
    · refine (congrFun (scratch_B m c ⟨n + 1, hn⟩ h) (ix2 k j)).trans ((ih (Nat.lt_of_succ_lt hn)).trans ?_)
      congr 3
      omega

/-- The array that the kernel leaves. -/
def product : FVec Ideal S8192x4096 .f32 := fun y =>
  (∑ k : Fin 4096, merged m c (ix2 (y 0) k) * weights m c (ix3 0 k (y 1))) + residual m c y

/-- What a point writes, in terms of the arguments. -/
theorem block_eq (t : Fin cfg0.N) (i j : Fin 512) :
    (outsAt0 m c t.val t.isLt).1 (ix2 i j)
      = product m c (ix2 ⟨t.val % 16 * 512 + i.val, by omega⟩ ⟨t.val / 16 * 512 + j.val, by have := points t; omega⟩) := by
  by_cases h : t.val % 16 = 0
  · rw [out_A m c t h]
    refine congrArg₂ (· + ·) (Finset.sum_congr rfl fun k _ => congrArg₂ (· * ·) (rows_block m c t i k) (weights_block m c t k j)) (residual_block m c t i j)
  · rw [out_B m c t h]
    refine congrArg₂ (· + ·) (Finset.sum_congr rfl fun k _ => congrArg₂ (· * ·) (rows_block m c t i k) ((scratch_eq m c (t.val - 1) _ k j).trans ?_)) (residual_block m c t i j)
    congr 3
    omega

/-- After every point, the output array is the product with the residual added. -/
theorem array_eq : (dats m 0 c).arrAt 3 cfg0.N = product m c := by
  refine (dats m 0 c).arrAt_eq_of_covers 3 _ (by decide +kernel) fun t _ y => ?_
  blk_simp
  rw [after0_3]
  obtain ⟨i, j, rfl⟩ : ∃ i j : Fin 512, y = ix2 i j := ⟨y 0, y 1, by idx_vars y⟩
  refine (block_eq m c t i j).trans (congrArg (product m c) ?_)
  blk_ext [idx t]

end Cert.KernelOutIdeal.Product

namespace Cert.ReferenceOutIdeal.Product

open Cert.ReferenceOutIdeal Cert.ReferenceOutIdeal.Gen
open Idealize.ShloMosaic

/-- The reference's array is the product with the residual added. -/
theorem result_eq (X : FVec Ideal S8192x4096 .bf16) (W : FVec Ideal S1x4096x4096 .f32) (R : FVec Ideal S8192x4096 .f32) :
    addf R (Host.dotGeneral dot_S8192x4096_S4096x4096_S8192x4096_1_0_0_1_n_n none (extf .f32 X bitsLt_bf16_f32)
        (shapeCast S4096x4096 W shapeCasts_S1x4096x4096_S4096x4096))
      = fun y => (∑ k : Fin 4096, X (ix2 (y 0) k) * W (ix3 0 k (y 1))) + R y := by
  funext y
  obtain ⟨i, j, rfl⟩ : ∃ i j, y = ix2 i j := ⟨y 0, y 1, by idx_vars y⟩
  pointwise
  rw [add_comm]

end Cert.ReferenceOutIdeal.Product

end

end
-- ==== Proof.QueryProj.lean ====
module

public import proofs.«01_k».proof.Proof.Gen.KernelQueryIdeal.Value
public import proofs.«01_k».proof.Proof.Gen.ReferenceQueryIdeal.Run
public import Idealize.ShloMosaic.Lib.Pipeline.ValueKit
public import Idealize.ShloMosaic.Lib.Pipeline.ReadBack
public import Idealize.ShloMosaic.Lib.Pointwise

/-! The experts' query projection: its blocks are the rows and columns of one product, and the reference's array is the same. -/

@[expose] public section

set_option maxRecDepth 16384

noncomputable section

namespace Cert.KernelQueryIdeal.Product

open Cert.KernelQueryIdeal Cert.KernelQueryIdeal.Gen Cert.KernelQueryIdeal.Value
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- There are 64 grid points. -/
theorem points (t : Fin cfg0.N) : t.val < 64 := lt_of_lt_of_eq t.isLt N_0

/-- The normalised rows. -/
abbrev rows : FVec Ideal S8192x4096 .bf16 := m ((c : Thread nD τ).loc main_arg0)

/-- The weights. -/
abbrev weights : FVec Ideal S1x4096x2048 .f32 := m ((c : Thread nD τ).loc main_arg1)

/-- The rows at a point. -/
theorem rows_block (t : Fin cfg0.N) (i : Fin 512) (k : Fin 4096) :
    (iblk m c 0 t : Vec Ideal S512x4096 .bf16) (ix2 i k) = rows m c (ix2 ⟨t.val % 16 * 512 + i.val, by omega⟩ k) := by
  blk_ext [iblk, V, idx t]

/-- The weights' columns at a point. -/
theorem weights_block (t : Fin cfg0.N) (k : Fin 4096) (j : Fin 512) :
    (iblk m c 1 t : Vec Ideal S4096x512 .f32) (ix2 k j)
      = weights m c (ix3 0 k ⟨t.val / 16 * 512 + j.val, by have := points t; omega⟩) := by
  have e : V m c (Pipeline.arrRef spec0 1) = (shapeCast S4096x2048 (weights m c) shapeCasts_S1x4096x2048_S4096x2048 : FVec Ideal S4096x2048 .f32) := by
    entry_read
    rfl
  have e' : (shapeCast S4096x2048 (weights m c) shapeCasts_S1x4096x2048_S4096x2048 : FVec Ideal S4096x2048 .f32) (ix2 k ⟨t.val / 16 * 512 + j.val, by have := points t; omega⟩)
      = weights m c (ix3 0 k ⟨t.val / 16 * 512 + j.val, by have := points t; omega⟩) := by
    pointwise
  refine Eq.trans ?_ e'
  rw [← e]
  blk_ext [iblk, idx t]

/-- A block of the product. -/
def block (X : FVec Ideal S512x4096 .bf16) (W : FVec Ideal S4096x512 .bf16) :
    FVec Ideal S512x512 .f32 :=
  fun y => ∑ k : Fin 4096, X (ix2 (y 0) k) * W (ix2 k (y 1))

/-- At the first row block of a column, the scratch receives the weights' columns. -/
theorem scratch_A (t : Fin cfg0.N) (h : t.val % 16 = 0) :
    (outsAt0 m c t.val t.isLt).2 = (iblk m c 1 t : FVec Ideal S4096x512 .f32) := by
  rw [outsAt0_A m c t h]
  frame_open
  frame_out
  funext x
  generalize iblk m c 1 t = W
  change FVec Ideal S4096x512 .f32 at W
  open_payloads
  pointwise

/-- At the other row blocks, the scratch keeps what it holds. -/
theorem scratch_B (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  rfl

/-- At the first row block of a column, the block written is the product with the weights just stored. -/
theorem out_A (t : Fin cfg0.N) (h : t.val % 16 = 0) :
    (outsAt0 m c t.val t.isLt).1 = block (iblk m c 0 t) (iblk m c 1 t) := by
  rw [outsAt0_A m c t h]
  frame_open
  frame_out
  funext y
  generalize iblk m c 0 t = X
  generalize iblk m c 1 t = W
  change FVec Ideal S512x4096 .bf16 at X
  change FVec Ideal S4096x512 .f32 at W
  open_payloads
  pointwise [block]

/-- At the other row blocks, the block written is the product with what the scratch holds. -/
theorem out_B (t : Fin cfg0.N) (h : ¬t.val % 16 = 0) :
    (outsAt0 m c t.val t.isLt).1
      = block (iblk m c 0 t) (outsAt0 m c (t.val - 1) (Nat.lt_of_le_of_lt (Nat.sub_le _ _) t.isLt)).2 := by
  rw [outsAt0_B m c t h]
  frame_out
  simp only [read_unread_whole]
  generalize (outsAt0 m c (t.val - 1) _).2 = S
  funext y
  generalize iblk m c 0 t = X
  change FVec Ideal S512x4096 .bf16 at X
  open_payloads
  pointwise [block]

/-- After each point, the scratch holds the weights' columns of the point's column. -/
theorem scratch_eq (n : ℕ) (hn : n < cfg0.N) (k : Fin 4096) (j : Fin 512) :
    (outsAt0 m c n hn).2 (ix2 k j)
      = weights m c (ix3 0 k ⟨n / 16 * 512 + j.val, by have := points ⟨n, hn⟩; simp only at this; omega⟩) := by
  induction n with
  | zero => exact (congrFun (scratch_A m c ⟨0, hn⟩ rfl) (ix2 k j)).trans (weights_block m c ⟨0, hn⟩ k j)
  | succ n ih =>
    by_cases h : (n + 1) % 16 = 0
    · exact (congrFun (scratch_A m c ⟨n + 1, hn⟩ h) (ix2 k j)).trans (weights_block m c ⟨n + 1, hn⟩ k j)
    · refine (congrFun (scratch_B m c ⟨n + 1, hn⟩ h) (ix2 k j)).trans ((ih (Nat.lt_of_succ_lt hn)).trans ?_)
      congr 3
      omega

/-- The array that the kernel leaves. -/
def product : FVec Ideal S8192x2048 .f32 := fun y =>
  ∑ k : Fin 4096, rows m c (ix2 (y 0) k) * weights m c (ix3 0 k (y 1))

/-- What a point writes, in terms of the arguments. -/
theorem block_eq (t : Fin cfg0.N) (i j : Fin 512) :
    (outsAt0 m c t.val t.isLt).1 (ix2 i j)
      = product m c (ix2 ⟨t.val % 16 * 512 + i.val, by omega⟩ ⟨t.val / 16 * 512 + j.val, by have := points t; omega⟩) := by
  by_cases h : t.val % 16 = 0
  · rw [out_A m c t h]
    refine (Finset.sum_congr rfl fun k _ => congrArg₂ (· * ·) (rows_block m c t i k) (weights_block m c t k j))
  · rw [out_B m c t h]
    refine (Finset.sum_congr rfl fun k _ => congrArg₂ (· * ·) (rows_block m c t i k) ((scratch_eq m c (t.val - 1) _ k j).trans ?_))
    congr 3
    omega

/-- After every point, the output array is the product. -/
theorem array_eq : (dats m 0 c).arrAt 2 cfg0.N = product m c := by
  refine (dats m 0 c).arrAt_eq_of_covers 2 _ (by decide +kernel) fun t _ y => ?_
  blk_simp
  rw [after0_2]
  obtain ⟨i, j, rfl⟩ : ∃ i j : Fin 512, y = ix2 i j := ⟨y 0, y 1, by idx_vars y⟩
  refine (block_eq m c t i j).trans (congrArg (product m c) ?_)
  blk_ext [idx t]

end Cert.KernelQueryIdeal.Product

namespace Cert.ReferenceQueryIdeal.Product

open Cert.ReferenceQueryIdeal Cert.ReferenceQueryIdeal.Gen
open Idealize.ShloMosaic

/-- The reference's array is the product. -/
theorem result_eq (X : FVec Ideal S8192x4096 .bf16) (W : FVec Ideal S1x4096x2048 .f32) :
    Host.dotGeneral dot_S8192x4096_S4096x2048_S8192x2048_1_0_0_1_n_n none (extf .f32 X bitsLt_bf16_f32)
        (shapeCast S4096x2048 W shapeCasts_S1x4096x2048_S4096x2048)
      = fun y => ∑ k : Fin 4096, X (ix2 (y 0) k) * W (ix3 0 k (y 1)) := by
  funext y
  obtain ⟨i, j, rfl⟩ : ∃ i j, y = ix2 i j := ⟨y 0, y 1, by idx_vars y⟩
  pointwise

end Cert.ReferenceQueryIdeal.Product

end

end
-- ==== Proof.InFrame.lean ====
module

public import proofs.«01_k».proof.Proof.Gen.KernelIn.Frame
public import proofs.«01_k».proof.Proof.Gen.KernelIn.Skeleton

/-! The frame of the input projection: the last blocks of the weights and of the result reach past their arrays, so nothing
    is said here of what the buffers hold; the body runs from any contents and the arguments are only read. -/

@[expose] public section

set_option maxRecDepth 16384

noncomputable section

namespace Cert.KernelIn.Loose

open Cert.KernelIn Cert.KernelIn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch that keeps the weights. -/
abbrev keep : Memref sig .tc .vmem S4096x768 .bf16 := Memref.whole cc0_scratch0

/-- The body's branch: the first row block of a column. -/
abbrev first (i : grid0.Coords) : Prop :=
  (Scalar.cmpi .ne (Scalar.extui (Scalar.cmpi .eq (BitVec.ofNat 32 (i 1).val) 0#32)) 0#32) = 1#1

/-- Some contents for a buffer. -/
abbrev held {s : Shape} {e : EltTy} (c : Dev nD) (a : Memref sig .tc .vmem s e) : sProp 𝕄 :=
  iprop(∃ d, owns (c : Thread nD τ) a fullShare d)

set_option maxHeartbeats 1000000 in
/-- The body runs from any contents of its buffers and leaves them at some contents. -/
theorem body_runs (c : Dev nD) (i : grid0.Coords) (arg2 : Memref sig .tc .vmem S512x4096 .bf16) (harg2 : arg2.IsWhole)
    (arg3 : Memref sig .tc .vmem S4096x768 .f32) (harg3 : arg3.IsWhole) (arg4 : Memref sig .tc .vmem S512x768 .f32)
    (harg4 : arg4.IsWhole) (arg5 : Memref sig .tc .vmem S4096x768 .bf16) (harg5 : arg5.IsWhole) (E : Set ℕ) (K : PUnit → sProp 𝕄) :
    iprop(held (F := F) c arg2 ∗ held (F := F) c arg3 ∗ held (F := F) c arg4 ∗ held (F := F) c arg5
        ∗ (iprop(held (F := F) c arg2 ∗ held (F := F) c arg3 ∗ held (F := F) c arg4 ∗ held (F := F) c arg5) -∗ K ⟨⟩))
      ⊢ wp frame (wpE (defs₀ (F := F)) Variants.none c none) E (cc0_in_proj i arg2 harg2 arg3 harg3 arg4 harg4 arg5 harg5) K := by
  simp only [cc0_in_proj_eq_skeleton]
  unfold cc0_in_proj_skel held owns
  iintro ⟨⟨%d0, %f0, -, H0⟩, ⟨%d1, %f1, -, H1⟩, ⟨%d2, %f2, -, H2⟩, ⟨%d3, %f3, -, H3⟩, Hk⟩
  by_cases hc : first i
  · sl_exec (disch := first | sl_exact hc)
    sl_step
    iapply Hk
    isplitl [H0]; · iexists _; iexists _; isplitr; swap; · iexact H0
                    ipureintro; rfl
    isplitl [H1]; · iexists _; iexists _; isplitr; swap; · iexact H1
                    ipureintro; rfl
    isplitl [H2]; · iexists _; iexists _; isplitr; swap; · iexact H2
                    ipureintro; rfl
    iexists _; iexists _; isplitr; swap; · iexact H3
    ipureintro; rfl
  · sl_exec (disch := first | sl_exact hc)
    sl_step
    iapply Hk
    isplitl [H0]; · iexists _; iexists _; isplitr; swap; · iexact H0
                    ipureintro; rfl
    isplitl [H1]; · iexists _; iexists _; isplitr; swap; · iexact H1
                    ipureintro; rfl
    isplitl [H2]; · iexists _; iexists _; isplitr; swap; · iexact H2
                    ipureintro; rfl
    iexists _; iexists _; isplitr; swap; · iexact H3
    ipureintro; rfl

/-- The data of the pipeline: the arrays as the region finds them, and nothing said of what the body leaves. -/
def data (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The data's arrays are those that the region finds. -/
theorem data_A (c : Dev nD) (w : Fin cfg0.W) : (data m c).A w = V m c (Pipeline.arrRef spec0 w) := by
  dsimp only [data]

/-- The class's invariant holds the scratch at some contents, and the generator register. -/
theorem invariant_eq (c : Dev nD) :
    (Pipeline.ΦA spec0 c : sProp 𝕄) = iprop(held (F := F) c keep ∗ (∃ r, prngReg c r)) := by
  unfold Pipeline.ΦA held; rw [scopedRest0_eq]; simp only [keep, owns_whole]; rfl

/-- The body table's row at a point is the kernel's body there. -/
theorem row (t : Fin cfg0.N) : defs₀ (F := F) .tc cfg0.body (cfg0.bodyArgs t (cfg0.slots t)) = bodyAt0 t := by
  unfold defs₀; rw [Defs.onTc_tc]

/-- The body at a point, from any contents of the windows' buffers. -/
theorem body_point (c : Dev nD) (t : Fin cfg0.N) (Y : (w : Fin cfg0.W) → (cfg0.win w).block.Idx → Elt F (cfg0.win w).elt) :
    iprop((data m c).Φ t.castSucc ∗ (data m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
        iprop((data m c).Φ t.succ ∗ (data m c).owesAt () t.succ
          ∗ (∃ X, ⌜(data m c).after 0 t (Y 0) X⌝ ∗ owns (c : Thread nD τ) (st0_0 t) fullShare X)
          ∗ (∃ X, ⌜(data m c).after 1 t (Y 1) X⌝ ∗ owns (c : Thread nD τ) (st0_1 t) fullShare X)
          ∗ (∃ X, ⌜(data m c).after 2 t (Y 2) X⌝ ∗ owns (c : Thread nD τ) (st0_2 t) fullShare X))) := by
  rw [show (data m c).Φ t.castSucc = Pipeline.ΦA spec0 c from rfl, show (data m c).Φ t.succ = Pipeline.ΦA spec0 c from rfl,
    show (data m c).owesAt () t.succ = (data m c).owesAt () t.castSucc from rfl, invariant_eq]
  iintro ⟨⟨HS, Hg⟩, Ho, H0, H1, H2⟩
  iapply (body_runs c (grid0.coords t) _ _ _ _ _ _ _ _ Set.univ _)
  isplitl [H0]; · iexists _; iexact H0
  isplitl [H1]; · iexists _; iexact H1
  isplitl [H2]; · iexists _; iexact H2
  isplitl [HS]; · iexact HS
  iintro ⟨⟨%d0, H0⟩, ⟨%d1, H1⟩, ⟨%d2, H2⟩, HS⟩
  isplitl [HS Hg]
  · isplitl [HS]; · iexact HS
    iexact Hg
  isplitl [Ho]; · iexact Ho
  isplitl [H0]
  · iexists _; isplitr; swap; · iexact H0
    ipureintro; trivial
  isplitl [H1]
  · iexists _; isplitr; swap; · iexact H1
    ipureintro; trivial
  iexists _; isplitr; swap; · iexact H2
  ipureintro; trivial

/-- The body's obligation, at every point. -/
theorem obligation (c : Dev nD) : (data (F := F) m c).BodyObligation (defs₀ (F := F)) Variants.none () Set.univ := fun t Y _ => by
  rw [bigSep_W0, bigSep_W0, row]
  exact triple_restated (body_point m c t Y) rfl .rfl fun _ => .rfl

set_option backward.isDefEq.respectTransparency.types false in
/-- Every run ends, with the input arrays unchanged and every counter at zero. -/
theorem run : θ_run defs (onTc (τ := τ) (main (F := F))) (s₀ m ρ)
    (fun r => RDat.FramePost cfg0 (data m) (V m) r ∧ r.2.sem = fun _ => 0) :=
  RDat.θ_run_frame (Q' := _) cfgs (0 : Fin 1) launch0 defs₀ Variants.none (data m) m ρ main
    (hbody := obligation m) (hshare := fun c w => by unfold RDat.share; split <;> rfl)
    (howed := fun _ _ => rfl) (V := V m) (hmain := hmain m Variants.none) (hA := data_A m) (hΦ := fun _ _ => rfl)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1.arr_in c 0 rfl).trans ((data_A m c 0).trans (V_main_arg0 m c)),
      ((h.1 c).2 main_arg1 (Pipeline.mem_restRefs_of main_arg1 (by decide) (by decide))).trans (V_main_arg1 m c)⟩, h.2⟩) (run m ρ)

end Cert.KernelIn.Loose

end

end
-- ==== Proof.InBody.lean ====
module

public import proofs.«01_k».proof.Proof.Gen.KernelInIdeal.Frame
public import proofs.«01_k».proof.Proof.Gen.KernelInIdeal.Skeleton
public import Idealize.ShloMosaic.Lib.Pipeline.ValueKit
public import Idealize.ShloMosaic.Lib.Pipeline.ReadBack
public import Idealize.ShloMosaic.Lib.Pointwise
public import Idealize.ShloMosaic.Lib.VecWindow

/-! The body of the input projection, run once: what it leaves in its buffers. -/

@[expose] public section

set_option maxRecDepth 16384

noncomputable section

namespace Cert.KernelInIdeal.Columns

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The body's branch: the first row block of a column. -/
abbrev first (i : grid0.Coords) : Prop :=
  (Scalar.cmpi .ne (Scalar.extui (Scalar.cmpi .eq (BitVec.ofNat 32 (i 1).val) 0#32)) 0#32) = 1#1

set_option maxHeartbeats 1000000 in
/-- At the first row block of a column, the body keeps the weights and writes their product with the rows. -/
theorem runs_first (c : Dev nD) (i : grid0.Coords) (arg2 : Memref sig .tc .vmem S512x4096 .bf16) (harg2 : arg2.IsWhole)
    (arg3 : Memref sig .tc .vmem S4096x768 .f32) (harg3 : arg3.IsWhole) (arg4 : Memref sig .tc .vmem S512x768 .f32)
    (harg4 : arg4.IsWhole) (arg5 : Memref sig .tc .vmem S4096x768 .bf16) (harg5 : arg5.IsWhole) (hc : first i)
    (X : FVec Ideal S512x4096 .bf16) (W : FVec Ideal S4096x768 .f32) (E : Set ℕ) (K : PUnit → sProp 𝕄) :
    iprop(owns (c : Thread nD τ) arg2 fullShare X ∗ owns (c : Thread nD τ) arg3 fullShare W
        ∗ (∃ d, owns (c : Thread nD τ) arg4 fullShare d) ∗ (∃ d, owns (c : Thread nD τ) arg5 fullShare d)
        ∗ (iprop(owns (c : Thread nD τ) arg2 fullShare X ∗ owns (c : Thread nD τ) arg3 fullShare W
            ∗ owns (c : Thread nD τ) arg4 fullShare (k0_pay2 (F := Ideal) X (k0_pay1 (F := Ideal) W))
            ∗ owns (c : Thread nD τ) arg5 fullShare (k0_pay1 (F := Ideal) W)) -∗ K ⟨⟩))
      ⊢ wp frame (wpE (defs₀ (F := Ideal)) Variants.none c none) E (cc0_in_proj i arg2 harg2 arg3 harg3 arg4 harg4 arg5 harg5) K := by
  simp only [cc0_in_proj_eq_skeleton]
  unfold cc0_in_proj_skel owns
  iintro ⟨⟨%f0, %h0, H0⟩, ⟨%f1, %h1, H1⟩, ⟨%d2, %f2, -, H2⟩, ⟨%d3, %f3, -, H3⟩, Hk⟩
  obtain rfl := harg2.eq_unread h0; obtain rfl := harg3.eq_unread h1
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    have e := (View.readAt_full (Val := Elt Ideal) arg3.view (harg3.unread W) inb_S4096x768_S4096x768_0_0).trans h1
    rw [View.read_writes_full]
    refine congrArg₂ (k0_pay2 (F := Ideal)) ((View.readAt_full _ _ _).trans h0) ?_
    exact (View.readCov_full _ _ _ _ _).trans (congrArg (k0_pay1 (F := Ideal)) e)
  iexists _; isplitr; swap; · iexact H3
  ipureintro
  have e := (View.readAt_full (Val := Elt Ideal) arg3.view (harg3.unread W) inb_S4096x768_S4096x768_0_0).trans h1
  exact (View.read_writes_full _ _ _ _ _).trans (congrArg (k0_pay1 (F := Ideal)) e)

set_option maxHeartbeats 1000000 in
/-- At the other row blocks, the body writes the rows' product with the weights that it keeps. -/
theorem runs_later (c : Dev nD) (i : grid0.Coords) (arg2 : Memref sig .tc .vmem S512x4096 .bf16) (harg2 : arg2.IsWhole)
    (arg3 : Memref sig .tc .vmem S4096x768 .f32) (harg3 : arg3.IsWhole) (arg4 : Memref sig .tc .vmem S512x768 .f32)
    (harg4 : arg4.IsWhole) (arg5 : Memref sig .tc .vmem S4096x768 .bf16) (harg5 : arg5.IsWhole) (hc : ¬first i)
    (X : FVec Ideal S512x4096 .bf16) (W : FVec Ideal S4096x768 .f32) (S : FVec Ideal S4096x768 .bf16) (E : Set ℕ) (K : PUnit → sProp 𝕄) :
    iprop(owns (c : Thread nD τ) arg2 fullShare X ∗ owns (c : Thread nD τ) arg3 fullShare W
        ∗ (∃ d, owns (c : Thread nD τ) arg4 fullShare d) ∗ owns (c : Thread nD τ) arg5 fullShare S
        ∗ (iprop(owns (c : Thread nD τ) arg2 fullShare X ∗ owns (c : Thread nD τ) arg3 fullShare W
            ∗ owns (c : Thread nD τ) arg4 fullShare (k0_pay2 (F := Ideal) X S)
            ∗ owns (c : Thread nD τ) arg5 fullShare S) -∗ K ⟨⟩))
      ⊢ wp frame (wpE (defs₀ (F := Ideal)) Variants.none c none) E (cc0_in_proj i arg2 harg2 arg3 harg3 arg4 harg4 arg5 harg5) K := by
  simp only [cc0_in_proj_eq_skeleton]
  unfold cc0_in_proj_skel owns
  iintro ⟨⟨%f0, %h0, H0⟩, ⟨%f1, %h1, H1⟩, ⟨%d2, %f2, -, H2⟩, ⟨%f3, %h3, H3⟩, Hk⟩
  obtain rfl := harg2.eq_unread h0; obtain rfl := harg3.eq_unread h1; obtain rfl := harg5.eq_unread h3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; swap; · iexact H2
    ipureintro
    rw [View.read_writes_full]
    exact congrArg₂ (k0_pay2 (F := Ideal)) ((View.readAt_full _ _ _).trans h0) ((View.readAt_full _ _ _).trans h3)
  iexists _; isplitr; · ipureintro; exact harg5.read_unread _
  iexact H3

end Cert.KernelInIdeal.Columns

end

end
-- ==== Proof.InColumns.lean ====
module

public import proofs.«01_k».proof.Proof.InBody

/-! The input projection's blocks as parts of one product. The last block of columns reaches past the arrays; only the columns
    inside are spoken of. -/

@[expose] public section

set_option maxRecDepth 16384

noncomputable section

namespace Cert.KernelInIdeal.Columns

open Cert.KernelInIdeal Cert.KernelInIdeal.Gen
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![t.val % 16, 0] ∧ win0_1.index t = ![0, t.val / 16]
    ∧ win0_2.index t = ![t.val % 16, t.val / 16] :=
  (by decide +kernel : ∀ t : Fin grid0.N, _)

/-- How much of a block of weights lies inside the array. -/
theorem extent1 : ∀ t : Fin cfg0.N, win0_1.xsize (grid0.coords t) 0 = 4096
    ∧ win0_1.xsize (grid0.coords t) 1 = min 768 (21840 - t.val / 16 * 768) :=
  (by decide +kernel : ∀ t : Fin grid0.N, _)

/-- How much of a block of the result lies inside the array. -/
theorem extent2 : ∀ t : Fin cfg0.N, win0_2.xsize (grid0.coords t) 0 = 512
    ∧ win0_2.xsize (grid0.coords t) 1 = min 768 (21840 - t.val / 16 * 768) :=
  (by decide +kernel : ∀ t : Fin grid0.N, _)

/-- There are 464 grid points. -/
theorem points (t : Fin cfg0.N) : t.val < 464 := lt_of_lt_of_eq t.isLt N_0

/-- The normalised rows. -/
abbrev rows : FVec Ideal S8192x4096 .bf16 := m ((c : Thread nD τ).loc main_arg0)

/-- The weights. -/
abbrev weights : FVec Ideal S1x4096x21840 .f32 := m ((c : Thread nD τ).loc main_arg1)

/-- The array that the kernel leaves. -/
def product : FVec Ideal S8192x21840 .f32 := fun y =>
  ∑ k : Fin 4096, rows m c (ix2 (y 0) k) * weights m c (ix3 0 k (y 1))

/-- The block of the result at a point; its columns outside the array are taken as zero. -/
def outcome (t : Fin cfg0.N) : FVec Ideal S512x768 .f32 := fun y =>
  if h : t.val / 16 * 768 + (y 1).val < 21840 then
    product m c (ix2 ⟨t.val % 16 * 512 + (y 0).val, by have : (y 0).val < 512 := (y 0).isLt; omega⟩ ⟨t.val / 16 * 768 + (y 1).val, h⟩)
  else 0

/-- Contents that are the weights' columns of a point, where these lie inside the array. -/
def Agrees (n : ℕ) (S : FVec Ideal S4096x768 .bf16) : Prop :=
  ∀ (k : Fin 4096) (j : Fin 768) (h : n / 16 * 768 + j.val < 21840), S (ix2 k j) = weights m c (ix3 0 k ⟨n / 16 * 768 + j.val, h⟩)

/-- The rows at a point. -/
theorem rows_block (t : Fin cfg0.N) (i : Fin 512) (k : Fin 4096) :
    (iblk m c 0 t : Vec Ideal S512x4096 .bf16) (ix2 i k) = rows m c (ix2 ⟨t.val % 16 * 512 + i.val, by omega⟩ k) := by
  blk_ext [iblk, V, idx t]

/-- The weights as the region finds them: the axis of length one is dropped. -/
theorem weights_entry (k : Fin 4096) (j : Fin 21840) :
    (V m c (Pipeline.arrRef spec0 1) : FVec Ideal S4096x21840 .f32) (ix2 k j) = weights m c (ix3 0 k j) := by
  have e : V m c (Pipeline.arrRef spec0 1) = (shapeCast S4096x21840 (weights m c) shapeCasts_S1x4096x21840_S4096x21840 : FVec Ideal S4096x21840 .f32) := by
    entry_read
    rfl
  have e' : (shapeCast S4096x21840 (weights m c) shapeCasts_S1x4096x21840_S4096x21840 : FVec Ideal S4096x21840 .f32) (ix2 k j)
      = weights m c (ix3 0 k j) := by
    pointwise
  exact (congrFun e (ix2 k j)).trans e'

/-- A column inside the array is among those that a fetch moves. -/
theorem moved_inside (t : Fin cfg0.N) (k : Fin 4096) (j : Fin 768) (h : t.val / 16 * 768 + j.val < 21840) :
    win0_1.moved (grid0.coords t) (ix2 k j) = true :=
  (win0_1.moved_iff _ _).mpr fun a => by
    match a with
    | ⟨0, _⟩ => exact lt_of_lt_of_eq k.isLt (extent1 t).1.symm
    | ⟨1, _⟩ => exact lt_of_lt_of_eq (show j.val < min 768 (21840 - t.val / 16 * 768) by omega) (extent1 t).2.symm

/-- A fetched block of weights, where its columns lie inside the array. -/
theorem fetched_apply (t : Fin cfg0.N) (d : FVec Ideal S4096x768 .f32) (k : Fin 4096) (j : Fin 768)
    (h : t.val / 16 * 768 + j.val < 21840) :
    (win0_1.fill (grid0.coords t) d (iblk m c 1 t) : FVec Ideal S4096x768 .f32) (ix2 k j) = weights m c (ix3 0 k ⟨t.val / 16 * 768 + j.val, h⟩) := by
  refine Eq.trans ?_ (weights_entry m c k ⟨t.val / 16 * 768 + j.val, h⟩)
  unfold Pipeline.Window.fill
  rw [dif_pos (moved_inside t k j h)]
  blk_ext [iblk, idx t]

/-- The weights that the body keeps after a fetch. -/
theorem kept_agrees (t : Fin cfg0.N) (d : FVec Ideal S4096x768 .f32) :
    Agrees m c t.val (k0_pay1 (F := Ideal) (win0_1.fill (grid0.coords t) d (iblk m c 1 t))) := fun k j h => by
  refine Eq.trans ?_ (fetched_apply m c t d k j h)
  generalize win0_1.fill (grid0.coords t) d (iblk m c 1 t) = W
  change FVec Ideal S4096x768 .f32 at W
  open_payloads
  pointwise

/-- What is kept at a point is what the next one asks for, in the same column. -/
theorem agrees_next (n : ℕ) (h : ¬(n + 1) % 16 = 0) (S : FVec Ideal S4096x768 .bf16) (hS : Agrees m c n S) : Agrees m c (n + 1) S := by
  have e : (n + 1) / 16 = n / 16 := by omega
  unfold Agrees
  rw [e]
  exact hS

/-- A block of the product. -/
theorem block_apply (X : FVec Ideal S512x4096 .bf16) (S : FVec Ideal S4096x768 .bf16) (i : Fin 512) (j : Fin 768) :
    k0_pay2 (F := Ideal) X S (ix2 i j) = ∑ k : Fin 4096, X (ix2 i k) * S (ix2 k j) := by
  open_payloads
  pointwise

/-- The part of the block written that lies inside the array. -/
theorem written (t : Fin cfg0.N) (S : FVec Ideal S4096x768 .bf16) (hS : Agrees m c t.val S) :
    win0_2.cut (grid0.coords t) (k0_pay2 (F := Ideal) (iblk m c 0 t) S) = win0_2.cut (grid0.coords t) (outcome m c t) := by
  funext y
  have hy : (y 1).val < min 768 (21840 - t.val / 16 * 768) := lt_of_lt_of_eq (y 1).isLt (extent2 t).2
  have h0 : (y 0).val < 512 := lt_of_lt_of_eq (y 0).isLt (extent2 t).1
  have hj : (y 1).val < 768 := by omega
  have hin : t.val / 16 * 768 + (y 1).val < 21840 := by omega
  have ey : win0_2.xinj (grid0.coords t) y = (ix2 (⟨(y 0).val, h0⟩ : Fin 512) (⟨(y 1).val, hj⟩ : Fin 768) : S512x768.Idx) := by
    funext a
    match a with
    | ⟨0, _⟩ => rfl
    | ⟨1, _⟩ => rfl
  show k0_pay2 (F := Ideal) (iblk m c 0 t) S (win0_2.xinj (grid0.coords t) y) = outcome m c t (win0_2.xinj (grid0.coords t) y)
  rw [ey]
  refine (block_apply _ S _ _).trans (Eq.trans ?_ (dif_pos hin).symm)
  exact Finset.sum_congr rfl fun k _ => congrArg₂ (· * ·) (rows_block m c t _ k) (hS k _ hin)

end Cert.KernelInIdeal.Columns

end

end
-- ==== Proof.InValue.lean ====
module

public import proofs.«01_k».proof.Proof.InColumns
public import proofs.«01_k».proof.Proof.Gen.ReferenceInIdeal.Run

/-! The input projection's run: between points the scratch holds the weights' columns, and the result is the product. -/

@[expose] public section

set_option maxRecDepth 16384

noncomputable section

namespace Cert.KernelInIdeal.Columns

open Cert.KernelInIdeal Cert.KernelInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg) (c : Dev nD)

/-- The scratch that keeps the weights. -/
abbrev keep : Memref sig .tc .vmem S4096x768 .bf16 := Memref.whole cc0_scratch0

/-- The body's branch is taken at the first row block of a column. -/
theorem first_iff : ∀ t : Fin cfg0.N, first (grid0.coords t) ↔ t.val % 16 = 0 :=
  (by decide +kernel : ∀ t : Fin grid0.N, _)

/-- What holds between points: after a point, the scratch keeps the weights' columns of that point. -/
def between : ℕ → sProp 𝕄
  | 0 => Pipeline.ΦA spec0 c
  | n + 1 => iprop((∃ S, ⌜Agrees m c n S⌝ ∗ owns (c : Thread nD τ) keep fullShare S) ∗ (∃ r, prngReg c r))

/-- The class's invariant holds the scratch at some contents, and the generator register. -/
theorem invariant_eq :
    (Pipeline.ΦA spec0 c : sProp 𝕄) = iprop((∃ d, owns (c : Thread nD τ) keep fullShare d) ∗ (∃ r, prngReg c r)) := by
  unfold Pipeline.ΦA; rw [scopedRest0_eq]; simp only [keep, owns_whole]; rfl

/-- After any number of points the scratch holds something. -/
theorem forget (n : ℕ) : between m c n ⊢ Pipeline.ΦA spec0 c := by
  cases n with
  | zero => exact .rfl
  | succ n =>
    rw [invariant_eq]
    unfold between
    iintro ⟨⟨%S, -, HS⟩, Hg⟩
    isplitl [HS]; · iexists _; iexact HS
    iexact Hg

/-- The data of the pipeline: the rows' block and the weights' block stay, and the result's block is the product's. -/
def data (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => outcome m c t
  Φ t := between m c t.val
  q _ := fullShare
  owed _ := 0

/-- The data's arrays are those that the region finds. -/
theorem data_A (w : Fin cfg0.W) : (data m 0 c).A w = V m c (Pipeline.arrRef spec0 w) := by
  dsimp only [data]

/-- What the rows' buffer is left with. -/
theorem after_0 (t : Fin cfg0.N) : (data m 0 c).after 0 t = iblk m c 0 t := by dsimp only [data]
/-- What the weights' buffer is left with, up to what lies beyond the array. -/
theorem after_1 (t : Fin cfg0.N) :
    (data m 0 c).after 1 t = win0_1.fill (grid0.coords t) (fun _ => (0 : EReal)) (iblk m c 1 t) := by dsimp only [data]
/-- What the result's buffer is left with, up to what lies beyond the array. -/
theorem after_2 (t : Fin cfg0.N) : (data m 0 c).after 2 t = outcome m c t := by dsimp only [data]

/-- The rows' buffer holds the rows' block. -/
theorem before_0 (t : Fin cfg0.N) (d) : (data m 0 c).before 0 t d = iblk m c 0 t :=
  before0_0_of m (data m 0 c) (data_A m c 0) (after_0 m c) t d

/-- The cut of a block of weights depends on the block alone. -/
theorem clip_of_index (t t' : Fin cfg0.N) (h : win0_1.index t = win0_1.index t') :
    win0_1.clip (grid0.coords t) = win0_1.clip (grid0.coords t') := by
  funext a
  exact congrArg (fun n : Fin 2 → ℕ => Pipeline.Clip.of (n a) (S4096x768.size a) (S4096x21840.size a)) h

/-- The weights' buffer holds the weights' block, and beyond the array anything. -/
theorem before_1 (t : Fin cfg0.N) (d : FVec Ideal S4096x768 .f32) :
    (data m 0 c).before 1 t d = win0_1.fill (grid0.coords t) d (iblk m c 1 t) :=
  (data m 0 c).before_in_eq_fetched 1 rfl (fun _ => rfl) (clip_of_index)
    (fun t => by rw [after_1]; exact win0_1.cut_fill _ _ _) t d

/-- The body at a point: from what the point before left, to what this point leaves. -/
theorem body_point (t : Fin cfg0.N) :
    iprop((data m 0 c).Φ t.castSucc ∗ (data m 0 c).owesAt () t.castSucc
        ∗ (∃ d, owns (c : Thread nD τ) (st0_0 t) fullShare ((data m 0 c).before 0 t d))
        ∗ (∃ d, owns (c : Thread nD τ) (st0_1 t) fullShare ((data m 0 c).before 1 t d))
        ∗ (∃ d, owns (c : Thread nD τ) (st0_2 t) fullShare ((data m 0 c).before 2 t d)))
      ⊢ wp frame (wpE (defs₀ (F := Ideal)) Variants.none c none) Set.univ (bodyAt0 t) (fun _ =>
        iprop((data m 0 c).Φ t.succ ∗ (data m 0 c).owesAt () t.succ
          ∗ owns (c : Thread nD τ) (st0_0 t) fullShare ((data m 0 c).after 0 t)
          ∗ (∃ d, owns (c : Thread nD τ) (st0_1 t) fullShare (win0_1.fill (grid0.coords t) d (win0_1.cut (grid0.coords t) ((data m 0 c).after 1 t))))
          ∗ (∃ d, owns (c : Thread nD τ) (st0_2 t) fullShare (win0_2.fill (grid0.coords t) d (win0_2.cut (grid0.coords t) ((data m 0 c).after 2 t)))))) := by
  rw [show (data m 0 c).owesAt () t.succ = (data m 0 c).owesAt () t.castSucc from rfl,
    show (data m 0 c).Φ t.castSucc = between m c t.val from rfl, show (data m 0 c).Φ t.succ = between m c (t.val + 1) from rfl,
    after_0, after_1, after_2, win0_1.cut_fill]
  simp only [before_0, before_1]
  by_cases h : t.val % 16 = 0
  · refine (sep_mono ((forget m c t.val).trans (Entails.of_eq (invariant_eq c))) .rfl).trans ?_
    iintro ⟨⟨HS, Hg⟩, Ho, ⟨%d0, H0⟩, ⟨%d1, H1⟩, ⟨%d2, H2⟩⟩
    iapply (runs_first c (grid0.coords t) _ _ _ _ _ _ _ _ ((first_iff t).mpr h) (iblk m c 0 t) (win0_1.fill (grid0.coords t) d1 (iblk m c 1 t)) Set.univ _)
    isplitl [H0]; · iexact H0
    isplitl [H1]; · iexact H1
    isplitl [H2]; · iexists _; iexact H2
    isplitl [HS]; · iexact HS
    iintro ⟨H0, H1, H2, HS⟩
    isplitl [HS Hg]
    · unfold between
      isplitl [HS]
      · iexists _; isplitr; swap; · iexact HS
        ipureintro; exact kept_agrees m c t d1
      iexact Hg
    isplitl [Ho]; · iexact Ho
    isplitl [H0]; · iexact H0
    isplitl [H1]; · iexists _; iexact H1
    iexists _
    rw [← written m c t _ (kept_agrees m c t d1), win0_2.fill_cut]
    iexact H2
  · obtain ⟨n, hn⟩ : ∃ n, t.val = n + 1 := ⟨t.val - 1, by omega⟩
    rw [hn]
    unfold between
    iintro ⟨⟨⟨%S, %hS, HS⟩, Hg⟩, Ho, ⟨%d0, H0⟩, ⟨%d1, H1⟩, ⟨%d2, H2⟩⟩
    have hS' : Agrees m c t.val S := by rw [hn]; exact agrees_next m c n (hn ▸ h) S hS
    iapply (runs_later c (grid0.coords t) _ _ _ _ _ _ _ _ (fun e => h ((first_iff t).mp e)) (iblk m c 0 t) (win0_1.fill (grid0.coords t) d1 (iblk m c 1 t)) S Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]
      · iexists _; isplitr; swap; · iexact HS
        ipureintro; exact hn ▸ hS'
      iexact Hg
    isplitl [Ho]; · iexact Ho
    isplitl [H0]; · iexact H0
    isplitl [H1]; · iexists _; iexact H1
    iexists _
    rw [← written m c t _ hS', win0_2.fill_cut]
    iexact H2

/-- The body table's row at a point is the kernel's body there. -/
theorem row (t : Fin cfg0.N) : defs₀ (F := Ideal) .tc cfg0.body (cfg0.bodyArgs t (cfg0.slots t)) = bodyAt0 t := by
  unfold defs₀; rw [Defs.onTc_tc]

/-- The body's obligation, at every point. -/
theorem obligation : BodyObligationLoose (data m 0 c) (defs₀ (F := Ideal)) Variants.none () Set.univ := fun t => by
  rw [bigSep_W0, bigSep_W0, row]
  exact triple_restated (body_point m c t) rfl .rfl fun _ => .rfl

set_option backward.isDefEq.respectTransparency.types false in
/-- Every run ends, with the arrays as the data says and every counter at zero. -/
theorem run_all : θ_run defs (onTc (τ := τ) (main (F := Ideal))) (s₀ m ρ)
    (fun r => Pipeline.FramePost cfgs (data m) 0 (V m) r ∧ r.2.sem = fun _ => 0) :=
  Pipeline.θ_run_frame_track (Q' := _) cfgs (data m) (0 : Fin 1) launch0 defs₀ Variants.none m ρ main
    (hbody := obligation m) (hshare := fun c => (data m 0 c).share_full fun _ => rfl) (howed := fun _ _ => rfl)
    (V := V m) (hmain := hmain m Variants.none) (hA := data_A m) (hin := fun _ => .rfl) (hout := fun c => forget m c cfg0.N)

/-- After every point, the output array is the product. -/
theorem array_eq : (data m 0 c).arrAt 2 cfg0.N = product m c := by
  refine (data m 0 c).arrAt_eq_of_covers 2 _ (by decide +kernel) fun t _ y => ?_
  have hy : (y 1).val < min 768 (21840 - t.val / 16 * 768) := lt_of_lt_of_eq (y 1).isLt (extent2 t).2
  have hin : t.val / 16 * 768 + (y 1).val < 21840 := by omega
  rw [after_2]
  refine (dif_pos hin).trans (congrArg (product m c) ?_)
  blk_ext [idx t]

/-- Every run ends with the product in the output array, the arguments as they began. -/
theorem run : θ_run defs (onTc (τ := τ) (main (F := Ideal))) ⟨m, fun _ => 0, ρ⟩ fun r => ∀ c : Dev nD,
      r.2.mem ((c : Thread nD τ).loc main_v1) = product m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (array_eq m c),
      ((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩)
    (run_all m ρ)

/-- The arguments end as they began, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 0).trans (((data m 0 c).arrAt_in 0 rfl _).trans ((data_A m c 0).trans (V_main_arg0 m c))),
      ((h.1 c).2 main_arg1 (Pipeline.mem_restRefs_of main_arg1 (by decide) (by decide))).trans (V_main_arg1 m c)⟩, h.2⟩) (run_all m ρ)

end Cert.KernelInIdeal.Columns

namespace Cert.ReferenceInIdeal.Columns

open Cert.ReferenceInIdeal Cert.ReferenceInIdeal.Gen
open Idealize.ShloMosaic

/-- The reference's array is the product. -/
theorem result_eq (X : FVec Ideal S8192x4096 .bf16) (W : FVec Ideal S1x4096x21840 .f32) :
    Host.dotGeneral dot_S8192x4096_S4096x21840_S8192x21840_1_0_0_1_n_n none (extf .f32 X bitsLt_bf16_f32)
        (shapeCast S4096x21840 W shapeCasts_S1x4096x21840_S4096x21840)
      = fun y => ∑ k : Fin 4096, X (ix2 (y 0) k) * W (ix3 0 k (y 1)) := by
  funext y
  obtain ⟨i, j, rfl⟩ : ∃ i j, y = ix2 i j := ⟨y 0, y 1, by idx_vars y⟩
  pointwise

end Cert.ReferenceInIdeal.Columns

end

end
-- ==== Proof.MergeFrame.lean ====
module

public import proofs.«01_k».proof.Proof.Gen.KernelMerge.Frame
public import proofs.«01_k».proof.Proof.Gen.KernelMerge.Skeleton

/-! The frame of the gated merge: its last block of gates reaches past the array, so nothing is said here of what the buffers
    hold; the body runs from any contents and the arguments are only read. Six of its windows share one array. -/

@[expose] public section

set_option maxRecDepth 16384

noncomputable section

namespace Cert.KernelMerge.Loose

open Cert.KernelMerge Cert.KernelMerge.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Some contents for a buffer. -/
abbrev held {s : Shape} {e : EltTy} (c : Dev nD) (a : Memref sig .tc .vmem s e) : sProp 𝕄 :=
  iprop(∃ d, owns (c : Thread nD τ) a fullShare d)

set_option maxHeartbeats 2000000 in
/-- The body runs from any contents of its buffers and leaves them at some contents. -/
theorem body_runs (c : Dev nD) (i : grid0.Coords)
    (arg2 : Memref sig .tc .vmem S1024x2048 .bf16) (harg2 : arg2.IsWhole) (arg3 : Memref sig .tc .vmem S1024x1024 .bf16) (harg3 : arg3.IsWhole)
     (arg4 : Memref sig .tc .vmem S1024x1024 .bf16) (harg4 : arg4.IsWhole) (arg5 : Memref sig .tc .vmem S2048x256 .f32) (harg5 : arg5.IsWhole)
     (arg6 : Memref sig .tc .vmem S1024x256 .f32) (harg6 : arg6.IsWhole) (arg7 : Memref sig .tc .vmem S1024x256 .f32) (harg7 : arg7.IsWhole)
     (arg8 : Memref sig .tc .vmem S1024x256 .f32) (harg8 : arg8.IsWhole) (arg9 : Memref sig .tc .vmem S1024x128 .f32) (harg9 : arg9.IsWhole)
     (arg10 : Memref sig .tc .vmem S1024x256 .f32) (harg10 : arg10.IsWhole) (arg11 : Memref sig .tc .vmem S1024x128 .f32) (harg11 : arg11.IsWhole)
     (arg12 : Memref sig .tc .vmem S1024x256 .f32) (harg12 : arg12.IsWhole) (arg13 : Memref sig .tc .vmem S1024x128 .f32) (harg13 : arg13.IsWhole)
     (arg14 : Memref sig .tc .vmem S1024x256 .bf16) (harg14 : arg14.IsWhole)
    (E : Set ℕ) (K : PUnit → sProp 𝕄) :
    iprop(held (F := F) c arg2 ∗ held (F := F) c arg3 ∗ held (F := F) c arg4 ∗ held (F := F) c arg5 ∗ held (F := F) c arg6 ∗ held (F := F) c arg7 ∗ held (F := F) c arg8 ∗ held (F := F) c arg9 ∗ held (F := F) c arg10 ∗ held (F := F) c arg11 ∗ held (F := F) c arg12 ∗ held (F := F) c arg13 ∗ held (F := F) c arg14
        ∗ (iprop(held (F := F) c arg2 ∗ held (F := F) c arg3 ∗ held (F := F) c arg4 ∗ held (F := F) c arg5 ∗ held (F := F) c arg6 ∗ held (F := F) c arg7 ∗ held (F := F) c arg8 ∗ held (F := F) c arg9 ∗ held (F := F) c arg10 ∗ held (F := F) c arg11 ∗ held (F := F) c arg12 ∗ held (F := F) c arg13 ∗ held (F := F) c arg14) -∗ K ⟨⟩))
      ⊢ wp frame (wpE (defs₀ (F := F)) Variants.none c none) E (cc0_gated_merge i arg2 harg2 arg3 harg3 arg4 harg4 arg5 harg5 arg6 harg6 arg7 harg7 arg8 harg8 arg9 harg9 arg10 harg10 arg11 harg11 arg12 harg12 arg13 harg13 arg14 harg14) K := by
  simp only [cc0_gated_merge_eq_skeleton, cc0_gated_merge_skel, k0_part1_eq_skeleton, k0_part1_skel]
  unfold held owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  sl_step
  iapply Hk
  isplitl [H2]
  · iexists _; iexists _; isplitr; swap; · iexact H2
    ipureintro; rfl
  isplitl [H3]
  · iexists _; iexists _; isplitr; swap; · iexact H3
    ipureintro; rfl
  isplitl [H4]
  · iexists _; iexists _; isplitr; swap; · iexact H4
    ipureintro; rfl
  isplitl [H5]
  · iexists _; iexists _; isplitr; swap; · iexact H5
    ipureintro; rfl
  isplitl [H6]
  · iexists _; iexists _; isplitr; swap; · iexact H6
    ipureintro; rfl
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  iexists _; iexists _; isplitr; swap; · iexact H14
  ipureintro; rfl

/-- The data of the pipeline: the arrays as the region finds them, and nothing said of what the body leaves. -/
def data (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The data's arrays are those that the region finds. -/
theorem data_A (c : Dev nD) (w : Fin cfg0.W) : (data m c).A w = V m c (Pipeline.arrRef spec0 w) := by
  dsimp only [data]

/-- The body table's row at a point is the kernel's body there. -/
theorem row (t : Fin cfg0.N) : defs₀ (F := F) .tc cfg0.body (cfg0.bodyArgs t (cfg0.slots t)) = bodyAt0 t := by
  unfold defs₀; rw [Defs.onTc_tc]

/-- The body at a point, from any contents of the windows' buffers. -/
theorem body_point (c : Dev nD) (t : Fin cfg0.N) (Y : (w : Fin cfg0.W) → (cfg0.win w).block.Idx → Elt F (cfg0.win w).elt) :
    iprop((data m c).Φ t.castSucc ∗ (data m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3)
        ∗ owns (c : Thread nD τ) (st0_4 t) fullShare (Y 4)
        ∗ owns (c : Thread nD τ) (st0_5 t) fullShare (Y 5)
        ∗ owns (c : Thread nD τ) (st0_6 t) fullShare (Y 6)
        ∗ owns (c : Thread nD τ) (st0_7 t) fullShare (Y 7)
        ∗ owns (c : Thread nD τ) (st0_8 t) fullShare (Y 8)
        ∗ owns (c : Thread nD τ) (st0_9 t) fullShare (Y 9)
        ∗ owns (c : Thread nD τ) (st0_10 t) fullShare (Y 10)
        ∗ owns (c : Thread nD τ) (st0_11 t) fullShare (Y 11)
        ∗ owns (c : Thread nD τ) (st0_12 t) fullShare (Y 12))
      ⊢ wp frame (wpE (defs₀ (F := F)) Variants.none c none) Set.univ (bodyAt0 t) (fun _ =>
        iprop((data m c).Φ t.succ ∗ (data m c).owesAt () t.succ
          ∗ (∃ X, ⌜(data m c).after 0 t (Y 0) X⌝ ∗ owns (c : Thread nD τ) (st0_0 t) fullShare X)
          ∗ (∃ X, ⌜(data m c).after 1 t (Y 1) X⌝ ∗ owns (c : Thread nD τ) (st0_1 t) fullShare X)
          ∗ (∃ X, ⌜(data m c).after 2 t (Y 2) X⌝ ∗ owns (c : Thread nD τ) (st0_2 t) fullShare X)
          ∗ (∃ X, ⌜(data m c).after 3 t (Y 3) X⌝ ∗ owns (c : Thread nD τ) (st0_3 t) fullShare X)
          ∗ (∃ X, ⌜(data m c).after 4 t (Y 4) X⌝ ∗ owns (c : Thread nD τ) (st0_4 t) fullShare X)
          ∗ (∃ X, ⌜(data m c).after 5 t (Y 5) X⌝ ∗ owns (c : Thread nD τ) (st0_5 t) fullShare X)
          ∗ (∃ X, ⌜(data m c).after 6 t (Y 6) X⌝ ∗ owns (c : Thread nD τ) (st0_6 t) fullShare X)
          ∗ (∃ X, ⌜(data m c).after 7 t (Y 7) X⌝ ∗ owns (c : Thread nD τ) (st0_7 t) fullShare X)
          ∗ (∃ X, ⌜(data m c).after 8 t (Y 8) X⌝ ∗ owns (c : Thread nD τ) (st0_8 t) fullShare X)
          ∗ (∃ X, ⌜(data m c).after 9 t (Y 9) X⌝ ∗ owns (c : Thread nD τ) (st0_9 t) fullShare X)
          ∗ (∃ X, ⌜(data m c).after 10 t (Y 10) X⌝ ∗ owns (c : Thread nD τ) (st0_10 t) fullShare X)
          ∗ (∃ X, ⌜(data m c).after 11 t (Y 11) X⌝ ∗ owns (c : Thread nD τ) (st0_11 t) fullShare X)
          ∗ (∃ X, ⌜(data m c).after 12 t (Y 12) X⌝ ∗ owns (c : Thread nD τ) (st0_12 t) fullShare X))) := by
  rw [show (data m c).Φ t.castSucc = Pipeline.ΦA spec0 c from rfl, show (data m c).Φ t.succ = Pipeline.ΦA spec0 c from rfl,
    show (data m c).owesAt () t.succ = (data m c).owesAt () t.castSucc from rfl]
  iintro ⟨HΦ, Ho, H0, H1, H2, H3, H4, H5, H6, H7, H8, H9, H10, H11, H12⟩
  iapply (body_runs c (grid0.coords t) _ _ _ _ _ _ _ _ _ _ _ _ _ _ _ _ _ _ _ _ _ _ _ _ _ _ Set.univ _)
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  isplitl [HΦ]; · iexact HΦ
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  isplitl [H7]
  · iexists _; isplitr; swap; · iexact H7
    ipureintro; trivial
  isplitl [H8]
  · iexists _; isplitr; swap; · iexact H8
    ipureintro; trivial
  isplitl [H9]
  · iexists _; isplitr; swap; · iexact H9
    ipureintro; trivial
  isplitl [H10]
  · iexists _; isplitr; swap; · iexact H10
    ipureintro; trivial
  isplitl [H11]
  · iexists _; isplitr; swap; · iexact H11
    ipureintro; trivial
  iexists _; isplitr; swap; · iexact H12
  ipureintro; trivial

/-- The body's obligation, at every point. -/
theorem obligation (c : Dev nD) : (data (F := F) m c).BodyObligation (defs₀ (F := F)) Variants.none () Set.univ := fun t Y _ => by
  rw [bigSep_W0, bigSep_W0, row]
  exact triple_restated (body_point m c t Y) rfl .rfl fun _ => .rfl

set_option backward.isDefEq.respectTransparency.types false in
/-- Every run ends, with the input arrays unchanged and every counter at zero. -/
theorem run : θ_run defs (onTc (τ := τ) (main (F := F))) (s₀ m ρ)
    (fun r => RDat.FramePost cfg0 (data m) (V m) r ∧ r.2.sem = fun _ => 0) :=
  RDat.θ_run_frame_track_shared (Q' := _) cfgs (0 : Fin 1) launch₀0 defs₀ Variants.none (data m) m ρ main
    (hbody := obligation m) (hq := fun _ _ _ => rfl)
    (howed := fun _ _ => rfl) (V := V m) (hmain := hmain m Variants.none) (hA := data_A m) (hin := fun _ => .rfl) (hout := fun _ => .rfl)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1.arr_in c 6 rfl).trans ((data_A m c 6).trans (V_main_arg0 m c)),
      (h.1.arr_in c 0 rfl).trans ((data_A m c 0).trans (V_main_arg1 m c)),
      (h.1.arr_in c 1 rfl).trans ((data_A m c 1).trans (V_main_arg2 m c)),
      (h.1.arr_in c 2 rfl).trans ((data_A m c 2).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run m ρ)

end Cert.KernelMerge.Loose

end

end
-- ==== Proof.MergeBody.lean ====
module

public import proofs.«01_k».proof.Proof.Gen.KernelMergeIdeal.Frame
public import proofs.«01_k».proof.Proof.Gen.KernelMergeIdeal.Skeleton
public import Idealize.ShloMosaic.Lib.Pipeline.ValueKit
public import Idealize.ShloMosaic.Lib.Pipeline.ReadBack
public import Idealize.ShloMosaic.Lib.Pointwise
public import Idealize.ShloMosaic.Lib.VecWindow

/-! The body of the gated merge, run once: what it leaves in its buffers. -/

@[expose] public section

set_option maxRecDepth 16384

noncomputable section

namespace Cert.KernelMergeIdeal.Gates

open Cert.KernelMergeIdeal Cert.KernelMergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The block that the body writes, from the blocks it reads: the three branches' rows, weights, and gates in two pieces. -/
abbrev merging (yr : FVec Ideal S1024x2048 .bf16) (ya : FVec Ideal S1024x1024 .bf16) (ym : FVec Ideal S1024x1024 .bf16) (wr : FVec Ideal S2048x256 .f32)
     (wa : FVec Ideal S1024x256 .f32) (wm : FVec Ideal S1024x256 .f32) (g0 : FVec Ideal S1024x256 .f32) (e0 : FVec Ideal S1024x128 .f32)
     (g1 : FVec Ideal S1024x256 .f32) (e1 : FVec Ideal S1024x128 .f32) (g2 : FVec Ideal S1024x256 .f32) (e2 : FVec Ideal S1024x128 .f32)
    : FVec Ideal S1024x256 .bf16 :=
  k0_pay1 (F := Ideal) (k0_pay2 (F := Ideal) g0 e0 yr wr g1 e1 ya wa) g2 e2 ym wm

/-- Equal blocks are merged equally. -/
theorem merging_congr {yr yr' : FVec Ideal S1024x2048 .bf16} {ya ya' : FVec Ideal S1024x1024 .bf16} {ym ym' : FVec Ideal S1024x1024 .bf16}
     {wr wr' : FVec Ideal S2048x256 .f32} {wa wa' : FVec Ideal S1024x256 .f32} {wm wm' : FVec Ideal S1024x256 .f32}
     {g0 g0' : FVec Ideal S1024x256 .f32} {e0 e0' : FVec Ideal S1024x128 .f32} {g1 g1' : FVec Ideal S1024x256 .f32}
     {e1 e1' : FVec Ideal S1024x128 .f32} {g2 g2' : FVec Ideal S1024x256 .f32} {e2 e2' : FVec Ideal S1024x128 .f32}

    (h2 : yr = yr') (h3 : ya = ya') (h4 : ym = ym') (h5 : wr = wr') (h6 : wa = wa') (h7 : wm = wm') (h8 : g0 = g0') (h9 : e0 = e0') (h10 : g1 = g1') (h11 : e1 = e1') (h12 : g2 = g2') (h13 : e2 = e2') :
    merging yr ya ym wr wa wm g0 e0 g1 e1 g2 e2 = merging yr' ya' ym' wr' wa' wm' g0' e0' g1' e1' g2' e2' := by
  subst h2 h3 h4 h5 h6 h7 h8 h9 h10 h11 h12 h13
  rfl

set_option maxHeartbeats 2000000 in
/-- The body reads its twelve blocks, leaves them, and writes the merged one. -/
theorem body_runs (c : Dev nD) (i : grid0.Coords)
    (arg2 : Memref sig .tc .vmem S1024x2048 .bf16) (harg2 : arg2.IsWhole) (arg3 : Memref sig .tc .vmem S1024x1024 .bf16) (harg3 : arg3.IsWhole)
     (arg4 : Memref sig .tc .vmem S1024x1024 .bf16) (harg4 : arg4.IsWhole) (arg5 : Memref sig .tc .vmem S2048x256 .f32) (harg5 : arg5.IsWhole)
     (arg6 : Memref sig .tc .vmem S1024x256 .f32) (harg6 : arg6.IsWhole) (arg7 : Memref sig .tc .vmem S1024x256 .f32) (harg7 : arg7.IsWhole)
     (arg8 : Memref sig .tc .vmem S1024x256 .f32) (harg8 : arg8.IsWhole) (arg9 : Memref sig .tc .vmem S1024x128 .f32) (harg9 : arg9.IsWhole)
     (arg10 : Memref sig .tc .vmem S1024x256 .f32) (harg10 : arg10.IsWhole) (arg11 : Memref sig .tc .vmem S1024x128 .f32) (harg11 : arg11.IsWhole)
     (arg12 : Memref sig .tc .vmem S1024x256 .f32) (harg12 : arg12.IsWhole) (arg13 : Memref sig .tc .vmem S1024x128 .f32) (harg13 : arg13.IsWhole)
     (arg14 : Memref sig .tc .vmem S1024x256 .bf16) (harg14 : arg14.IsWhole)
    (yr : FVec Ideal S1024x2048 .bf16) (ya : FVec Ideal S1024x1024 .bf16) (ym : FVec Ideal S1024x1024 .bf16) (wr : FVec Ideal S2048x256 .f32)
     (wa : FVec Ideal S1024x256 .f32) (wm : FVec Ideal S1024x256 .f32) (g0 : FVec Ideal S1024x256 .f32) (e0 : FVec Ideal S1024x128 .f32)
     (g1 : FVec Ideal S1024x256 .f32) (e1 : FVec Ideal S1024x128 .f32) (g2 : FVec Ideal S1024x256 .f32) (e2 : FVec Ideal S1024x128 .f32)

    (E : Set ℕ) (K : PUnit → sProp 𝕄) :
    iprop(owns (c : Thread nD τ) arg2 fullShare yr ∗ owns (c : Thread nD τ) arg3 fullShare ya ∗ owns (c : Thread nD τ) arg4 fullShare ym
         ∗ owns (c : Thread nD τ) arg5 fullShare wr ∗ owns (c : Thread nD τ) arg6 fullShare wa ∗ owns (c : Thread nD τ) arg7 fullShare wm
         ∗ owns (c : Thread nD τ) arg8 fullShare g0 ∗ owns (c : Thread nD τ) arg9 fullShare e0 ∗ owns (c : Thread nD τ) arg10 fullShare g1
         ∗ owns (c : Thread nD τ) arg11 fullShare e1 ∗ owns (c : Thread nD τ) arg12 fullShare g2 ∗ owns (c : Thread nD τ) arg13 fullShare e2

        ∗ (∃ d, owns (c : Thread nD τ) arg14 fullShare d)
        ∗ (iprop(owns (c : Thread nD τ) arg2 fullShare yr ∗ owns (c : Thread nD τ) arg3 fullShare ya ∗ owns (c : Thread nD τ) arg4 fullShare ym
         ∗ owns (c : Thread nD τ) arg5 fullShare wr ∗ owns (c : Thread nD τ) arg6 fullShare wa ∗ owns (c : Thread nD τ) arg7 fullShare wm
         ∗ owns (c : Thread nD τ) arg8 fullShare g0 ∗ owns (c : Thread nD τ) arg9 fullShare e0 ∗ owns (c : Thread nD τ) arg10 fullShare g1
         ∗ owns (c : Thread nD τ) arg11 fullShare e1 ∗ owns (c : Thread nD τ) arg12 fullShare g2 ∗ owns (c : Thread nD τ) arg13 fullShare e2

        ∗ owns (c : Thread nD τ) arg14 fullShare (merging yr ya ym wr wa wm g0 e0 g1 e1 g2 e2)) -∗ K ⟨⟩))
      ⊢ wp frame (wpE (defs₀ (F := Ideal)) Variants.none c none) E (cc0_gated_merge i arg2 harg2 arg3 harg3 arg4 harg4 arg5 harg5 arg6 harg6 arg7 harg7 arg8 harg8 arg9 harg9 arg10 harg10 arg11 harg11 arg12 harg12 arg13 harg13 arg14 harg14) K := by
  simp only [cc0_gated_merge_eq_skeleton, cc0_gated_merge_skel, k0_part1_eq_skeleton, k0_part1_skel]
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%d14, %f14, -, H14⟩, Hk⟩
  obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10; obtain rfl := harg11.eq_unread h11; obtain rfl := harg12.eq_unread h12; obtain rfl := harg13.eq_unread h13
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  iexists _; isplitr; swap; · iexact H14
  ipureintro
  rw [View.read_writes_full]
  exact merging_congr ((View.readAt_full _ _ _).trans h2) ((View.readAt_full _ _ _).trans h3) ((View.readAt_full _ _ _).trans h4) ((View.readAt_full _ _ _).trans h5) ((View.readAt_full _ _ _).trans h6) ((View.readAt_full _ _ _).trans h7) ((View.readAt_full _ _ _).trans h8) ((View.readAt_full _ _ _).trans h9) ((View.readAt_full _ _ _).trans h10) ((View.readAt_full _ _ _).trans h11) ((View.readAt_full _ _ _).trans h12) ((View.readAt_full _ _ _).trans h13)

end Cert.KernelMergeIdeal.Gates

end

end
-- ==== Proof.MergeColumns.lean ====
module

public import proofs.«01_k».proof.Proof.MergeBody
public import proofs.«01_k».proof.Proof.Result

/-! The gated merge's blocks as parts of one array. The last block of gates reaches past the array, but none of the columns
    used of it do. -/

@[expose] public section

set_option maxRecDepth 16384

noncomputable section

namespace Cert.KernelMergeIdeal.Gates

open Cert.KernelMergeIdeal Cert.KernelMergeIdeal.Gen
open Idealize.ShloMosaic Idealize.ShloMosaic.TcCoe Idealize.SL.Sem

/-- The gate of a column, from the two pieces that hold it: the 256 columns from the 81st on. -/
def gate (g : FVec Ideal S1024x256 .f32) (e : FVec Ideal S1024x128 .f32) (i : Fin 1024) (j : Fin 256) : EReal :=
  if h : 80 + j.val < 256 then g (ix2 i ⟨80 + j.val, h⟩) else e (ix2 i ⟨80 + j.val - 256, by omega⟩)

/-- Joining two pieces and cutting the gates out. -/
theorem joined_apply (g : FVec Ideal S1024x256 .f32) (e : FVec Ideal S1024x128 .f32) (i : Fin 1024) (j : Fin 256) :
    (extractStridedSlice S1024x256 ![0, 80] (concatenate S1024x384 1 [⟨S1024x256, g⟩, ⟨S1024x128, e⟩]
      concatenates_S1024x256_S1024x128_S1024x384_d1) slices_S1024x384_o0_80_S1024x256 : FVec Ideal S1024x256 .f32) (ix2 i j) = gate g e i j := by
  pointwise [gate]

/-- The merged block at an index: each branch's product divided by its gate's denominator. -/
theorem merging_apply (yr : FVec Ideal S1024x2048 .bf16) (ya ym : FVec Ideal S1024x1024 .bf16) (wr : FVec Ideal S2048x256 .f32)
    (wa wm g0 : FVec Ideal S1024x256 .f32) (e0 : FVec Ideal S1024x128 .f32) (g1 : FVec Ideal S1024x256 .f32)
    (e1 : FVec Ideal S1024x128 .f32) (g2 : FVec Ideal S1024x256 .f32) (e2 : FVec Ideal S1024x128 .f32) (i : Fin 1024) (j : Fin 256) :
    merging yr ya ym wr wa wm g0 e0 g1 e1 g2 e2 (ix2 i j)
      = Ideal.div (∑ k : Fin 2048, yr (ix2 i k) * wr (ix2 k j)) (1 + Ideal.exp (0 - gate g0 e0 i j))
        + Ideal.div (∑ k : Fin 1024, ya (ix2 i k) * wa (ix2 k j)) (1 + Ideal.exp (0 - gate g1 e1 i j))
        + Ideal.div (∑ k : Fin 1024, ym (ix2 i k) * wm (ix2 k j)) (1 + Ideal.exp (0 - gate g2 e2 i j)) := by
  unfold merging
  open_payloads
  pointwise [gate]

variable (m : (ℓ : Loc nD τ sig) → Buf (Elt Ideal) ℓ) (c : Dev nD)

/-- The projected rows, whose last columns are the gates. -/
abbrev proj : FVec Ideal S8192x21840 .f32 := m ((c : Thread nD τ).loc main_arg0)
/-- The rows of the first branch. -/
abbrev rowsR : FVec Ideal S8192x2048 .bf16 := m ((c : Thread nD τ).loc main_arg1)
/-- The rows of the second branch. -/
abbrev rowsA : FVec Ideal S8192x1024 .bf16 := m ((c : Thread nD τ).loc main_arg2)
/-- The rows of the third branch. -/
abbrev rowsM : FVec Ideal S8192x1024 .bf16 := m ((c : Thread nD τ).loc main_arg3)
/-- The weights of the first branch. -/
abbrev weightsR : FVec Ideal S1x2048x4096 .f32 := m ((c : Thread nD τ).loc main_arg4)
/-- The weights of the second branch. -/
abbrev weightsA : FVec Ideal S1x1024x4096 .f32 := m ((c : Thread nD τ).loc main_arg5)
/-- The weights of the third branch. -/
abbrev weightsM : FVec Ideal S1x1024x4096 .f32 := m ((c : Thread nD τ).loc main_arg6)

/-- A gated value: the sigmoid of the gate times the value. -/
def gated (g s : EReal) : EReal := Ideal.div 1 (1 + Ideal.exp (-g)) * s

/-- Dividing a value by its gate's denominator gates it. -/
theorem gated_eq (g s : EReal) : Ideal.div s (1 + Ideal.exp (0 - g)) = gated g s :=
  (Cert.Retention.div_gate s g).trans (mul_comm _ _)

/-- The array that the kernel leaves: the three branches' products, each gated, added up. -/
def merged : FVec Ideal S8192x4096 .bf16 := fun y =>
  gated (proj m c (ix2 (y 0) ⟨9552 + (y 1).val, by have : (y 1).val < 4096 := (y 1).isLt; omega⟩))
      (∑ k : Fin 2048, rowsR m c (ix2 (y 0) k) * weightsR m c (ix3 0 k (y 1)))
    + gated (proj m c (ix2 (y 0) ⟨13648 + (y 1).val, by have : (y 1).val < 4096 := (y 1).isLt; omega⟩))
      (∑ k : Fin 1024, rowsA m c (ix2 (y 0) k) * weightsA m c (ix3 0 k (y 1)))
    + gated (proj m c (ix2 (y 0) ⟨17744 + (y 1).val, by have : (y 1).val < 4096 := (y 1).isLt; omega⟩))
      (∑ k : Fin 1024, rowsM m c (ix2 (y 0) k) * weightsM m c (ix3 0 k (y 1)))

/-- There are 128 grid points. -/
theorem points (t : Fin cfg0.N) : t.val < 128 := lt_of_lt_of_eq t.isLt N_0

/-- The block of the result at a point. -/
def outcome (t : Fin cfg0.N) : FVec Ideal S1024x256 .bf16 := fun y =>
  merged m c (ix2 ⟨t.val / 16 * 1024 + (y 0).val, by have := points t; have : (y 0).val < 1024 := (y 0).isLt; omega⟩
    ⟨t.val % 16 * 256 + (y 1).val, by have : (y 1).val < 256 := (y 1).isLt; omega⟩)

/-- The block of rows that each branch's window moves at a grid point, and the block of the result. -/
theorem idx_rows : ∀ t : Fin cfg0.N, win0_0.index t = ![t.val / 16, 0] ∧ win0_1.index t = ![t.val / 16, 0]
    ∧ win0_2.index t = ![t.val / 16, 0] ∧ win0_12.index t = ![t.val / 16, t.val % 16] :=
  (by decide +kernel : ∀ t : Fin grid0.N, _)

/-- The block of weights that each branch's window moves at a grid point. -/
theorem idx_weights : ∀ t : Fin cfg0.N, win0_3.index t = ![0, t.val % 16] ∧ win0_4.index t = ![0, t.val % 16]
    ∧ win0_5.index t = ![0, t.val % 16] :=
  (by decide +kernel : ∀ t : Fin grid0.N, _)

/-- The blocks of gates that are moved at a grid point. -/
theorem idx_gates : ∀ t : Fin cfg0.N,
    (win0_6.index t = ![t.val / 16, 37 + t.val % 16] ∧ win0_8.index t = ![t.val / 16, 53 + t.val % 16]
      ∧ win0_10.index t = ![t.val / 16, 69 + t.val % 16])
    ∧ win0_7.index t = ![t.val / 16, 76 + t.val % 16 * 2] ∧ win0_9.index t = ![t.val / 16, 108 + t.val % 16 * 2]
      ∧ win0_11.index t = ![t.val / 16, 140 + t.val % 16 * 2] :=
  (by decide +kernel : ∀ t : Fin grid0.N, _)

/-- How much of the last block of gates lies inside the array: at least the columns used. -/
theorem extent : ∀ t : Fin cfg0.N, win0_11.xsize (grid0.coords t) 0 = 1024 ∧ 80 ≤ win0_11.xsize (grid0.coords t) 1 :=
  (by decide +kernel : ∀ t : Fin grid0.N, _)

/-- The rows of the first branch at a point. -/
theorem blockR (t : Fin cfg0.N) (i : Fin 1024) (k : Fin 2048) :
    (iblk m c 0 t : Vec Ideal S1024x2048 .bf16) (ix2 i k) = rowsR m c (ix2 ⟨t.val / 16 * 1024 + i.val, by have := points t; omega⟩ k) := by
  blk_ext [iblk, V, idx_rows t]

/-- The rows of the second branch at a point. -/
theorem blockA (t : Fin cfg0.N) (i : Fin 1024) (k : Fin 1024) :
    (iblk m c 1 t : Vec Ideal S1024x1024 .bf16) (ix2 i k) = rowsA m c (ix2 ⟨t.val / 16 * 1024 + i.val, by have := points t; omega⟩ k) := by
  blk_ext [iblk, V, idx_rows t]

/-- The rows of the third branch at a point. -/
theorem blockM (t : Fin cfg0.N) (i : Fin 1024) (k : Fin 1024) :
    (iblk m c 2 t : Vec Ideal S1024x1024 .bf16) (ix2 i k) = rowsM m c (ix2 ⟨t.val / 16 * 1024 + i.val, by have := points t; omega⟩ k) := by
  blk_ext [iblk, V, idx_rows t]

/-- Dropping the first branch's weights' axis of length one. -/
theorem dropR (W : FVec Ideal S1x2048x4096 .f32) (k : Fin 2048) (j : Fin 4096) :
    (shapeCast S2048x4096 W shapeCasts_S1x2048x4096_S2048x4096 : FVec Ideal S2048x4096 .f32) (ix2 k j) = W (ix3 0 k j) := by
  pointwise

/-- Dropping the other branches' weights' axis of length one. -/
theorem dropA (W : FVec Ideal S1x1024x4096 .f32) (k : Fin 1024) (j : Fin 4096) :
    (shapeCast S1024x4096 W shapeCasts_S1x1024x4096_S1024x4096 : FVec Ideal S1024x4096 .f32) (ix2 k j) = W (ix3 0 k j) := by
  pointwise

/-- The first branch's weights as the region finds them. -/
theorem entryR : V m c (Pipeline.arrRef spec0 3)
    = (shapeCast S2048x4096 (weightsR m c) shapeCasts_S1x2048x4096_S2048x4096 : FVec Ideal S2048x4096 .f32) := by
  entry_read
  rfl

/-- The second branch's weights as the region finds them. -/
theorem entryA : V m c (Pipeline.arrRef spec0 4)
    = (shapeCast S1024x4096 (weightsA m c) shapeCasts_S1x1024x4096_S1024x4096 : FVec Ideal S1024x4096 .f32) := by
  entry_read
  rfl

/-- The third branch's weights as the region finds them. -/
theorem entryM : V m c (Pipeline.arrRef spec0 5)
    = (shapeCast S1024x4096 (weightsM m c) shapeCasts_S1x1024x4096_S1024x4096 : FVec Ideal S1024x4096 .f32) := by
  entry_read
  rfl

/-- The weights of the first branch at a point. -/
theorem columnsR (t : Fin cfg0.N) (k : Fin 2048) (j : Fin 256) :
    (iblk m c 3 t : Vec Ideal S2048x256 .f32) (ix2 k j) = weightsR m c (ix3 0 k ⟨t.val % 16 * 256 + j.val, by omega⟩) := by
  refine Eq.trans ?_ ((congrFun (entryR m c) (ix2 k _)).trans (dropR _ k ⟨t.val % 16 * 256 + j.val, by omega⟩))
  blk_ext [iblk, idx_weights t]

/-- The weights of the second branch at a point. -/
theorem columnsA (t : Fin cfg0.N) (k : Fin 1024) (j : Fin 256) :
    (iblk m c 4 t : Vec Ideal S1024x256 .f32) (ix2 k j) = weightsA m c (ix3 0 k ⟨t.val % 16 * 256 + j.val, by omega⟩) := by
  refine Eq.trans ?_ ((congrFun (entryA m c) (ix2 k _)).trans (dropA _ k ⟨t.val % 16 * 256 + j.val, by omega⟩))
  blk_ext [iblk, idx_weights t]

/-- The weights of the third branch at a point. -/
theorem columnsM (t : Fin cfg0.N) (k : Fin 1024) (j : Fin 256) :
    (iblk m c 5 t : Vec Ideal S1024x256 .f32) (ix2 k j) = weightsM m c (ix3 0 k ⟨t.val % 16 * 256 + j.val, by omega⟩) := by
  refine Eq.trans ?_ ((congrFun (entryM m c) (ix2 k _)).trans (dropA _ k ⟨t.val % 16 * 256 + j.val, by omega⟩))
  blk_ext [iblk, idx_weights t]

/-- The wide pieces of the three branches' gates, as fetched. -/
theorem wide (t : Fin cfg0.N) (d : FVec Ideal S1024x256 .f32) (i : Fin 1024) (j : Fin 256) :
    (win0_6.fill (grid0.coords t) d (iblk m c 6 t) : FVec Ideal S1024x256 .f32) (ix2 i j)
        = proj m c (ix2 ⟨t.val / 16 * 1024 + i.val, by have := points t; omega⟩ ⟨(37 + t.val % 16) * 256 + j.val, by omega⟩)
    ∧ (win0_8.fill (grid0.coords t) d (iblk m c 8 t) : FVec Ideal S1024x256 .f32) (ix2 i j)
        = proj m c (ix2 ⟨t.val / 16 * 1024 + i.val, by have := points t; omega⟩ ⟨(53 + t.val % 16) * 256 + j.val, by omega⟩)
    ∧ (win0_10.fill (grid0.coords t) d (iblk m c 10 t) : FVec Ideal S1024x256 .f32) (ix2 i j)
        = proj m c (ix2 ⟨t.val / 16 * 1024 + i.val, by have := points t; omega⟩ ⟨(69 + t.val % 16) * 256 + j.val, by omega⟩) := by
  unfold Pipeline.Window.fill
  refine ⟨(dif_pos (moved0_6 t _)).trans ?_, (dif_pos (moved0_8 t _)).trans ?_, (dif_pos (moved0_10 t _)).trans ?_⟩
  · blk_ext [iblk, V, idx_gates t]
  · blk_ext [iblk, V, idx_gates t]
  · blk_ext [iblk, V, idx_gates t]

/-- A column used of the last piece is among those that a fetch moves. -/
theorem moved_used (t : Fin cfg0.N) (i : Fin 1024) (j : Fin 128) (h : j.val < 80) : win0_11.moved (grid0.coords t) (ix2 i j) = true :=
  (win0_11.moved_iff _ _).mpr fun a => by
    match a with
    | ⟨0, _⟩ => exact lt_of_lt_of_eq i.isLt (extent t).1.symm
    | ⟨1, _⟩ => exact lt_of_lt_of_le h (extent t).2

/-- The narrow pieces of the three branches' gates, as fetched, in the columns used. -/
theorem narrow (t : Fin cfg0.N) (d : FVec Ideal S1024x128 .f32) (i : Fin 1024) (j : Fin 128) (h : j.val < 80) :
    (win0_7.fill (grid0.coords t) d (iblk m c 7 t) : FVec Ideal S1024x128 .f32) (ix2 i j)
        = proj m c (ix2 ⟨t.val / 16 * 1024 + i.val, by have := points t; omega⟩ ⟨(76 + t.val % 16 * 2) * 128 + j.val, by omega⟩)
    ∧ (win0_9.fill (grid0.coords t) d (iblk m c 9 t) : FVec Ideal S1024x128 .f32) (ix2 i j)
        = proj m c (ix2 ⟨t.val / 16 * 1024 + i.val, by have := points t; omega⟩ ⟨(108 + t.val % 16 * 2) * 128 + j.val, by omega⟩)
    ∧ (win0_11.fill (grid0.coords t) d (iblk m c 11 t) : FVec Ideal S1024x128 .f32) (ix2 i j)
        = proj m c (ix2 ⟨t.val / 16 * 1024 + i.val, by have := points t; omega⟩ ⟨(140 + t.val % 16 * 2) * 128 + j.val, by omega⟩) := by
  unfold Pipeline.Window.fill
  refine ⟨(dif_pos (moved0_7 t _)).trans ?_, (dif_pos (moved0_9 t _)).trans ?_, (dif_pos (moved_used t i j h)).trans ?_⟩
  · blk_ext [iblk, V, idx_gates t]
  · blk_ext [iblk, V, idx_gates t]
  · blk_ext [iblk, V, idx_gates t]

/-- A gate from its two pieces, when they are neighbouring parts of one row. -/
theorem gate_apply (g : FVec Ideal S1024x256 .f32) (e : FVec Ideal S1024x128 .f32) (P : ℕ → EReal) (a : ℕ) (i : Fin 1024) (j : Fin 256)
    (hg : ∀ k : Fin 256, g (ix2 i k) = P (a + k.val)) (he : ∀ k : Fin 128, k.val < 80 → e (ix2 i k) = P (a + 256 + k.val)) :
    gate g e i j = P (a + 80 + j.val) := by
  unfold gate
  split
  · rename_i h
    rw [hg]
    exact congrArg P (by show a + (80 + j.val) = _; omega)
  · rename_i h
    rw [he _ (by show 80 + j.val - 256 < 80; omega)]
    exact congrArg P (by show a + 256 + (80 + j.val - 256) = _; omega)

/-- A row of the projection at any column, zero beyond the array. -/
def along (r : Fin 8192) (n : ℕ) : EReal := if h : n < 21840 then proj m c (ix2 r ⟨n, h⟩) else 0

/-- Inside the array, a row at a column is the projection there. -/
theorem along_eq (r : Fin 8192) (n n' : ℕ) (e : n' = n) (h : n < 21840) : proj m c (ix2 r ⟨n, h⟩) = along m c r n' := by
  subst e
  unfold along
  rw [dif_pos h]

/-- The three branches' gates at a point. -/
theorem gates (t : Fin cfg0.N) (d0 d1 d2 : FVec Ideal S1024x256 .f32) (f0 f1 f2 : FVec Ideal S1024x128 .f32) (i : Fin 1024) (j : Fin 256) :
    gate (win0_6.fill (grid0.coords t) d0 (iblk m c 6 t)) (win0_7.fill (grid0.coords t) f0 (iblk m c 7 t)) i j
        = along m c ⟨t.val / 16 * 1024 + i.val, by have := points t; omega⟩ (9552 + (t.val % 16 * 256 + j.val))
    ∧ gate (win0_8.fill (grid0.coords t) d1 (iblk m c 8 t)) (win0_9.fill (grid0.coords t) f1 (iblk m c 9 t)) i j
        = along m c ⟨t.val / 16 * 1024 + i.val, by have := points t; omega⟩ (13648 + (t.val % 16 * 256 + j.val))
    ∧ gate (win0_10.fill (grid0.coords t) d2 (iblk m c 10 t)) (win0_11.fill (grid0.coords t) f2 (iblk m c 11 t)) i j
        = along m c ⟨t.val / 16 * 1024 + i.val, by have := points t; omega⟩ (17744 + (t.val % 16 * 256 + j.val)) := by
  refine ⟨(gate_apply _ _ (along m c ⟨t.val / 16 * 1024 + i.val, by have := points t; omega⟩) ((37 + t.val % 16) * 256) i j
      (fun k => (wide m c t d0 i k).1.trans (along_eq m c _ _ _ rfl _))
      (fun k h => (narrow m c t f0 i k h).1.trans (along_eq m c _ _ _ (by omega) _))).trans (congrArg _ (by omega)),
    (gate_apply _ _ (along m c ⟨t.val / 16 * 1024 + i.val, by have := points t; omega⟩) ((53 + t.val % 16) * 256) i j
      (fun k => (wide m c t d1 i k).2.1.trans (along_eq m c _ _ _ rfl _))
      (fun k h => (narrow m c t f1 i k h).2.1.trans (along_eq m c _ _ _ (by omega) _))).trans (congrArg _ (by omega)),
    (gate_apply _ _ (along m c ⟨t.val / 16 * 1024 + i.val, by have := points t; omega⟩) ((69 + t.val % 16) * 256) i j
      (fun k => (wide m c t d2 i k).2.2.trans (along_eq m c _ _ _ rfl _))
      (fun k h => (narrow m c t f2 i k h).2.2.trans (along_eq m c _ _ _ (by omega) _))).trans (congrArg _ (by omega))⟩

/-- The block that the body writes at a point, whatever its buffers held beyond the array. -/
theorem written (t : Fin cfg0.N) (d0 d1 d2 : FVec Ideal S1024x256 .f32) (f0 f1 f2 : FVec Ideal S1024x128 .f32) :
    merging (iblk m c 0 t) (iblk m c 1 t) (iblk m c 2 t) (iblk m c 3 t) (iblk m c 4 t) (iblk m c 5 t)
      (win0_6.fill (grid0.coords t) d0 (iblk m c 6 t)) (win0_7.fill (grid0.coords t) f0 (iblk m c 7 t))
      (win0_8.fill (grid0.coords t) d1 (iblk m c 8 t)) (win0_9.fill (grid0.coords t) f1 (iblk m c 9 t))
      (win0_10.fill (grid0.coords t) d2 (iblk m c 10 t)) (win0_11.fill (grid0.coords t) f2 (iblk m c 11 t)) = outcome m c t := by
  funext y
  obtain ⟨i, j, rfl⟩ : ∃ (i : Fin 1024) (j : Fin 256), y = ix2 i j := ⟨y 0, y 1, by idx_vars y⟩
  have hg := gates m c t d0 d1 d2 f0 f1 f2 i j
  refine (merging_apply _ _ _ _ _ _ _ _ _ _ _ _ i j).trans ?_
  rw [gated_eq, gated_eq, gated_eq, hg.1, hg.2.1, hg.2.2]
  refine congrArg₂ (· + ·) (congrArg₂ (· + ·) (congrArg₂ gated (along_eq m c _ _ _ rfl _).symm ?_)
    (congrArg₂ gated (along_eq m c _ _ _ rfl _).symm ?_)) (congrArg₂ gated (along_eq m c _ _ _ rfl _).symm ?_)
  · exact Finset.sum_congr rfl fun k _ => congrArg₂ (· * ·) (blockR m c t i k) (columnsR m c t k j)
  · exact Finset.sum_congr rfl fun k _ => congrArg₂ (· * ·) (blockA m c t i k) (columnsA m c t k j)
  · exact Finset.sum_congr rfl fun k _ => congrArg₂ (· * ·) (blockM m c t i k) (columnsM m c t k j)

end Cert.KernelMergeIdeal.Gates

end

end
-- ==== Proof.MergeValue.lean ====
module

public import proofs.«01_k».proof.Proof.MergeColumns
public import proofs.«01_k».proof.Proof.Gen.ReferenceMergeIdeal.Run

/-! The gated merge's run: every point writes its block of the merged array, and the blocks cover it. -/

@[expose] public section

set_option maxRecDepth 16384

noncomputable section

namespace Cert.KernelMergeIdeal.Gates

open Cert.KernelMergeIdeal Cert.KernelMergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg) (c : Dev nD)

/-- The data of the pipeline: the blocks read stay, and the block written is the merged array's. -/
def data (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => win0_6.fill (grid0.coords t) (fun _ => (0 : EReal)) (iblk m c 6 t)
    | ⟨7, _⟩ => win0_7.fill (grid0.coords t) (fun _ => (0 : EReal)) (iblk m c 7 t)
    | ⟨8, _⟩ => win0_8.fill (grid0.coords t) (fun _ => (0 : EReal)) (iblk m c 8 t)
    | ⟨9, _⟩ => win0_9.fill (grid0.coords t) (fun _ => (0 : EReal)) (iblk m c 9 t)
    | ⟨10, _⟩ => win0_10.fill (grid0.coords t) (fun _ => (0 : EReal)) (iblk m c 10 t)
    | ⟨11, _⟩ => win0_11.fill (grid0.coords t) (fun _ => (0 : EReal)) (iblk m c 11 t)
    | ⟨12, _⟩ => outcome m c t
  Φ _ := Pipeline.ΦA spec0 c
  q w := Pipeline.shareOf spec0 w
  owed _ := 0

/-- The data's arrays are those that the region finds. -/
theorem data_A (w : Fin cfg0.W) : (data m 0 c).A w = V m c (Pipeline.arrRef spec0 w) := by
  dsimp only [data]

/-- What window 0's buffer is left with: its block. -/
theorem after_0 (t : Fin cfg0.N) : (data m 0 c).after 0 t = iblk m c 0 t := by dsimp only [data]
/-- What window 1's buffer is left with: its block. -/
theorem after_1 (t : Fin cfg0.N) : (data m 0 c).after 1 t = iblk m c 1 t := by dsimp only [data]
/-- What window 2's buffer is left with: its block. -/
theorem after_2 (t : Fin cfg0.N) : (data m 0 c).after 2 t = iblk m c 2 t := by dsimp only [data]
/-- What window 3's buffer is left with: its block. -/
theorem after_3 (t : Fin cfg0.N) : (data m 0 c).after 3 t = iblk m c 3 t := by dsimp only [data]
/-- What window 4's buffer is left with: its block. -/
theorem after_4 (t : Fin cfg0.N) : (data m 0 c).after 4 t = iblk m c 4 t := by dsimp only [data]
/-- What window 5's buffer is left with: its block. -/
theorem after_5 (t : Fin cfg0.N) : (data m 0 c).after 5 t = iblk m c 5 t := by dsimp only [data]
/-- What window 6's buffer is left with, up to what lies beyond the array: its block. -/
theorem after_6 (t : Fin cfg0.N) :
    (data m 0 c).after 6 t = win0_6.fill (grid0.coords t) (fun _ => (0 : EReal)) (iblk m c 6 t) := by dsimp only [data]
/-- What window 7's buffer is left with, up to what lies beyond the array: its block. -/
theorem after_7 (t : Fin cfg0.N) :
    (data m 0 c).after 7 t = win0_7.fill (grid0.coords t) (fun _ => (0 : EReal)) (iblk m c 7 t) := by dsimp only [data]
/-- What window 8's buffer is left with, up to what lies beyond the array: its block. -/
theorem after_8 (t : Fin cfg0.N) :
    (data m 0 c).after 8 t = win0_8.fill (grid0.coords t) (fun _ => (0 : EReal)) (iblk m c 8 t) := by dsimp only [data]
/-- What window 9's buffer is left with, up to what lies beyond the array: its block. -/
theorem after_9 (t : Fin cfg0.N) :
    (data m 0 c).after 9 t = win0_9.fill (grid0.coords t) (fun _ => (0 : EReal)) (iblk m c 9 t) := by dsimp only [data]
/-- What window 10's buffer is left with, up to what lies beyond the array: its block. -/
theorem after_10 (t : Fin cfg0.N) :
    (data m 0 c).after 10 t = win0_10.fill (grid0.coords t) (fun _ => (0 : EReal)) (iblk m c 10 t) := by dsimp only [data]
/-- What window 11's buffer is left with, up to what lies beyond the array: its block. -/
theorem after_11 (t : Fin cfg0.N) :
    (data m 0 c).after 11 t = win0_11.fill (grid0.coords t) (fun _ => (0 : EReal)) (iblk m c 11 t) := by dsimp only [data]
/-- What the result's buffer is left with. -/
theorem after_12 (t : Fin cfg0.N) : (data m 0 c).after 12 t = outcome m c t := by dsimp only [data]

/-- The cut of a block depends on the block's index alone. -/
theorem cut_of_index {n n' : Fin 2 → ℕ} {size : Fin 2 → ℕ} {full : Fin 2 → ℕ} (h : n = n') :
    (fun a => Pipeline.Clip.of (n a) (size a) (full a)) = fun a => Pipeline.Clip.of (n' a) (size a) (full a) := by
  rw [h]

/-- Window 0's buffer holds its block. -/
theorem before_0 (t : Fin cfg0.N) (d) : (data m 0 c).before 0 t d = iblk m c 0 t :=
  before0_0_of m (data m 0 c) (data_A m c 0) (after_0 m c) t d
/-- Window 1's buffer holds its block. -/
theorem before_1 (t : Fin cfg0.N) (d) : (data m 0 c).before 1 t d = iblk m c 1 t :=
  before0_1_of m (data m 0 c) (data_A m c 1) (after_1 m c) t d
/-- Window 2's buffer holds its block. -/
theorem before_2 (t : Fin cfg0.N) (d) : (data m 0 c).before 2 t d = iblk m c 2 t :=
  before0_2_of m (data m 0 c) (data_A m c 2) (after_2 m c) t d
/-- Window 3's buffer holds its block. -/
theorem before_3 (t : Fin cfg0.N) (d) : (data m 0 c).before 3 t d = iblk m c 3 t :=
  before0_3_of m (data m 0 c) (data_A m c 3) (after_3 m c) t d
/-- Window 4's buffer holds its block. -/
theorem before_4 (t : Fin cfg0.N) (d) : (data m 0 c).before 4 t d = iblk m c 4 t :=
  before0_4_of m (data m 0 c) (data_A m c 4) (after_4 m c) t d
/-- Window 5's buffer holds its block. -/
theorem before_5 (t : Fin cfg0.N) (d) : (data m 0 c).before 5 t d = iblk m c 5 t :=
  before0_5_of m (data m 0 c) (data_A m c 5) (after_5 m c) t d
/-- Window 6's buffer holds its block, and beyond the array anything. -/
theorem before_6 (t : Fin cfg0.N) (d : FVec Ideal S1024x256 .f32) :
    (data m 0 c).before 6 t d = win0_6.fill (grid0.coords t) d (iblk m c 6 t) :=
  (data m 0 c).before_in_eq_fetched 6 rfl (fun _ => rfl) (fun _ _ h => cut_of_index h)
    (fun t => by rw [after_6]; exact win0_6.cut_fill _ _ _) t d
/-- Window 7's buffer holds its block, and beyond the array anything. -/
theorem before_7 (t : Fin cfg0.N) (d : FVec Ideal S1024x128 .f32) :
    (data m 0 c).before 7 t d = win0_7.fill (grid0.coords t) d (iblk m c 7 t) :=
  (data m 0 c).before_in_eq_fetched 7 rfl (fun _ => rfl) (fun _ _ h => cut_of_index h)
    (fun t => by rw [after_7]; exact win0_7.cut_fill _ _ _) t d
/-- Window 8's buffer holds its block, and beyond the array anything. -/
theorem before_8 (t : Fin cfg0.N) (d : FVec Ideal S1024x256 .f32) :
    (data m 0 c).before 8 t d = win0_8.fill (grid0.coords t) d (iblk m c 8 t) :=
  (data m 0 c).before_in_eq_fetched 8 rfl (fun _ => rfl) (fun _ _ h => cut_of_index h)
    (fun t => by rw [after_8]; exact win0_8.cut_fill _ _ _) t d
/-- Window 9's buffer holds its block, and beyond the array anything. -/
theorem before_9 (t : Fin cfg0.N) (d : FVec Ideal S1024x128 .f32) :
    (data m 0 c).before 9 t d = win0_9.fill (grid0.coords t) d (iblk m c 9 t) :=
  (data m 0 c).before_in_eq_fetched 9 rfl (fun _ => rfl) (fun _ _ h => cut_of_index h)
    (fun t => by rw [after_9]; exact win0_9.cut_fill _ _ _) t d
/-- Window 10's buffer holds its block, and beyond the array anything. -/
theorem before_10 (t : Fin cfg0.N) (d : FVec Ideal S1024x256 .f32) :
    (data m 0 c).before 10 t d = win0_10.fill (grid0.coords t) d (iblk m c 10 t) :=
  (data m 0 c).before_in_eq_fetched 10 rfl (fun _ => rfl) (fun _ _ h => cut_of_index h)
    (fun t => by rw [after_10]; exact win0_10.cut_fill _ _ _) t d
/-- Window 11's buffer holds its block, and beyond the array anything. -/
theorem before_11 (t : Fin cfg0.N) (d : FVec Ideal S1024x128 .f32) :
    (data m 0 c).before 11 t d = win0_11.fill (grid0.coords t) d (iblk m c 11 t) :=
  (data m 0 c).before_in_eq_fetched 11 rfl (fun _ => rfl) (fun _ _ h => cut_of_index h)
    (fun t => by rw [after_11]; exact win0_11.cut_fill _ _ _) t d

/-- The body at a point: from the blocks to the blocks and the merged one. -/
theorem body_point (t : Fin cfg0.N) :
    iprop((data m 0 c).Φ t.castSucc ∗ (data m 0 c).owesAt () t.castSucc
        ∗ (∃ d, owns (c : Thread nD τ) (st0_0 t) fullShare ((data m 0 c).before 0 t d))
        ∗ (∃ d, owns (c : Thread nD τ) (st0_1 t) fullShare ((data m 0 c).before 1 t d))
        ∗ (∃ d, owns (c : Thread nD τ) (st0_2 t) fullShare ((data m 0 c).before 2 t d))
        ∗ (∃ d, owns (c : Thread nD τ) (st0_3 t) fullShare ((data m 0 c).before 3 t d))
        ∗ (∃ d, owns (c : Thread nD τ) (st0_4 t) fullShare ((data m 0 c).before 4 t d))
        ∗ (∃ d, owns (c : Thread nD τ) (st0_5 t) fullShare ((data m 0 c).before 5 t d))
        ∗ (∃ d, owns (c : Thread nD τ) (st0_6 t) fullShare ((data m 0 c).before 6 t d))
        ∗ (∃ d, owns (c : Thread nD τ) (st0_7 t) fullShare ((data m 0 c).before 7 t d))
        ∗ (∃ d, owns (c : Thread nD τ) (st0_8 t) fullShare ((data m 0 c).before 8 t d))
        ∗ (∃ d, owns (c : Thread nD τ) (st0_9 t) fullShare ((data m 0 c).before 9 t d))
        ∗ (∃ d, owns (c : Thread nD τ) (st0_10 t) fullShare ((data m 0 c).before 10 t d))
        ∗ (∃ d, owns (c : Thread nD τ) (st0_11 t) fullShare ((data m 0 c).before 11 t d))
        ∗ (∃ d, owns (c : Thread nD τ) (st0_12 t) fullShare ((data m 0 c).before 12 t d)))
      ⊢ wp frame (wpE (defs₀ (F := Ideal)) Variants.none c none) Set.univ (bodyAt0 t) (fun _ =>
        iprop((data m 0 c).Φ t.succ ∗ (data m 0 c).owesAt () t.succ
          ∗ owns (c : Thread nD τ) (st0_0 t) fullShare ((data m 0 c).after 0 t)
          ∗ owns (c : Thread nD τ) (st0_1 t) fullShare ((data m 0 c).after 1 t)
          ∗ owns (c : Thread nD τ) (st0_2 t) fullShare ((data m 0 c).after 2 t)
          ∗ owns (c : Thread nD τ) (st0_3 t) fullShare ((data m 0 c).after 3 t)
          ∗ owns (c : Thread nD τ) (st0_4 t) fullShare ((data m 0 c).after 4 t)
          ∗ owns (c : Thread nD τ) (st0_5 t) fullShare ((data m 0 c).after 5 t)
          ∗ (∃ d, owns (c : Thread nD τ) (st0_6 t) fullShare (win0_6.fill (grid0.coords t) d (win0_6.cut (grid0.coords t) ((data m 0 c).after 6 t))))
          ∗ (∃ d, owns (c : Thread nD τ) (st0_7 t) fullShare (win0_7.fill (grid0.coords t) d (win0_7.cut (grid0.coords t) ((data m 0 c).after 7 t))))
          ∗ (∃ d, owns (c : Thread nD τ) (st0_8 t) fullShare (win0_8.fill (grid0.coords t) d (win0_8.cut (grid0.coords t) ((data m 0 c).after 8 t))))
          ∗ (∃ d, owns (c : Thread nD τ) (st0_9 t) fullShare (win0_9.fill (grid0.coords t) d (win0_9.cut (grid0.coords t) ((data m 0 c).after 9 t))))
          ∗ (∃ d, owns (c : Thread nD τ) (st0_10 t) fullShare (win0_10.fill (grid0.coords t) d (win0_10.cut (grid0.coords t) ((data m 0 c).after 10 t))))
          ∗ (∃ d, owns (c : Thread nD τ) (st0_11 t) fullShare (win0_11.fill (grid0.coords t) d (win0_11.cut (grid0.coords t) ((data m 0 c).after 11 t))))
          ∗ owns (c : Thread nD τ) (st0_12 t) fullShare ((data m 0 c).after 12 t))) := by
  rw [show (data m 0 c).owesAt () t.succ = (data m 0 c).owesAt () t.castSucc from rfl,
    show (data m 0 c).Φ t.castSucc = Pipeline.ΦA spec0 c from rfl, show (data m 0 c).Φ t.succ = Pipeline.ΦA spec0 c from rfl,
    after_0, after_1, after_2, after_3, after_4, after_5, after_6, after_7, after_8, after_9, after_10, after_11, after_12,
    win0_6.cut_fill, win0_7.cut_fill, win0_8.cut_fill, win0_9.cut_fill, win0_10.cut_fill, win0_11.cut_fill]
  simp only [before_0, before_1, before_2, before_3, before_4, before_5, before_6, before_7, before_8, before_9, before_10, before_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_runs c (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) (win0_6.fill (grid0.coords t) d6 (iblk m c 6 t))
     (win0_7.fill (grid0.coords t) d7 (iblk m c 7 t)) (win0_8.fill (grid0.coords t) d8 (iblk m c 8 t)) (win0_9.fill (grid0.coords t) d9 (iblk m c 9 t))
     (win0_10.fill (grid0.coords t) d10 (iblk m c 10 t)) (win0_11.fill (grid0.coords t) d11 (iblk m c 11 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  rw [← written m c t d6 d8 d10 d7 d9 d11]
  iexact H12

/-- The body table's row at a point is the kernel's body there. -/
theorem row (t : Fin cfg0.N) : defs₀ (F := Ideal) .tc cfg0.body (cfg0.bodyArgs t (cfg0.slots t)) = bodyAt0 t := by
  unfold defs₀; rw [Defs.onTc_tc]

/-- The body's obligation, at every point. -/
theorem obligation : BodyObligationLoose (data m 0 c) (defs₀ (F := Ideal)) Variants.none () Set.univ := fun t => by
  rw [bigSep_W0, bigSep_W0, row]
  exact triple_restated (body_point m c t) rfl .rfl fun _ => .rfl

set_option backward.isDefEq.respectTransparency.types false in
/-- Every run ends, with the arrays as the data says and every counter at zero. -/
theorem run_all : θ_run defs (onTc (τ := τ) (main (F := Ideal))) (s₀ m ρ)
    (fun r => Pipeline.FramePost cfgs (data m) 0 (V m) r ∧ r.2.sem = fun _ => 0) :=
  Pipeline.θ_run_frame_shared (Q' := _) cfgs (data m) (0 : Fin 1) launch₀0 defs₀ Variants.none m ρ main
    (hbody := obligation m) (hq := fun _ _ _ => rfl) (howed := fun _ _ => rfl)
    (V := V m) (hmain := hmain m Variants.none) (hA := data_A m) (hΦ := fun _ _ => rfl)

/-- After every point, the output array is the merged one. -/
theorem array_eq : (data m 0 c).arrAt 12 cfg0.N = merged m c := by
  refine (data m 0 c).arrAt_eq_of_covers 12 _ (by decide +kernel) fun t _ y => ?_
  rw [after_12]
  refine congrArg (merged m c) ?_
  blk_ext [idx_rows t]

/-- The arguments after a run, and the array it leaves. -/
theorem arguments (r : PUnit × MemSt nD τ sig (Elt Ideal)) (h : Pipeline.FramePost cfgs (data m) 0 (V m) r) :
    r.2.mem ((c : Thread nD τ).loc main_v3) = merged m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  ⟨((h c).1 12).trans (array_eq m c),
    ((h c).1 6).trans (((data m 0 c).arrAt_in 6 rfl _).trans ((data_A m c 6).trans (V_main_arg0 m c))),
    ((h c).1 0).trans (((data m 0 c).arrAt_in 0 rfl _).trans ((data_A m c 0).trans (V_main_arg1 m c))),
    ((h c).1 1).trans (((data m 0 c).arrAt_in 1 rfl _).trans ((data_A m c 1).trans (V_main_arg2 m c))),
    ((h c).1 2).trans (((data m 0 c).arrAt_in 2 rfl _).trans ((data_A m c 2).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-- Every run ends with the merged array in the output, the arguments as they began. -/
theorem run : θ_run defs (onTc (τ := τ) (main (F := Ideal))) ⟨m, fun _ => 0, ρ⟩ fun r => ∀ c : Dev nD,
      r.2.mem ((c : Thread nD τ).loc main_v3) = merged m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => arguments m c r h.1) (run_all m ρ)

/-- The arguments end as they began, and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r h => ⟨fun c => (arguments m c r h.1).2, h.2⟩) (run_all m ρ)

end Cert.KernelMergeIdeal.Gates

namespace Cert.ReferenceMergeIdeal.Gates

open Cert.ReferenceMergeIdeal Cert.ReferenceMergeIdeal.Gen
open Idealize.ShloMosaic
open Cert.KernelMergeIdeal.Gates (gated)

/-- The sigmoids of the gates, one slab for each branch. -/
abbrev sigmoids (P : FVec Ideal S8192x21840 .f32) : FVec Ideal S8192x3x4096 .f32 :=
  Host.divf (broadcastInDim S8192x3x4096 ![] bcast_S_S8192x3x4096 (constant S_ .f32 0x3F800000#32))
    (addf (broadcastInDim S8192x3x4096 ![] bcast_S_S8192x3x4096 (constant S_ .f32 0x3F800000#32))
      (Host.exp (Host.negf (shapeCast _ (extractStridedSlice S8192x12288 ![0, 9552] P slices_S8192x21840_S8192x12288_0_9552)
        shapeCasts_S8192x12288_S8192x3x4096))))

/-- A sigmoid at an index. -/
theorem sigmoids_apply (P : FVec Ideal S8192x21840 .f32) (i : Fin 8192) (b : Fin 3) (j : Fin 4096) :
    sigmoids P (ix3 i b j) = Ideal.div 1 (1 + Ideal.exp (-P (ix2 i ⟨9552 + (b.val * 4096 + j.val), by omega⟩))) := by
  unfold sigmoids
  pointwise

/-- The slabs of the three branches, the axis of length one dropped. -/
theorem slab_apply (S : FVec Ideal S8192x3x4096 .f32) (i : Fin 8192) (j : Fin 4096) :
    (shapeCast S8192x4096 (extractStridedSlice S8192x1x4096 ![0, 0, 0] S slices_S8192x3x4096_S8192x1x4096_0_0_0)
        shapeCasts_S8192x1x4096_S8192x4096 : FVec Ideal S8192x4096 .f32) (ix2 i j) = S (ix3 i 0 j)
    ∧ (shapeCast S8192x4096 (extractStridedSlice S8192x1x4096 ![0, 1, 0] S slices_S8192x3x4096_S8192x1x4096_0_1_0)
        shapeCasts_S8192x1x4096_S8192x4096 : FVec Ideal S8192x4096 .f32) (ix2 i j) = S (ix3 i 1 j)
    ∧ (shapeCast S8192x4096 (extractStridedSlice S8192x1x4096 ![0, 2, 0] S slices_S8192x3x4096_S8192x1x4096_0_2_0)
        shapeCasts_S8192x1x4096_S8192x4096 : FVec Ideal S8192x4096 .f32) (ix2 i j) = S (ix3 i 2 j) := by
  refine ⟨?_, ?_, ?_⟩
  · pointwise
  · pointwise
  · pointwise

/-- The product of the first branch. -/
theorem productR (R : FVec Ideal S8192x2048 .bf16) (U : FVec Ideal S1x2048x4096 .f32) (i : Fin 8192) (j : Fin 4096) :
    (Host.dotGeneral dot_S8192x2048_S2048x4096_S8192x4096_1_0_0_1_n_n none (extf .f32 R bitsLt_bf16_f32)
        (shapeCast S2048x4096 U shapeCasts_S1x2048x4096_S2048x4096) : FVec Ideal S8192x4096 .f32) (ix2 i j)
      = ∑ k : Fin 2048, R (ix2 i k) * U (ix3 0 k j) := by
  pointwise

/-- The product of the other two branches. -/
theorem productA (A : FVec Ideal S8192x1024 .bf16) (V : FVec Ideal S1x1024x4096 .f32) (i : Fin 8192) (j : Fin 4096) :
    (Host.dotGeneral dot_S8192x1024_S1024x4096_S8192x4096_1_0_0_1_n_n none (extf .f32 A bitsLt_bf16_f32)
        (shapeCast S1024x4096 V shapeCasts_S1x1024x4096_S1024x4096) : FVec Ideal S8192x4096 .f32) (ix2 i j)
      = ∑ k : Fin 1024, A (ix2 i k) * V (ix3 0 k j) := by
  pointwise

/-- The reference's array is the merged one. -/
theorem result_eq (P : FVec Ideal S8192x21840 .f32) (R : FVec Ideal S8192x2048 .bf16) (A M : FVec Ideal S8192x1024 .bf16)
    (U : FVec Ideal S1x2048x4096 .f32) (V W : FVec Ideal S1x1024x4096 .f32) :
    ((truncf .bf16 (addf (addf
      (mulf (shapeCast _ (extractStridedSlice S8192x1x4096 ![0, 0, 0] (sigmoids P) slices_S8192x3x4096_S8192x1x4096_0_0_0) shapeCasts_S8192x1x4096_S8192x4096)
        (Host.dotGeneral dot_S8192x2048_S2048x4096_S8192x4096_1_0_0_1_n_n none (extf .f32 R bitsLt_bf16_f32) (shapeCast _ U shapeCasts_S1x2048x4096_S2048x4096)))
      (mulf (shapeCast _ (extractStridedSlice S8192x1x4096 ![0, 1, 0] (sigmoids P) slices_S8192x3x4096_S8192x1x4096_0_1_0) shapeCasts_S8192x1x4096_S8192x4096)
        (Host.dotGeneral dot_S8192x1024_S1024x4096_S8192x4096_1_0_0_1_n_n none (extf .f32 A bitsLt_bf16_f32) (shapeCast _ V shapeCasts_S1x1024x4096_S1024x4096))))
      (mulf (shapeCast _ (extractStridedSlice S8192x1x4096 ![0, 2, 0] (sigmoids P) slices_S8192x3x4096_S8192x1x4096_0_2_0) shapeCasts_S8192x1x4096_S8192x4096)
        (Host.dotGeneral dot_S8192x1024_S1024x4096_S8192x4096_1_0_0_1_n_n none (extf .f32 M bitsLt_bf16_f32) (shapeCast _ W shapeCasts_S1x1024x4096_S1024x4096)))) bitsLt_bf16_f32) : FVec Ideal S8192x4096 .bf16)
      = fun y =>
        gated (P (ix2 (y 0) ⟨9552 + (y 1).val, by have : (y 1).val < 4096 := (y 1).isLt; omega⟩)) (∑ k : Fin 2048, R (ix2 (y 0) k) * U (ix3 0 k (y 1)))
          + gated (P (ix2 (y 0) ⟨13648 + (y 1).val, by have : (y 1).val < 4096 := (y 1).isLt; omega⟩)) (∑ k : Fin 1024, A (ix2 (y 0) k) * V (ix3 0 k (y 1)))
          + gated (P (ix2 (y 0) ⟨17744 + (y 1).val, by have : (y 1).val < 4096 := (y 1).isLt; omega⟩)) (∑ k : Fin 1024, M (ix2 (y 0) k) * W (ix3 0 k (y 1))) := by
  funext y
  obtain ⟨i, j, rfl⟩ : ∃ (i : Fin 8192) (j : Fin 4096), y = ix2 i j := ⟨y 0, y 1, by idx_vars y⟩
  have hs := slab_apply (sigmoids P) i j
  have g0 := hs.1.trans (sigmoids_apply P i 0 j)
  have g1 := hs.2.1.trans (sigmoids_apply P i 1 j)
  have g2 := hs.2.2.trans (sigmoids_apply P i 2 j)
  have e0 : (⟨9552 + ((0 : Fin 3).val * 4096 + j.val), by have : (0 : Fin 3).val = 0 := rfl; omega⟩ : Fin 21840) = ⟨9552 + j.val, by omega⟩ :=
    Fin.ext (by show 9552 + (0 * 4096 + j.val) = 9552 + j.val; omega)
  have e1 : (⟨9552 + ((1 : Fin 3).val * 4096 + j.val), by have : (1 : Fin 3).val = 1 := rfl; omega⟩ : Fin 21840) = ⟨13648 + j.val, by omega⟩ :=
    Fin.ext (by show 9552 + (1 * 4096 + j.val) = 13648 + j.val; omega)
  have e2 : (⟨9552 + ((2 : Fin 3).val * 4096 + j.val), by have : (2 : Fin 3).val = 2 := rfl; omega⟩ : Fin 21840) = ⟨17744 + j.val, by omega⟩ :=
    Fin.ext (by show 9552 + (2 * 4096 + j.val) = 17744 + j.val; omega)
  rw [e0] at g0
  rw [e1] at g1
  rw [e2] at g2
  exact congrArg₂ (· + ·) (congrArg₂ (· + ·) (congrArg₂ (· * ·) g0 (productR R U i j)) (congrArg₂ (· * ·) g1 (productA A V i j)))
    (congrArg₂ (· * ·) g2 (productA M W i j))

end Cert.ReferenceMergeIdeal.Gates

end

end
-- ==== Proof.KvProj.lean ====
module

public import proofs.«01_k».proof.Proof.Gen.KernelKvIdeal.Value
public import proofs.«01_k».proof.Proof.Gen.ReferenceKvIdeal.Run
public import Idealize.ShloMosaic.Lib.Pipeline.ValueKit
public import Idealize.ShloMosaic.Lib.Pipeline.ReadBack
public import Idealize.ShloMosaic.Lib.Pointwise

/-! The projection of the memory onto keys and values: its blocks are the columns of one product, and the reference's array is the same. -/

@[expose] public section

set_option maxRecDepth 16384

noncomputable section

namespace Cert.KernelKvIdeal.Product

open Cert.KernelKvIdeal Cert.KernelKvIdeal.Gen Cert.KernelKvIdeal.Value
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![0, 0] ∧ win0_1.index t = ![0, t.val] ∧ win0_2.index t = ![0, t.val] :=
  (by decide +kernel : ∀ t : Fin grid0.N, _)

/-- There are four grid points, one for every 512 columns. -/
theorem points (t : Fin cfg0.N) : t.val < 4 := lt_of_lt_of_eq t.isLt N_0

/-- The memory's normalised rows. -/
abbrev slots : FVec Ideal S512x4096 .bf16 := m ((c : Thread nD τ).loc main_arg0)

/-- The weights of keys and values. -/
abbrev weights : FVec Ideal S1x4096x2048 .f32 := m ((c : Thread nD τ).loc main_arg1)

/-- Every point has all the rows. -/
theorem slots_block (t : Fin cfg0.N) (i : Fin 512) (k : Fin 4096) :
    (iblk m c 0 t : Vec Ideal S512x4096 .bf16) (ix2 i k) = slots m c (ix2 i k) := by
  blk_ext [iblk, V, idx t]

/-- The weights with the layer's axis of size one dropped. -/
def flat : FVec Ideal S4096x2048 .f32 := shapeCast S4096x2048 (weights m c) shapeCasts_S1x4096x2048_S4096x2048

/-- The weights that the pipeline finds are the argument's. -/
theorem entry_weights : V m c (Pipeline.arrRef spec0 1) = flat m c := by
  unfold flat
  entry_read
  rfl

/-- An entry of the weights without their first axis. -/
theorem flat_apply (k : Fin 4096) (j : Fin 2048) : flat m c (ix2 k j) = weights m c (ix3 0 k j) := by
  unfold flat
  pointwise

/-- The weights' columns at a point. -/
theorem weights_block (t : Fin cfg0.N) (k : Fin 4096) (j : Fin 512) :
    (iblk m c 1 t : Vec Ideal S4096x512 .f32) (ix2 k j)
      = weights m c (ix3 0 k ⟨t.val * 512 + j.val, by have := points t; omega⟩) := by
  refine Eq.trans ?_ (flat_apply m c k ⟨t.val * 512 + j.val, by have := points t; omega⟩)
  rw [← entry_weights]
  blk_ext [iblk, idx t]

/-- The array that the kernel leaves. -/
def product : FVec Ideal S512x2048 .f32 := fun y =>
  ∑ k : Fin 4096, slots m c (ix2 (y 0) k) * weights m c (ix3 0 k (y 1))

/-- A block of the product. -/
def block (X : FVec Ideal S512x4096 .bf16) (W : FVec Ideal S4096x512 .f32) : FVec Ideal S512x512 .f32 :=
  fun y => ∑ k : Fin 4096, X (ix2 (y 0) k) * W (ix2 k (y 1))

/-- What a point writes is the product of its two blocks. -/
theorem written (t : Fin cfg0.N) (i j : Fin 512) :
    outsAt0 m c t (ix2 i j) = block (iblk m c 0 t) (iblk m c 1 t) (ix2 i j) := by
  unfold outsAt0
  frame_open
  frame_out
  generalize iblk m c 0 t = X
  generalize iblk m c 1 t = W
  change FVec Ideal S512x4096 .bf16 at X
  change FVec Ideal S4096x512 .f32 at W
  open_payloads
  pointwise [block]

/-- A point's block of the product, in terms of the arguments. -/
theorem block_eq (t : Fin cfg0.N) (i j : Fin 512) :
    block (iblk m c 0 t) (iblk m c 1 t) (ix2 i j) = product m c (ix2 i ⟨t.val * 512 + j.val, by have := points t; omega⟩) :=
  Finset.sum_congr rfl fun k _ => congrArg₂ (· * ·) (slots_block m c t i k) (weights_block m c t k j)

/-- After every point, the output array is the product. -/
theorem array_eq : (dats m 0 c).arrAt 2 cfg0.N = product m c := by
  refine (dats m 0 c).arrAt_eq_of_covers 2 _ (by decide +kernel) fun t _ y => ?_
  blk_simp
  rw [after0_2]
  obtain ⟨i, j, rfl⟩ : ∃ i j : Fin 512, y = ix2 i j := ⟨y 0, y 1, by idx_vars y⟩
  refine ((written m c t i j).trans (block_eq m c t i j)).trans (congrArg (product m c) ?_)
  blk_ext [idx t]

end Cert.KernelKvIdeal.Product

namespace Cert.ReferenceKvIdeal.Product

open Cert.ReferenceKvIdeal Cert.ReferenceKvIdeal.Gen
open Idealize.ShloMosaic

/-- The reference's array is the product. -/
theorem result_eq (X : FVec Ideal S512x4096 .bf16) (W : FVec Ideal S1x4096x2048 .f32) :
    Host.dotGeneral dot_S512x4096_S4096x2048_S512x2048_1_0_0_1_n_n none (extf .f32 X bitsLt_bf16_f32)
        (shapeCast S4096x2048 W shapeCasts_S1x4096x2048_S4096x2048)
      = fun y => ∑ k : Fin 4096, X (ix2 (y 0) k) * W (ix3 0 k (y 1)) := by
  funext y
  obtain ⟨i, j, rfl⟩ : ∃ i j, y = ix2 i j := ⟨y 0, y 1, by idx_vars y⟩
  pointwise

end Cert.ReferenceKvIdeal.Product

end

end
-- ==== Proof.NormRows.lean ====
module

public import proofs.«01_k».proof.Proof.Gen.KernelNormIdeal.Value
public import proofs.«01_k».proof.Proof.Gen.ReferenceNormIdeal.Run
public import Idealize.ShloMosaic.Lib.Pipeline.ValueKit
public import Idealize.ShloMosaic.Lib.Pipeline.ReadBack
public import Idealize.ShloMosaic.Lib.Pointwise

/-! The normalisation before the layer's projection: each block holds the normalised rows, and the reference's array is the same. -/

@[expose] public section

set_option maxRecDepth 16384

noncomputable section

namespace Cert.Norm

open Idealize.ShloMosaic

/-- A row of 4096 entries divided by the root of its mean square, times the gains. -/
def normal (x g : Fin 4096 → EReal) (j : Fin 4096) : EReal :=
  x j * Ideal.rsqrt (Ideal.div (∑ k, x k * x k) (Ideal.ofBits .f32 0x45800000#32) + Ideal.ofBits .f32 0x358637BD#32) * g j

end Cert.Norm

namespace Cert.KernelNormIdeal.Rows

open Cert.KernelNormIdeal Cert.KernelNormIdeal.Gen Cert.KernelNormIdeal.Value Cert.Norm
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![t.val, 0] ∧ win0_1.index t = ![0, 0] ∧ win0_2.index t = ![t.val, 0] :=
  (by decide +kernel : ∀ t : Fin grid0.N, _)

/-- There are 32 grid points. -/
theorem points (t : Fin cfg0.N) : t.val < 32 := lt_of_lt_of_eq t.isLt N_0

/-- The rows. -/
abbrev rows : FVec Ideal S8192x4096 .f32 := m ((c : Thread nD τ).loc main_arg0)

/-- The gains. -/
abbrev gains : FVec Ideal S1x4096 .f32 := m ((c : Thread nD τ).loc main_arg1)

/-- The rows at a point. -/
theorem rows_block (t : Fin cfg0.N) (i : Fin 256) (k : Fin 4096) :
    (iblk m c 0 t : Vec Ideal S256x4096 .f32) (ix2 i k) = rows m c (ix2 ⟨t.val * 256 + i.val, by have := points t; omega⟩ k) := by
  blk_ext [iblk, V, idx t]

/-- The gains after they lost and regained their first axis. -/
def around : FVec Ideal S1x4096 .f32 :=
  shapeCast S1x4096 (shapeCast S4096 (gains m c) shapeCasts_S1x4096_S4096) shapeCasts_S4096_S1x4096

/-- The gains that the pipeline finds. -/
theorem entry_gains : V m c (Pipeline.arrRef spec0 1) = around m c := by
  unfold around
  entry_read
  rfl

/-- They are the argument's. -/
theorem around_apply (j : Fin 4096) : around m c (ix2 0 j) = gains m c (ix2 0 j) := by
  unfold around
  pointwise

/-- The gains at a point. -/
theorem gains_block (t : Fin cfg0.N) (j : Fin 4096) :
    (iblk m c 1 t : Vec Ideal S1x4096 .f32) (ix2 0 j) = gains m c (ix2 0 j) := by
  refine Eq.trans ?_ (around_apply m c j)
  rw [← entry_gains]
  blk_ext [iblk, idx t]

/-- The array that the kernel leaves. -/
def array : FVec Ideal S8192x4096 .bf16 := fun y =>
  normal (fun k => rows m c (ix2 (y 0) k)) (fun k => gains m c (ix2 0 k)) (y 1)

/-- What a point writes, from its two blocks. -/
theorem written (X : FVec Ideal S256x4096 .f32) (G : FVec Ideal S1x4096 .f32) (i : Fin 256) (j : Fin 4096) :
    (out0_2 (F := Ideal) X G) (ix2 i j) = normal (fun k => X (ix2 i k)) (fun k => G (ix2 0 k)) j := by
  frame_open
  frame_out
  open_payloads
  pointwise [normal]

/-- After every point, the output array holds the normalised rows. -/
theorem array_eq : (dats m 0 c).arrAt 2 cfg0.N = array m c := by
  refine (dats m 0 c).arrAt_eq_of_covers 2 _ (by decide +kernel) fun t _ y => ?_
  blk_simp
  rw [after0_2]
  obtain ⟨i, j, rfl⟩ : ∃ (i : Fin 256) (j : Fin 4096), y = ix2 i j := ⟨y 0, y 1, by idx_vars y⟩
  refine (written _ _ i j).trans ((congrArg₂ (normal · · j) (funext fun k => rows_block m c t i k)
    (funext fun k => gains_block m c t k)).trans
      (congrArg (array m c) (?_ : ix2 ⟨t.val * 256 + i.val, by have := points t; omega⟩ j = _)))
  blk_ext [idx t]

end Cert.KernelNormIdeal.Rows

namespace Cert.ReferenceNormIdeal.Rows

open Cert.ReferenceNormIdeal Cert.ReferenceNormIdeal.Gen Cert.Norm
open Idealize.ShloMosaic

/-- The reference's array holds the normalised rows. -/
theorem result_eq (X : FVec Ideal S8192x4096 .f32) (G : FVec Ideal S1x4096 .f32) :
    truncf .bf16 (mulf (mulf X (broadcastInDim S8192x4096 ![0, 1] bcast_S8192x1_S8192x4096_0_1 (Host.rsqrt (addf (Host.divf (broadcastInDim S8192x1 ![0] bcast_S8192_S8192x1_0 (Host.reduceAdd (mulf X X) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 (shapeCast S4096 G shapeCasts_S1x4096_S4096)))) bitsLt_bf16_f32
      = fun y => normal (fun k => X (ix2 (y 0) k)) (fun k => G (ix2 0 k)) (y 1) := by
  funext y
  obtain ⟨i, j, rfl⟩ : ∃ i j, y = ix2 i j := ⟨y 0, y 1, by idx_vars y⟩
  pointwise [normal]

end Cert.ReferenceNormIdeal.Rows

end

end
-- ==== Proof.MemNorm.lean ====
module

public import proofs.«01_k».proof.Proof.Gen.KernelMnormIdeal.Value
public import proofs.«01_k».proof.Proof.Gen.ReferenceMnormIdeal.Run
public import proofs.«01_k».proof.Proof.NormRows

/-! The normalisation of the memory: two blocks of normalised rows, and the reference's array is the same. -/

@[expose] public section

set_option maxRecDepth 16384

noncomputable section

namespace Cert.KernelMnormIdeal.Rows

open Cert.KernelMnormIdeal Cert.KernelMnormIdeal.Gen Cert.KernelMnormIdeal.Value Cert.Norm
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![t.val, 0] ∧ win0_1.index t = ![0, 0] ∧ win0_2.index t = ![t.val, 0] :=
  (by decide +kernel : ∀ t : Fin grid0.N, _)

/-- There are two grid points, one for each sequence's memory. -/
theorem points (t : Fin cfg0.N) : t.val < 2 := lt_of_lt_of_eq t.isLt N_0

/-- The memory's rows, both sequences together. -/
abbrev memory : FVec Ideal S512x4096 .f32 := m ((c : Thread nD τ).loc main_arg0)

/-- The memory's gains. -/
abbrev gains : FVec Ideal S1x4096 .f32 := m ((c : Thread nD τ).loc main_arg1)

/-- A point has the memory of one sequence. -/
theorem memory_block (t : Fin cfg0.N) (s : Fin 256) (k : Fin 4096) :
    (iblk m c 0 t : Vec Ideal S256x4096 .f32) (ix2 s k) = memory m c (ix2 ⟨t.val * 256 + s.val, by have := points t; omega⟩ k) := by
  blk_ext [iblk, V, idx t]

/-- The pipeline finds the gains flattened and put back into one row, which changes nothing. -/
theorem gains_block (t : Fin cfg0.N) (j : Fin 4096) :
    (iblk m c 1 t : Vec Ideal S1x4096 .f32) (ix2 0 j) = gains m c (ix2 0 j) := by
  have found : V m c (Pipeline.arrRef spec0 1)
      = (shapeCast S1x4096 (shapeCast S4096 (gains m c) shapeCasts_S1x4096_S4096) shapeCasts_S4096_S1x4096 : FVec Ideal S1x4096 .f32) := by
    entry_read
    rfl
  have same : (shapeCast S1x4096 (shapeCast S4096 (gains m c) shapeCasts_S1x4096_S4096) shapeCasts_S4096_S1x4096 : FVec Ideal S1x4096 .f32) (ix2 0 j)
      = gains m c (ix2 0 j) := by
    pointwise
  refine Eq.trans ?_ same
  rw [← found]
  blk_ext [iblk, idx t]

/-- The array that the kernel leaves. -/
def array : FVec Ideal S512x4096 .bf16 := fun y =>
  normal (fun k => memory m c (ix2 (y 0) k)) (fun k => gains m c (ix2 0 k)) (y 1)

/-- What a point writes, from its two blocks. -/
theorem written (X : FVec Ideal S256x4096 .f32) (G : FVec Ideal S1x4096 .f32) (s : Fin 256) (j : Fin 4096) :
    (out0_2 (F := Ideal) X G) (ix2 s j) = normal (fun k => X (ix2 s k)) (fun k => G (ix2 0 k)) j := by
  frame_open
  frame_out
  open_payloads
  pointwise [normal]

/-- After both points, the output array holds the normalised memory. -/
theorem array_eq : (dats m 0 c).arrAt 2 cfg0.N = array m c := by
  refine (dats m 0 c).arrAt_eq_of_covers 2 _ (by decide +kernel) fun t _ y => ?_
  blk_simp
  rw [after0_2]
  obtain ⟨s, j, rfl⟩ : ∃ (s : Fin 256) (j : Fin 4096), y = ix2 s j := ⟨y 0, y 1, by idx_vars y⟩
  refine (written _ _ s j).trans ((congrArg₂ (normal · · j) (funext fun k => memory_block m c t s k)
    (funext fun k => gains_block m c t k)).trans
      (congrArg (array m c) (?_ : ix2 ⟨t.val * 256 + s.val, by have := points t; omega⟩ j = _)))
  blk_ext [idx t]

end Cert.KernelMnormIdeal.Rows

namespace Cert.ReferenceMnormIdeal.Rows

open Cert.ReferenceMnormIdeal Cert.ReferenceMnormIdeal.Gen Cert.Norm
open Idealize.ShloMosaic

/-- The reference's array holds the normalised memory. -/
theorem result_eq (X : FVec Ideal S512x4096 .f32) (G : FVec Ideal S1x4096 .f32) :
    truncf .bf16 (mulf (mulf X (broadcastInDim S512x4096 ![0, 1] bcast_S512x1_S512x4096_0_1 (Host.rsqrt (addf (Host.divf (broadcastInDim S512x1 ![0] bcast_S512_S512x1_0 (Host.reduceAdd (mulf X X) (constant S_ .f32 0x00000000#32) reducesTo_S512x4096_S512_d1 h_S_)) (broadcastInDim S512x1 ![] bcast_S_S512x1 (constant S_ .f32 0x45800000#32))) (broadcastInDim S512x1 ![] bcast_S_S512x1 (constant S_ .f32 0x358637BD#32)))))) (broadcastInDim S512x4096 ![0, 1] bcast_S1x4096_S512x4096_0_1 (broadcastInDim S1x4096 ![1] bcast_S4096_S1x4096_1 (shapeCast S4096 G shapeCasts_S1x4096_S4096)))) bitsLt_bf16_f32
      = fun y => normal (fun k => X (ix2 (y 0) k)) (fun k => G (ix2 0 k)) (y 1) := by
  funext y
  obtain ⟨s, j, rfl⟩ : ∃ s j, y = ix2 s j := ⟨y 0, y 1, by idx_vars y⟩
  pointwise [normal]

end Cert.ReferenceMnormIdeal.Rows

end

end
-- ==== Proof.MemAtt.lean ====
module

public import Idealize.ShloMosaic.Lib.Pointwise

/-! The mathematics of the memory attention for one row of queries of one head: normalised queries and keys, a softmax over the memory's slots, and the weighted values. -/

@[expose] public section

noncomputable section

namespace Cert.Memory

open Idealize.ShloMosaic

/-- A row of 256 entries divided by the root of its mean square, times the gains. -/
def unit (x g : Fin 256 → EReal) (d : Fin 256) : EReal :=
  x d * Ideal.rsqrt (Ideal.div (∑ k, x k * x k) (Ideal.ofBits .f32 1132462080#32) + Ideal.ofBits .f32 897988541#32) * g d

/-- The scaled products of a query with every slot's key. -/
def score (q : Fin 256 → EReal) (k : Fin 256 → Fin 256 → EReal) (s : Fin 256) : EReal :=
  (∑ d, q d * k s d) * Ideal.ofBits .f32 1031798784#32

/-- The largest of 256 numbers, the minus infinity that the search starts from included. -/
def top (l : Fin 256 → EReal) : EReal := Finset.fold max (Ideal.ofBits .f32 4286578688#32) l Finset.univ

/-- The softmax over the slots. -/
def weigh (l : Fin 256 → EReal) (s : Fin 256) : EReal := Ideal.div (Ideal.exp (l s - top l)) (∑ s, Ideal.exp (l s - top l))

/-- The weighted values. -/
def answer (q : Fin 256 → EReal) (k v : Fin 256 → Fin 256 → EReal) (e : Fin 256) : EReal :=
  ∑ s, weigh (score q k) s * v s e

/-- Starting the comparison once more from its start changes nothing. -/
theorem max_top (l : Fin 256 → EReal) : max (Ideal.ofBits .f32 4286578688#32) (top l) = top l :=
  max_eq_right ((Finset.le_fold_max _).mpr (Or.inl le_rfl))

/-- The answer at a row of a whole array: `P` holds the queries from column 8528 on, head by head, and `KV` every slot's keys and then its values,
    head by head. -/
def row (P : Fin 21840 → EReal) (KV : Fin 256 → Fin 2048 → EReal) (qg kg : Fin 256 → EReal) (h : Fin 4) (e : Fin 256) : EReal :=
  answer (unit (fun d => P ⟨8528 + (256 * h.val + d.val), by omega⟩) qg)
    (fun s => unit (fun d => KV s ⟨256 * h.val + d.val, by omega⟩) kg) (fun s d => KV s ⟨1024 + 256 * h.val + d.val, by omega⟩) e

end Cert.Memory

end

end
-- ==== Proof.MemPoint.lean ====
module

public import proofs.«01_k».proof.Proof.Gen.KernelMemIdeal.Value
public import proofs.«01_k».proof.Proof.MemAtt
public import Idealize.ShloMosaic.Lib.Pipeline.ValueKit
public import Idealize.ShloMosaic.Lib.Pipeline.ReadBack

/-! What the memory attention leaves: each point answers 512 rows of queries, and together they fill the array. -/

@[expose] public section

set_option maxRecDepth 16384

noncomputable section

namespace Cert.KernelMemIdeal.Answers

open Cert.KernelMemIdeal Cert.KernelMemIdeal.Gen Cert.KernelMemIdeal.Value Cert.Memory
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![t.val, 22] ∧ win0_1.index t = ![t.val, 23] ∧ win0_2.index t = ![t.val, 24]
    ∧ win0_3.index t = ![t.val / 8, 0] ∧ win0_4.index t = ![0, 0] ∧ win0_5.index t = ![0, 0] ∧ win0_6.index t = ![t.val, 0] :=
  (by decide +kernel : ∀ t : Fin grid0.N, _)

/-- There are 16 grid points, eight for every sequence. -/
theorem points (t : Fin cfg0.N) : t.val < 16 := lt_of_lt_of_eq t.isLt N_0

/-- The projections. -/
abbrev proj : FVec Ideal S8192x21840 .f32 := m ((c : Thread nD τ).loc main_arg0)

/-- The memory's keys and values. -/
abbrev slots : FVec Ideal S512x2048 .f32 := m ((c : Thread nD τ).loc main_arg1)

/-- The gains of the queries. -/
abbrev queryGains : FVec Ideal S1x256 .f32 := m ((c : Thread nD τ).loc main_arg2)

/-- The gains of the keys. -/
abbrev keyGains : FVec Ideal S1x256 .f32 := m ((c : Thread nD τ).loc main_arg3)

/-- The first third of the window onto the projections. -/
theorem block0 (t : Fin cfg0.N) (i : Fin 512) (k : Fin 384) :
    (X0_0 m c t : Vec Ideal S512x384 .f32) (ix2 i k)
      = proj m c (ix2 ⟨t.val * 512 + i.val, by have := points t; omega⟩ ⟨8448 + k.val, by omega⟩) := by
  unfold X0_0 Pipeline.Window.fill
  rw [dif_pos (moved0_0 t (ix2 i k))]
  blk_ext [iblk, V, idx t]

/-- The second third. -/
theorem block1 (t : Fin cfg0.N) (i : Fin 512) (k : Fin 384) :
    (X0_1 m c t : Vec Ideal S512x384 .f32) (ix2 i k)
      = proj m c (ix2 ⟨t.val * 512 + i.val, by have := points t; omega⟩ ⟨8832 + k.val, by omega⟩) := by
  unfold X0_1 Pipeline.Window.fill
  rw [dif_pos (moved0_1 t (ix2 i k))]
  blk_ext [iblk, V, idx t]

/-- The last third. -/
theorem block2 (t : Fin cfg0.N) (i : Fin 512) (k : Fin 384) :
    (X0_2 m c t : Vec Ideal S512x384 .f32) (ix2 i k)
      = proj m c (ix2 ⟨t.val * 512 + i.val, by have := points t; omega⟩ ⟨9216 + k.val, by omega⟩) := by
  unfold X0_2 Pipeline.Window.fill
  rw [dif_pos (moved0_2 t (ix2 i k))]
  blk_ext [iblk, V, idx t]

/-- The slots of the point's sequence. -/
theorem block3 (t : Fin cfg0.N) (s : Fin 256) (k : Fin 2048) :
    (iblk m c 3 t : Vec Ideal S256x2048 .f32) (ix2 s k)
      = slots m c (ix2 ⟨t.val / 8 * 256 + s.val, by have := points t; omega⟩ k) := by
  blk_ext [iblk, V, idx t]

/-- Gains after they lost and regained their first axis. -/
def around (g : FVec Ideal S1x256 .f32) : FVec Ideal S1x256 .f32 :=
  shapeCast S1x256 (shapeCast S256 g shapeCasts_S1x256_S256) shapeCasts_S256_S1x256

/-- They are what they were. -/
theorem around_apply (g : FVec Ideal S1x256 .f32) (d : Fin 256) : around g (ix2 0 d) = g (ix2 0 d) := by
  unfold around
  pointwise

/-- The queries' gains that the pipeline finds. -/
theorem entry4 : V m c (Pipeline.arrRef spec0 4) = around (queryGains m c) := by
  unfold around
  entry_read
  rfl

/-- The keys' gains that the pipeline finds. -/
theorem entry5 : V m c (Pipeline.arrRef spec0 5) = around (keyGains m c) := by
  unfold around
  entry_read
  rfl

/-- The queries' gains at a point. -/
theorem block4 (t : Fin cfg0.N) (d : Fin 256) : (iblk m c 4 t : Vec Ideal S1x256 .f32) (ix2 0 d) = queryGains m c (ix2 0 d) := by
  refine Eq.trans ?_ (around_apply (queryGains m c) d)
  rw [← entry4]
  blk_ext [iblk, idx t]

/-- The keys' gains at a point. -/
theorem block5 (t : Fin cfg0.N) (d : Fin 256) : (iblk m c 5 t : Vec Ideal S1x256 .f32) (ix2 0 d) = keyGains m c (ix2 0 d) := by
  refine Eq.trans ?_ (around_apply (keyGains m c) d)
  rw [← entry5]
  blk_ext [iblk, idx t]

/-- The queries cut out of the three joined windows are the projections' columns from 8528 on. -/
theorem queries (t : Fin cfg0.N) (i : Fin 512) (k : Fin 1024) :
    k0_pay2 (X0_0 m c t) (X0_1 m c t) (X0_2 m c t) (ix2 i k)
      = proj m c (ix2 ⟨t.val * 512 + i.val, by have := points t; omega⟩ ⟨8528 + k.val, by omega⟩) := by
  have e0 := block0 m c t i
  have e1 := block1 m c t i
  have e2 := block2 m c t i
  generalize X0_0 m c t = W0 at *
  generalize X0_1 m c t = W1 at *
  generalize X0_2 m c t = W2 at *
  change FVec Ideal S512x384 .f32 at W0
  change FVec Ideal S512x384 .f32 at W1
  change FVec Ideal S512x384 .f32 at W2
  unfold k0_pay2
  pointwise
  split
  · refine (e0 _).trans (congrArg (fun k => proj m c (ix2 _ k)) (Fin.ext ?_))
    show 8448 + (80 + k.val) = 8528 + k.val
    omega
  · split
    · refine (e1 _).trans (congrArg (fun k => proj m c (ix2 _ k)) (Fin.ext ?_))
      show 8832 + (80 + k.val - 384) = 8528 + k.val
      omega
    · refine (e2 _).trans (congrArg (fun k => proj m c (ix2 _ k)) (Fin.ext ?_))
      show 9216 + (80 + k.val - 384 - 384) = 8528 + k.val
      omega

/-- A head's answer in a row of the block, from the point's queries, slots and gains. -/
def part (Q : FVec Ideal S512x1024 .f32) (W : FVec Ideal S256x2048 .f32) (qg kg : FVec Ideal S1x256 .f32)
    (h : Fin 4) (i : Fin 512) (e : Fin 256) : EReal :=
  answer (unit (fun d => Q (ix2 i ⟨256 * h.val + d.val, by omega⟩)) fun d => qg (ix2 0 d))
    (fun s => unit (fun d => W (ix2 s ⟨256 * h.val + d.val, by omega⟩)) fun d => kg (ix2 0 d))
    (fun s d => W (ix2 s ⟨1024 + 256 * h.val + d.val, by omega⟩)) e

/-- The block of answers that a point writes. -/
def block (Q : FVec Ideal S512x1024 .f32) (W : FVec Ideal S256x2048 .f32) (qg kg : FVec Ideal S1x256 .f32) : Vec Ideal S512x1024 .bf16 :=
  fun y => part Q W qg kg ⟨(y 1).val / 256, by have h1 : (y 1).val < 1024 := (y 1).isLt; omega⟩ (y 0) ⟨(y 1).val % 256, by omega⟩

/-- The block of answers at a head, a row and a place within the head. -/
theorem block_at (Q : FVec Ideal S512x1024 .f32) (W : FVec Ideal S256x2048 .f32) (qg kg : FVec Ideal S1x256 .f32) (y : S512x1024.Idx)
    (h : Fin 4) (i : Fin 512) (e : Fin 256) (p0 : (y 0).val = i.val) (p1 : (y 1).val = 256 * h.val + e.val) :
    block Q W qg kg y = part Q W qg kg h i e := by
  have h1 : (⟨(y 1).val / 256, by have h1 : (y 1).val < 1024 := (y 1).isLt; omega⟩ : Fin 4) = h :=
    Fin.ext (show (y 1).val / 256 = h.val by omega)
  have h2 : (⟨(y 1).val % 256, by omega⟩ : Fin 256) = e := Fin.ext (show (y 1).val % 256 = e.val by omega)
  have h0 : y 0 = i := Fin.ext p0
  unfold block
  rw [h1, h2, h0]

/-- What a point writes, from its blocks. -/
theorem written (t : Fin cfg0.N) :
    outsAt0 m c t = block (k0_pay2 (X0_0 m c t) (X0_1 m c t) (X0_2 m c t)) (iblk m c 3 t) (iblk m c 4 t) (iblk m c 5 t) := by
  funext y
  unfold outsAt0
  frame_open
  frame_out
  unfold k0_pay5
  generalize k0_pay2 (X0_0 m c t) (X0_1 m c t) (X0_2 m c t) = Q
  generalize iblk m c 3 t = W
  generalize iblk m c 4 t = qg
  generalize iblk m c 5 t = kg
  change FVec Ideal S256x2048 .f32 at W
  change FVec Ideal S1x256 .f32 at qg
  change FVec Ideal S1x256 .f32 at kg
  canon_tiles x p
  all_goals open_payloads
  all_goals first
    | rw [block_at _ _ _ _ y 0 (x 0) (x 1) p0 (by show (y 1).val = 256 * 0 + (x 1).val; omega)]
    | rw [block_at _ _ _ _ y 1 (x 0) (x 1) p0 (by show (y 1).val = 256 * 1 + (x 1).val; omega)]
    | rw [block_at _ _ _ _ y 2 (x 0) (x 1) p0 (by show (y 1).val = 256 * 2 + (x 1).val; omega)]
    | rw [block_at _ _ _ _ y 3 (x 0) (x 1) p0 (by show (y 1).val = 256 * 3 + (x 1).val; omega)]
  all_goals pointwise [part, answer, weigh, top, score, unit]

/-- The array that the kernel leaves. -/
def array : FVec Ideal S8192x1024 .bf16 := fun y =>
  row (fun k => proj m c (ix2 (y 0) k)) (fun s k => slots m c (ix2 ⟨(y 0).val / 4096 * 256 + s.val, by
      have h0 : (y 0).val < 8192 := (y 0).isLt
      omega⟩ k))
    (fun d => queryGains m c (ix2 0 d)) (fun d => keyGains m c (ix2 0 d))
    ⟨(y 1).val / 256, by have h1 : (y 1).val < 1024 := (y 1).isLt; omega⟩ ⟨(y 1).val % 256, by omega⟩

/-- The same answers, in terms of the arguments. -/
theorem block_eq (t : Fin cfg0.N) (i : Fin 512) (k : Fin 1024) :
    block (k0_pay2 (X0_0 m c t) (X0_1 m c t) (X0_2 m c t)) (iblk m c 3 t) (iblk m c 4 t) (iblk m c 5 t) (ix2 i k)
      = array m c (ix2 ⟨t.val * 512 + i.val, by have := points t; omega⟩ k) := by
  have hs (s : Fin 256) (k : Fin 2048) : (iblk m c 3 t : Vec Ideal S256x2048 .f32) (ix2 s k)
      = slots m c (ix2 ⟨(t.val * 512 + i.val) / 4096 * 256 + s.val, by have := points t; omega⟩ k) := by
    rw [block3]
    congr 3
    omega
  have hq := queries m c t i
  have h4 := block4 m c t
  have h5 := block5 m c t
  generalize k0_pay2 (X0_0 m c t) (X0_1 m c t) (X0_2 m c t) = Q at *
  generalize iblk m c 3 t = W at *
  generalize iblk m c 4 t = qg at *
  generalize iblk m c 5 t = kg at *
  change FVec Ideal S256x2048 .f32 at W
  change FVec Ideal S1x256 .f32 at qg
  change FVec Ideal S1x256 .f32 at kg
  show part Q W qg kg ⟨k.val / 256, _⟩ i ⟨k.val % 256, _⟩ = row _ _ _ _ ⟨k.val / 256, _⟩ ⟨k.val % 256, _⟩
  unfold part row
  simp only [hs, hq, h4, h5]
  rfl

/-- After every point, the output array holds the answers. -/
theorem array_eq : (dats m 0 c).arrAt 6 cfg0.N = array m c := by
  refine (dats m 0 c).arrAt_eq_of_covers 6 _ (by decide +kernel) fun t _ y => ?_
  blk_simp
  rw [after0_6]
  obtain ⟨i, k, rfl⟩ : ∃ (i : Fin 512) (k : Fin 1024), y = ix2 i k := ⟨y 0, y 1, by idx_vars y⟩
  refine ((congrFun (written m c t) (ix2 i k)).trans (block_eq m c t i k)).trans (congrArg (array m c) ?_)
  blk_ext [idx t]

end Cert.KernelMemIdeal.Answers

end

end
-- ==== Proof.MemRef.lean ====
module

public import proofs.«01_k».proof.Proof.Gen.ReferenceMemIdeal.Run
public import proofs.«01_k».proof.Proof.MemAtt

/-! The reference of the memory attention, read back one value after another. -/

@[expose] public section

set_option maxRecDepth 16384

noncomputable section

namespace Cert.ReferenceMemIdeal.Answers

open Cert.ReferenceMemIdeal Cert.ReferenceMemIdeal.Gen Cert.ReferenceMemIdeal.Value Cert.Memory
open Idealize.ShloMosaic Idealize.ShloMosaic.TcCoe Idealize.SL.Sem

/-- The queries, split into sequences and heads. -/
def queries (P : FVec Ideal S8192x21840 .f32) : FVec Ideal S2x4096x4x256 .f32 :=
  shapeCast _ (extractStridedSlice S8192x1024 ![0, 8528] P slices_S8192x21840_S8192x1024_0_8528) shapeCasts_S8192x1024_S2x4096x4x256

/-- The keys, split into sequences and heads. -/
def keys (W : FVec Ideal S512x2048 .f32) : FVec Ideal S2x256x4x256 .f32 :=
  shapeCast _ (extractStridedSlice S2x256x1024 ![0, 0, 0] (shapeCast _ W shapeCasts_S512x2048_S2x256x2048) slices_S2x256x2048_S2x256x1024_0_0_0) shapeCasts_S2x256x1024_S2x256x4x256

/-- The values, split into sequences and heads. -/
def values (W : FVec Ideal S512x2048 .f32) : FVec Ideal S2x256x4x256 .f32 :=
  shapeCast _ (extractStridedSlice S2x256x1024 ![0, 0, 1024] (shapeCast _ W shapeCasts_S512x2048_S2x256x2048) slices_S2x256x2048_S2x256x1024_0_0_1024) shapeCasts_S2x256x1024_S2x256x4x256

/-- The normalised queries. -/
def unitQueries (X : FVec Ideal S2x4096x4x256 .f32) (g : FVec Ideal S1x256 .f32) : FVec Ideal S2x4096x4x256 .f32 :=
  mulf (mulf X (broadcastInDim S2x4096x4x256 ![0, 1, 2, 3] bcast_S2x4096x4x1_S2x4096x4x256_0_1_2_3 (Host.rsqrt (addf (Host.divf (broadcastInDim S2x4096x4x1 ![0, 1, 2] bcast_S2x4096x4_S2x4096x4x1_0_1_2 (Host.reduceAdd (mulf X X) (constant S_ .f32 0x00000000#32) reducesTo_S2x4096x4x256_S2x4096x4_d3 h_S_)) (broadcastInDim S2x4096x4x1 ![] bcast_S_S2x4096x4x1 (constant S_ .f32 0x43800000#32))) (broadcastInDim S2x4096x4x1 ![] bcast_S_S2x4096x4x1 (constant S_ .f32 0x358637BD#32)))))) (broadcastInDim S2x4096x4x256 ![0, 1, 2, 3] bcast_S1x1x1x256_S2x4096x4x256_0_1_2_3 (broadcastInDim S1x1x1x256 ![3] bcast_S256_S1x1x1x256_3 (shapeCast _ g shapeCasts_S1x256_S256)))

/-- The normalised keys. -/
def unitKeys (X : FVec Ideal S2x256x4x256 .f32) (g : FVec Ideal S1x256 .f32) : FVec Ideal S2x256x4x256 .f32 :=
  mulf (mulf X (broadcastInDim S2x256x4x256 ![0, 1, 2, 3] bcast_S2x256x4x1_S2x256x4x256_0_1_2_3 (Host.rsqrt (addf (Host.divf (broadcastInDim S2x256x4x1 ![0, 1, 2] bcast_S2x256x4_S2x256x4x1_0_1_2 (Host.reduceAdd (mulf X X) (constant S_ .f32 0x00000000#32) reducesTo_S2x256x4x256_S2x256x4_d3 h_S_)) (broadcastInDim S2x256x4x1 ![] bcast_S_S2x256x4x1 (constant S_ .f32 0x43800000#32))) (broadcastInDim S2x256x4x1 ![] bcast_S_S2x256x4x1 (constant S_ .f32 0x358637BD#32)))))) (broadcastInDim S2x256x4x256 ![0, 1, 2, 3] bcast_S1x1x1x256_S2x256x4x256_0_1_2_3 (broadcastInDim S1x1x1x256 ![3] bcast_S256_S1x1x1x256_3 (shapeCast _ g shapeCasts_S1x256_S256)))

/-- The scaled products of queries and keys. -/
def scores (X : FVec Ideal S2x4096x4x256 .f32) (Y : FVec Ideal S2x256x4x256 .f32) : FVec Ideal S2x4x4096x256 .f32 :=
  mulf (Host.dotGeneral dot_S2x4096x4x256_S2x256x4x256_S2x4x4096x256_3_3_1_1_02_02 none X Y) (broadcastInDim S2x4x4096x256 ![] bcast_S_S2x4x4096x256 (constant S_ .f32 0x3D800000#32))

/-- The largest product of each row. -/
def largest (L : FVec Ideal S2x4x4096x256 .f32) : FVec Ideal S2x4x4096 .f32 :=
  maximumf (broadcastInDim S2x4x4096 ![] bcast_S_S2x4x4096 (constant S_ .f32 0xFF800000#32)) (Host.reduce FloatOps.maximumf L (constant S_ .f32 0xFF800000#32) reducesTo_S2x4x4096x256_S2x4x4096_d3 h_S_)

/-- The exponentials of the products less the largest of each row. -/
def powers (L : FVec Ideal S2x4x4096x256 .f32) : FVec Ideal S2x4x4096x256 .f32 :=
  Host.exp (subf L (broadcastInDim S2x4x4096x256 ![0, 1, 2, 3] bcast_S2x4x4096x1_S2x4x4096x256_0_1_2_3 (broadcastInDim S2x4x4096x1 ![0, 1, 2] bcast_S2x4x4096_S2x4x4096x1_0_1_2 (largest L))))

/-- The weighted values, put back into rows. -/
def mix (E : FVec Ideal S2x4x4096x256 .f32) (Z : FVec Ideal S2x256x4x256 .f32) : FVec Ideal S8192x1024 .bf16 :=
  truncf .bf16 (shapeCast S8192x1024 (transpose S2x4096x4x256 [0, 3, 1, 2] (Host.dotGeneral dot_S2x256x4x256_S2x4x4096x256_S2x4x256x4096_1_3_3_2_02_01 none Z (Host.divf E (broadcastInDim S2x4x4096x256 ![0, 1, 2, 3] bcast_S2x4x4096x1_S2x4x4096x256_0_1_2_3 (broadcastInDim S2x4x4096x1 ![0, 1, 2] bcast_S2x4x4096_S2x4x4096x1_0_1_2 (Host.reduceAdd E (constant S_ .f32 0x00000000#32) reducesTo_S2x4x4096x256_S2x4x4096_d3 h_S_))))) transposes_S2x4x256x4096_S2x4096x4x256_0_3_1_2) shapeCasts_S2x4096x4x256_S8192x1024) bitsLt_bf16_f32

variable (m : (ℓ : Loc nD τ sig) → Buf (Elt Ideal) ℓ) (c : Dev nD)

/-- The projections. -/
abbrev proj : FVec Ideal S8192x21840 .f32 := m ((c : Thread nD τ).loc main_arg0)

/-- The memory's keys and values. -/
abbrev slots : FVec Ideal S512x2048 .f32 := m ((c : Thread nD τ).loc main_arg1)

/-- The gains of the queries. -/
abbrev queryGains : FVec Ideal S1x256 .f32 := m ((c : Thread nD τ).loc main_arg2)

/-- The gains of the keys. -/
abbrev keyGains : FVec Ideal S1x256 .f32 := m ((c : Thread nD τ).loc main_arg3)

/-- The reference's array is these values, one made from the other. -/
theorem steps : res_out0 m c
    = mix (powers (scores (unitQueries (queries (proj m c)) (queryGains m c)) (unitKeys (keys (slots m c)) (keyGains m c)))) (values (slots m c)) := by
  unfold res_out0 res_main_v52
  rfl

/-- A query's entry. -/
theorem queries_at (P : FVec Ideal S8192x21840 .f32) (b : Fin 2) (i : Fin 4096) (h : Fin 4) (d : Fin 256) :
    queries P (ix4 b i h d) = P (ix2 ⟨b.val * 4096 + i.val, by omega⟩ ⟨8528 + (256 * h.val + d.val), by omega⟩) := by
  unfold queries
  pointwise
  congr 3 <;> omega

/-- A key's entry. -/
theorem keys_at (W : FVec Ideal S512x2048 .f32) (b : Fin 2) (s : Fin 256) (h : Fin 4) (d : Fin 256) :
    keys W (ix4 b s h d) = W (ix2 ⟨b.val * 256 + s.val, by omega⟩ ⟨256 * h.val + d.val, by omega⟩) := by
  unfold keys
  pointwise
  congr 3 <;> omega

/-- A value's entry. -/
theorem values_at (W : FVec Ideal S512x2048 .f32) (b : Fin 2) (s : Fin 256) (h : Fin 4) (d : Fin 256) :
    values W (ix4 b s h d) = W (ix2 ⟨b.val * 256 + s.val, by omega⟩ ⟨1024 + 256 * h.val + d.val, by omega⟩) := by
  unfold values
  pointwise
  congr 3 <;> omega

/-- A normalised query's entry. -/
theorem unitQueries_at (X : FVec Ideal S2x4096x4x256 .f32) (g : FVec Ideal S1x256 .f32) (b : Fin 2) (i : Fin 4096) (h : Fin 4) (d : Fin 256) :
    unitQueries X g (ix4 b i h d) = unit (fun d => X (ix4 b i h d)) (fun d => g (ix2 0 d)) d := by
  unfold unitQueries
  pointwise [unit]

/-- A normalised key's entry. -/
theorem unitKeys_at (X : FVec Ideal S2x256x4x256 .f32) (g : FVec Ideal S1x256 .f32) (b : Fin 2) (s : Fin 256) (h : Fin 4) (d : Fin 256) :
    unitKeys X g (ix4 b s h d) = unit (fun d => X (ix4 b s h d)) (fun d => g (ix2 0 d)) d := by
  unfold unitKeys
  pointwise [unit]

/-- A scaled product. -/
theorem scores_at (X : FVec Ideal S2x4096x4x256 .f32) (Y : FVec Ideal S2x256x4x256 .f32) (b : Fin 2) (h : Fin 4) (i : Fin 4096) (s : Fin 256) :
    scores X Y (ix4 b h i s) = score (fun d => X (ix4 b i h d)) (fun s d => Y (ix4 b s h d)) s := by
  unfold scores
  pointwise [score]

/-- The search for the largest product of a row. -/
theorem search_at (L : FVec Ideal S2x4x4096x256 .f32) (b : Fin 2) (h : Fin 4) (i : Fin 4096) :
    (Host.reduce FloatOps.maximumf L (constant S_ .f32 0xFF800000#32) reducesTo_S2x4x4096x256_S2x4x4096_d3 h_S_ : FVec Ideal S2x4x4096 .f32) (ix3 b h i)
      = top (fun s => L (ix4 b h i s)) := by
  pointwise [top]

/-- The comparison of what a search found with minus infinity. -/
theorem start_at (R : FVec Ideal S2x4x4096 .f32) (b : Fin 2) (h : Fin 4) (i : Fin 4096) :
    maximumf (broadcastInDim S2x4x4096 ![] bcast_S_S2x4x4096 (constant S_ .f32 0xFF800000#32)) R (ix3 b h i)
      = max (Ideal.ofBits .f32 4286578688#32) (R (ix3 b h i)) := by
  pointwise [Ideal.maximumf_eq_max]

/-- The largest product of a row. -/
theorem largest_at (L : FVec Ideal S2x4x4096x256 .f32) (b : Fin 2) (h : Fin 4) (i : Fin 4096) :
    largest L (ix3 b h i) = top (fun s => L (ix4 b h i s)) :=
  (start_at _ b h i).trans ((congrArg (max _) (search_at L b h i)).trans (max_top _))

/-- An exponential. -/
theorem powers_at (L : FVec Ideal S2x4x4096x256 .f32) (b : Fin 2) (h : Fin 4) (i : Fin 4096) (s : Fin 256) :
    powers L (ix4 b h i s) = Ideal.exp (L (ix4 b h i s) - top (fun s => L (ix4 b h i s))) := by
  rw [← largest_at]
  unfold powers
  generalize largest L = R
  pointwise

/-- A weighted value. -/
theorem mix_at (E : FVec Ideal S2x4x4096x256 .f32) (Z : FVec Ideal S2x256x4x256 .f32) (r : Fin 8192) (k : Fin 1024) :
    mix E Z (ix2 r k) = ∑ s : Fin 256, Ideal.div (E (ix4 ⟨r.val / 4096, by omega⟩ ⟨k.val / 256, by omega⟩ ⟨r.val % 4096, by omega⟩ s))
        (∑ s : Fin 256, E (ix4 ⟨r.val / 4096, by omega⟩ ⟨k.val / 256, by omega⟩ ⟨r.val % 4096, by omega⟩ s))
      * Z (ix4 ⟨r.val / 4096, by omega⟩ s ⟨k.val / 256, by omega⟩ ⟨k.val % 256, by omega⟩) := by
  unfold mix
  pointwise
  exact Finset.sum_congr rfl fun s _ => mul_comm _ _

/-- The reference's array, entry by entry. -/
theorem result_at (r : Fin 8192) (k : Fin 1024) : res_out0 m c (ix2 r k)
    = row (fun k => proj m c (ix2 r k)) (fun s k => slots m c (ix2 ⟨r.val / 4096 * 256 + s.val, by omega⟩ k))
      (fun d => queryGains m c (ix2 0 d)) (fun d => keyGains m c (ix2 0 d)) ⟨k.val / 256, by omega⟩ ⟨k.val % 256, by omega⟩ := by
  have hr : (⟨r.val / 4096 * 4096 + r.val % 4096, by omega⟩ : Fin 8192) = r := Fin.ext (by show r.val / 4096 * 4096 + r.val % 4096 = r.val; omega)
  rw [steps, mix_at]
  simp only [powers_at, scores_at, unitQueries_at, unitKeys_at, queries_at, keys_at, values_at, hr]
  rfl

end Cert.ReferenceMemIdeal.Answers

end

end
-- ==== Proof.KeyPrep.lean ====
module

public import proofs.«01_k».proof.Proof.Gen.KernelPrepIdeal.Value
public import proofs.«01_k».proof.Proof.Gen.ReferencePrepIdeal.Run
public import Idealize.ShloMosaic.Lib.Pipeline.ValueKit
public import Idealize.ShloMosaic.Lib.Pipeline.ReadBack
public import Idealize.ShloMosaic.Lib.Pointwise

/-! The preparation of the sparse attention's keys: the normalised keys, the values, and the index keys written twice side by side. -/

@[expose] public section

set_option maxRecDepth 16384

noncomputable section

namespace Cert.Prep

open Idealize.ShloMosaic

/-- A key of 128 entries divided by the root of its mean square, times the gains. -/
def key (x g : Fin 128 → EReal) (j : Fin 128) : EReal :=
  x j * Ideal.rsqrt (Ideal.div (∑ k, x k * x k) (Ideal.ofBits .f32 0x43000000#32) + Ideal.ofBits .f32 0x358637BD#32) * g j

/-- The first 64 of 128 entries, twice. -/
def twice (x : Fin 128 → EReal) (j : Fin 128) : EReal := x ⟨j.val % 64, by omega⟩

end Cert.Prep

namespace Cert.KernelPrepIdeal.Keys

open Cert.KernelPrepIdeal Cert.KernelPrepIdeal.Gen Cert.KernelPrepIdeal.Value Cert.Prep
open Idealize.ShloMosaic Idealize.ShloMosaic.TcCoe Idealize.SL.Sem

variable (m : (ℓ : Loc nD τ sig) → Buf (Elt Ideal) ℓ) (c : Dev nD)

/-- The block that each window moves at a grid point. -/
theorem idx : ∀ t : Fin cfg0.N, win0_0.index t = ![t.val, 56] ∧ win0_1.index t = ![t.val, 57] ∧ win0_2.index t = ![t.val, 66]
    ∧ win0_3.index t = ![0, 0] ∧ win0_4.index t = ![t.val, 0] ∧ win0_5.index t = ![t.val, 0] ∧ win0_6.index t = ![t.val, 0] :=
  (by decide +kernel : ∀ t : Fin grid0.N, _)

/-- There are 16 grid points. -/
theorem points (t : Fin cfg0.N) : t.val < 16 := lt_of_lt_of_eq t.isLt N_0

/-- The projections. -/
abbrev proj : FVec Ideal S8192x21840 .f32 := m ((c : Thread nD τ).loc main_arg0)

/-- The gains. -/
abbrev gains : FVec Ideal S1x128 .f32 := m ((c : Thread nD τ).loc main_arg1)

/-- The keys at a point. -/
theorem block0 (t : Fin cfg0.N) (i : Fin 512) (k : Fin 128) :
    (X0_0 m c t : Vec Ideal S512x128 .f32) (ix2 i k)
      = proj m c (ix2 ⟨t.val * 512 + i.val, by have := points t; omega⟩ ⟨7168 + k.val, by omega⟩) := by
  unfold X0_0 Pipeline.Window.fill
  rw [dif_pos (moved0_0 t (ix2 i k))]
  blk_ext [iblk, V, idx t]

/-- The values at a point. -/
theorem block1 (t : Fin cfg0.N) (i : Fin 512) (k : Fin 128) :
    (X0_1 m c t : Vec Ideal S512x128 .f32) (ix2 i k)
      = proj m c (ix2 ⟨t.val * 512 + i.val, by have := points t; omega⟩ ⟨7296 + k.val, by omega⟩) := by
  unfold X0_1 Pipeline.Window.fill
  rw [dif_pos (moved0_1 t (ix2 i k))]
  blk_ext [iblk, V, idx t]

/-- The index keys at a point, and what follows them. -/
theorem block2 (t : Fin cfg0.N) (i : Fin 512) (k : Fin 128) :
    (X0_2 m c t : Vec Ideal S512x128 .f32) (ix2 i k)
      = proj m c (ix2 ⟨t.val * 512 + i.val, by have := points t; omega⟩ ⟨8448 + k.val, by omega⟩) := by
  unfold X0_2 Pipeline.Window.fill
  rw [dif_pos (moved0_2 t (ix2 i k))]
  blk_ext [iblk, V, idx t]

/-- The gains after they lost and regained their first axis. -/
def around : FVec Ideal S1x128 .f32 := shapeCast S1x128 (shapeCast S128 (gains m c) shapeCasts_S1x128_S128) shapeCasts_S128_S1x128

/-- The gains that the pipeline finds. -/
theorem entry3 : V m c (Pipeline.arrRef spec0 3) = around m c := by
  unfold around
  entry_read
  rfl

/-- They are the argument's. -/
theorem around_apply (j : Fin 128) : around m c (ix2 0 j) = gains m c (ix2 0 j) := by
  unfold around
  pointwise

/-- The gains at a point. -/
theorem block3 (t : Fin cfg0.N) (j : Fin 128) : (iblk m c 3 t : Vec Ideal S1x128 .f32) (ix2 0 j) = gains m c (ix2 0 j) := by
  refine Eq.trans ?_ (around_apply m c j)
  rw [← entry3]
  blk_ext [iblk, idx t]

/-- The keys that the kernel leaves. -/
def keys : FVec Ideal S8192x128 .bf16 := fun y =>
  key (fun k => proj m c (ix2 (y 0) ⟨7168 + k.val, by omega⟩)) (fun k => gains m c (ix2 0 k)) (y 1)

/-- The values that the kernel leaves. -/
def values : FVec Ideal S8192x128 .bf16 := fun y => proj m c (ix2 (y 0) ⟨7296 + (y 1).val, by
  have h1 : (y 1).val < 128 := (y 1).isLt
  omega⟩)

/-- The index keys that the kernel leaves. -/
def pairs : FVec Ideal S8192x128 .bf16 := fun y => twice (fun k => proj m c (ix2 (y 0) ⟨8448 + k.val, by omega⟩)) (y 1)

/-- The keys that a point computes from its blocks. -/
theorem pay_key (X : FVec Ideal S512x128 .f32) (G : FVec Ideal S1x128 .f32) (i : Fin 512) (j : Fin 128) :
    k0_pay1 (F := Ideal) X G (ix2 i j) = key (fun k => X (ix2 i k)) (fun k => G (ix2 0 k)) j := by
  unfold k0_pay1
  pointwise [key]

/-- The values that a point rounds. -/
theorem pay_value (X : FVec Ideal S512x128 .f32) (i : Fin 512) (j : Fin 128) : k0_pay2 (F := Ideal) X (ix2 i j) = X (ix2 i j) := by
  unfold k0_pay2
  pointwise

/-- Whether a lane lies in the first half. -/
theorem first_half : ∀ j : Fin 128, IntOp.cmpi .slt (BitVec.ofNat 32 j.val) 64#32 = if j.val < 64 then 1#1 else 0#1 := by
  decide +kernel

/-- The index keys that a point lays side by side: a rotation by half the width brings the first half over the second. -/
theorem pay_pair (X : FVec Ideal S512x128 .f32) (i : Fin 512) (j : Fin 128) :
    k0_pay3 (F := Ideal) X (ix2 i j) = twice (fun k => X (ix2 i k)) j := by
  unfold k0_pay3
  pointwise [twice]
  rw [first_half]
  split
  · exact congrArg (fun k => X (ix2 i k)) (Fin.ext (by show j.val = j.val % 64; omega))
  · exact congrArg (fun k => X (ix2 i k)) (Fin.ext (by show (j.val + 128 - 64) % 128 = j.val % 64; omega))

/-- The first output block of a point. -/
theorem written4 (t : Fin cfg0.N) : (outsAt0 m c t).1 = k0_pay1 (X0_0 m c t) (iblk m c 3 t) := by
  funext y
  unfold outsAt0
  frame_open
  frame_out

/-- The second output block of a point. -/
theorem written5 (t : Fin cfg0.N) : (outsAt0 m c t).2.1 = k0_pay2 (X0_1 m c t) := by
  funext y
  unfold outsAt0
  frame_open
  frame_out

/-- The third output block of a point. -/
theorem written6 (t : Fin cfg0.N) : (outsAt0 m c t).2.2 = k0_pay3 (X0_2 m c t) := by
  funext y
  unfold outsAt0
  frame_open
  frame_out

/-- After every point, the first output array holds the keys. -/
theorem keys_eq : (dats m 0 c).arrAt 4 cfg0.N = keys m c := by
  refine (dats m 0 c).arrAt_eq_of_covers 4 _ (by decide +kernel) fun t _ y => ?_
  blk_simp
  rw [after0_4, written4]
  obtain ⟨i, j, rfl⟩ : ∃ (i : Fin 512) (j : Fin 128), y = ix2 i j := ⟨y 0, y 1, by idx_vars y⟩
  refine (pay_key _ _ i j).trans ((congrArg₂ (key · · j) (funext fun k => block0 m c t i k) (funext fun k => block3 m c t k)).trans
      (congrArg (keys m c) (?_ : ix2 ⟨t.val * 512 + i.val, by have := points t; omega⟩ j = _)))
  blk_ext [idx t]

/-- After every point, the second output array holds the values. -/
theorem values_eq : (dats m 0 c).arrAt 5 cfg0.N = values m c := by
  refine (dats m 0 c).arrAt_eq_of_covers 5 _ (by decide +kernel) fun t _ y => ?_
  blk_simp
  rw [after0_5, written5]
  obtain ⟨i, j, rfl⟩ : ∃ (i : Fin 512) (j : Fin 128), y = ix2 i j := ⟨y 0, y 1, by idx_vars y⟩
  refine (pay_value _ i j).trans ((block1 m c t i j).trans
      (congrArg (values m c) (?_ : ix2 ⟨t.val * 512 + i.val, by have := points t; omega⟩ j = _)))
  blk_ext [idx t]

/-- After every point, the third output array holds the index keys, twice. -/
theorem pairs_eq : (dats m 0 c).arrAt 6 cfg0.N = pairs m c := by
  refine (dats m 0 c).arrAt_eq_of_covers 6 _ (by decide +kernel) fun t _ y => ?_
  blk_simp
  rw [after0_6, written6]
  obtain ⟨i, j, rfl⟩ : ∃ (i : Fin 512) (j : Fin 128), y = ix2 i j := ⟨y 0, y 1, by idx_vars y⟩
  refine (pay_pair _ i j).trans ((congrArg (twice · j) (funext fun k => block2 m c t i k)).trans
      (congrArg (pairs m c) (?_ : ix2 ⟨t.val * 512 + i.val, by have := points t; omega⟩ j = _)))
  blk_ext [idx t]

end Cert.KernelPrepIdeal.Keys

namespace Cert.ReferencePrepIdeal.Keys

open Cert.ReferencePrepIdeal Cert.ReferencePrepIdeal.Gen Cert.Prep
open Idealize.ShloMosaic

/-- The reference's keys. -/
theorem keys_eq (P : FVec Ideal S8192x21840 .f32) (G : FVec Ideal S1x128 .f32) :
    truncf .bf16 (mulf (mulf (extractStridedSlice S8192x128 ![0, 7168] P slices_S8192x21840_S8192x128_0_7168) (broadcastInDim S8192x128 ![0, 1] bcast_S8192x1_S8192x128_0_1 (Host.rsqrt (addf (Host.divf (broadcastInDim S8192x1 ![0] bcast_S8192_S8192x1_0 (Host.reduceAdd (mulf (extractStridedSlice S8192x128 ![0, 7168] P slices_S8192x21840_S8192x128_0_7168) (extractStridedSlice S8192x128 ![0, 7168] P slices_S8192x21840_S8192x128_0_7168)) (constant S_ .f32 0x00000000#32) reducesTo_S8192x128_S8192_d1 h_S_)) (broadcastInDim S8192x1 ![] bcast_S_S8192x1 (constant S_ .f32 0x43000000#32))) (broadcastInDim S8192x1 ![] bcast_S_S8192x1 (constant S_ .f32 0x358637BD#32)))))) (broadcastInDim S8192x128 ![0, 1] bcast_S1x128_S8192x128_0_1 (broadcastInDim S1x128 ![1] bcast_S128_S1x128_1 (shapeCast S128 G shapeCasts_S1x128_S128)))) bitsLt_bf16_f32
      = fun y => key (fun k => P (ix2 (y 0) ⟨7168 + k.val, by omega⟩)) (fun k => G (ix2 0 k)) (y 1) := by
  funext y
  obtain ⟨i, j, rfl⟩ : ∃ i j, y = ix2 i j := ⟨y 0, y 1, by idx_vars y⟩
  pointwise [key]

/-- The reference's values. -/
theorem values_eq (P : FVec Ideal S8192x21840 .f32) :
    (truncf .bf16 (extractStridedSlice S8192x128 ![0, 7296] P slices_S8192x21840_S8192x128_0_7296) bitsLt_bf16_f32 : FVec Ideal S8192x128 .bf16)
      = fun y => P (ix2 (y 0) ⟨7296 + (y 1).val, by have h1 : (y 1).val < 128 := (y 1).isLt; omega⟩) := by
  funext y
  obtain ⟨i, j, rfl⟩ : ∃ i j, y = ix2 i j := ⟨y 0, y 1, by idx_vars y⟩
  pointwise

/-- The reference's index keys. -/
theorem pairs_eq (P : FVec Ideal S8192x21840 .f32) :
    (truncf .bf16 (concatenate S8192x128 1 [⟨S8192x64, (extractStridedSlice S8192x64 ![0, 8448] P slices_S8192x21840_S8192x64_0_8448)⟩, ⟨S8192x64, (extractStridedSlice S8192x64 ![0, 8448] P slices_S8192x21840_S8192x64_0_8448)⟩] concatenates_S8192x64_S8192x64_S8192x128_d1) bitsLt_bf16_f32 : FVec Ideal S8192x128 .bf16)
      = fun y => twice (fun k => P (ix2 (y 0) ⟨8448 + k.val, by omega⟩)) (y 1) := by
  funext y
  obtain ⟨i, j, rfl⟩ : ∃ i j, y = ix2 i j := ⟨y 0, y 1, by idx_vars y⟩
  pointwise [twice]
  split <;> congr 3 <;> omega

end Cert.ReferencePrepIdeal.Keys

end

end
-- ==== Proof.RouterScores.lean ====
module

public import proofs.«01_k».proof.Proof.Gen.KernelScoresIdeal.Frame
public import proofs.«01_k».proof.Proof.Gen.ReferenceScoresIdeal.Run
public import Idealize.ShloMosaic.Lib.Pipeline.Value
public import Idealize.ShloMosaic.Lib.Pipeline.ValueKit
public import Idealize.ShloMosaic.Lib.Pipeline.ReadBack
public import Idealize.ShloMosaic.Lib.Pointwise

/-! The router's scores: every head's queries against its two sets of keys, the tokens along the last axis. -/

@[expose] public section

set_option maxRecDepth 16384

noncomputable section

namespace Cert.Router

open Idealize.ShloMosaic

/-- The products of one set of keys with the queries: key `n` of set `s` of head `h` with the query's half `s` at token `t`. -/
def scores (Q : FVec Ideal ⟨2, ![8192, 2048]⟩ .f32) (K : FVec Ideal ⟨5, ![1, 8, 2, 128, 128]⟩ .f32) (s : Fin 2) :
    FVec Ideal ⟨3, ![8, 128, 8192]⟩ .f32 := fun y =>
  ∑ d : Fin 128, K (ix5 0 (y 0) s (y 1) d)
    * Q (ix2 (y 2) ⟨(y 0).val * 256 + s.val * 128 + d.val, by have h0 : (y 0).val < 8 := (y 0).isLt; omega⟩)

end Cert.Router

namespace Cert.KernelScoresIdeal.Router

open Cert.KernelScoresIdeal Cert.KernelScoresIdeal.Gen Cert.Router
open Idealize.ShloMosaic Idealize.ShloMosaic.TcCoe Idealize.SL.Sem

variable (m : (ℓ : Loc nD τ sig) → Buf (Elt Ideal) ℓ) (ρ : Dev nD → PrngReg) (c : Dev nD)

/-- The block that each window moves at a grid point: eight heads for every 256 tokens. -/
theorem idx : ∀ t : Fin cfg0.N, win0_0.index t = ![t.val / 8, t.val % 8] ∧ win0_1.index t = ![t.val % 8, 0, 0]
    ∧ win0_2.index t = ![t.val % 8, 0, t.val / 8] ∧ win0_3.index t = ![t.val % 8, 0, t.val / 8] :=
  (by decide +kernel : ∀ t : Fin grid0.N, _)

/-- There are 256 grid points. -/
theorem points (t : Fin cfg0.N) : t.val < 256 := lt_of_lt_of_eq t.isLt N_0

/-- The queries. -/
abbrev queries : FVec Ideal S8192x2048 .f32 := m ((c : Thread nD τ).loc main_arg0)

/-- The keys. -/
abbrev keys : FVec Ideal S1x8x2x128x128 .f32 := m ((c : Thread nD τ).loc main_arg1)

/-- The queries at a point. -/
theorem queries_block (t : Fin cfg0.N) (i k : Fin 256) :
    (iblk m c 0 t : Vec Ideal S256x256 .f32) (ix2 i k)
      = queries m c (ix2 ⟨t.val / 8 * 256 + i.val, by have := points t; omega⟩ ⟨t.val % 8 * 256 + k.val, by omega⟩) := by
  blk_ext [iblk, V, idx t]

/-- The keys as one list of sixteen sets. -/
def listed : FVec Ideal S16x128x128 .f32 :=
  shapeCast S16x128x128 (shapeCast S8x2x128x128 (keys m c) shapeCasts_S1x8x2x128x128_S8x2x128x128) shapeCasts_S8x2x128x128_S16x128x128

/-- The keys that the pipeline finds. -/
theorem entry_keys : V m c (Pipeline.arrRef spec0 1) = listed m c := by
  unfold listed
  entry_read
  rfl

/-- An entry of the list. -/
theorem listed_apply (h : Fin 8) (s : Fin 2) (n d : Fin 128) :
    listed m c (ix3 ⟨h.val * 2 + s.val, by omega⟩ n d) = keys m c (ix5 0 h s n d) := by
  unfold listed
  pointwise

/-- The keys at a point: the two sets of one head. -/
theorem keys_block (t : Fin cfg0.N) (s : Fin 2) (n d : Fin 128) :
    (iblk m c 1 t : Vec Ideal S2x128x128 .f32) (ix3 s n d) = keys m c (ix5 0 ⟨t.val % 8, by omega⟩ s n d) := by
  refine Eq.trans ?_ (listed_apply m c ⟨t.val % 8, by omega⟩ s n d)
  rw [← entry_keys]
  blk_ext [iblk, idx t]

/-- The first set's products at a point. -/
theorem out_first (X : FVec Ideal S256x256 .f32) (W : FVec Ideal S2x128x128 .f32) (n : Fin 128) (i : Fin 256) :
    out0_2 (F := Ideal) X W (ix3 0 n i) = ∑ d : Fin 128, W (ix3 0 n d) * X (ix2 i ⟨d.val, by omega⟩) := by
  frame_out
  unfold k0_pay3 k0_pay2
  pointwise

/-- The second set's products at a point. -/
theorem out_second (X : FVec Ideal S256x256 .f32) (W : FVec Ideal S2x128x128 .f32) (n : Fin 128) (i : Fin 256) :
    out0_3 (F := Ideal) X W (ix3 0 n i) = ∑ d : Fin 128, W (ix3 1 n d) * X (ix2 i ⟨128 + d.val, by omega⟩) := by
  frame_out
  unfold k0_pay37 k0_pay36
  pointwise

/-- A point's products of the first set, in terms of the arguments. -/
theorem point_first (t : Fin cfg0.N) (n : Fin 128) (i : Fin 256) :
    out0_2 (F := Ideal) (iblk m c 0 t) (iblk m c 1 t) (ix3 0 n i)
      = scores (queries m c) (keys m c) 0 (ix3 ⟨t.val % 8, by omega⟩ n ⟨t.val / 8 * 256 + i.val, by have := points t; omega⟩) :=
  (out_first _ _ n i).trans (Finset.sum_congr rfl fun d _ => congrArg₂ (α := EReal) (β := EReal) (· * ·) (keys_block m c t 0 n d)
    (queries_block m c t i _))

/-- A point's products of the second set, in terms of the arguments. -/
theorem point_second (t : Fin cfg0.N) (n : Fin 128) (i : Fin 256) :
    out0_3 (F := Ideal) (iblk m c 0 t) (iblk m c 1 t) (ix3 0 n i)
      = scores (queries m c) (keys m c) 1 (ix3 ⟨t.val % 8, by omega⟩ n ⟨t.val / 8 * 256 + i.val, by have := points t; omega⟩) :=
  (out_second _ _ n i).trans (Finset.sum_congr rfl fun d _ => congrArg₂ (α := EReal) (β := EReal) (· * ·) (keys_block m c t 1 n d)
    ((queries_block m c t i _).trans (congrArg (queries m c) (congrArg (ix2 _)
      (Fin.ext (by show t.val % 8 * 256 + (128 + d.val) = t.val % 8 * 256 + 1 * 128 + d.val; omega))))))

/-- After every point, the first output array holds the first set's products. -/
theorem first_eq : (dats m 0 c).arrAt 2 cfg0.N = scores (queries m c) (keys m c) 0 := by
  refine (dats m 0 c).arrAt_eq_of_covers 2 _ (by decide +kernel) fun t _ y => ?_
  blk_simp
  rw [after0_2]
  obtain ⟨z, n, i, rfl⟩ : ∃ (z : Fin 1) (n : Fin 128) (i : Fin 256), y = ix3 z n i := ⟨y 0, y 1, y 2, by idx_vars y⟩
  obtain rfl : z = 0 := Subsingleton.elim _ _
  refine (point_first m c t n i).trans (congrArg (scores (queries m c) (keys m c) 0) ?_)
  blk_ext [idx t]

/-- After every point, the second output array holds the second set's products. -/
theorem second_eq : (dats m 0 c).arrAt 3 cfg0.N = scores (queries m c) (keys m c) 1 := by
  refine (dats m 0 c).arrAt_eq_of_covers 3 _ (by decide +kernel) fun t _ y => ?_
  blk_simp
  rw [after0_3]
  obtain ⟨z, n, i, rfl⟩ : ∃ (z : Fin 1) (n : Fin 128) (i : Fin 256), y = ix3 z n i := ⟨y 0, y 1, y 2, by idx_vars y⟩
  obtain rfl : z = 0 := Subsingleton.elim _ _
  refine (point_second m c t n i).trans (congrArg (scores (queries m c) (keys m c) 1) ?_)
  blk_ext [idx t]

/-- The kernel's run: its two arrays of scores, and its arguments as they were. -/
theorem run : θ_run defs (onTc (τ := τ) (main (F := Ideal))) ⟨m, fun _ => 0, ρ⟩ fun r => ∀ c : Dev nD,
      r.2.mem ((c : Thread nD τ).loc main_v2_0) = scores (queries m c) (keys m c) 0
      ∧ r.2.mem ((c : Thread nD τ).loc main_v2_1) = scores (queries m c) (keys m c) 1
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (first_eq m c), ((h.1 c).1 3).trans (second_eq m c), h.2 c⟩)
    (θ_run_and (run_main m ρ) (unchanged m ρ))

end Cert.KernelScoresIdeal.Router

namespace Cert.ReferenceScoresIdeal.Router

open Cert.ReferenceScoresIdeal Cert.ReferenceScoresIdeal.Gen Cert.Router
open Idealize.ShloMosaic

/-- All the reference's products. -/
def products (Q : FVec Ideal S8192x2048 .f32) (K : FVec Ideal S1x8x2x128x128 .f32) : FVec Ideal S8192x8x2x128 .f32 :=
  transpose S8192x8x2x128 [3, 0, 1, 2] (Host.dotGeneral dot_S8x2x128x128_S8192x8x2x128_S8x2x128x8192_3_3_2_0_01_12 none
    (shapeCast _ K shapeCasts_S1x8x2x128x128_S8x2x128x128) (shapeCast _ Q shapeCasts_S8192x2048_S8192x8x2x128))
    transposes_S8x2x128x8192_S8192x8x2x128_3_0_1_2

/-- One product of the reference. -/
theorem products_at (Q : FVec Ideal S8192x2048 .f32) (K : FVec Ideal S1x8x2x128x128 .f32) (t : Fin 8192) (h : Fin 8) (s : Fin 2) (n : Fin 128) :
    products Q K (ix4 t h s n) = scores Q K s (ix3 h n t) := by
  unfold products
  pointwise [scores]

/-- The reference's first array. -/
theorem first_eq (Q : FVec Ideal S8192x2048 .f32) (K : FVec Ideal S1x8x2x128x128 .f32) :
    transpose S8x128x8192 [1, 2, 0] (shapeCast S8192x8x128 (extractStridedSlice S8192x8x1x128 ![0, 0, 0, 0] (products Q K) slices_S8192x8x2x128_S8192x8x1x128_0_0_0_0) shapeCasts_S8192x8x1x128_S8192x8x128) transposes_S8192x8x128_S8x128x8192_1_2_0
      = scores Q K 0 := by
  funext y
  obtain ⟨h, n, t, rfl⟩ : ∃ h n t, y = ix3 h n t := ⟨y 0, y 1, y 2, by idx_vars y⟩
  rw [← products_at]
  generalize products Q K = P
  pointwise

/-- The reference's second array. -/
theorem second_eq (Q : FVec Ideal S8192x2048 .f32) (K : FVec Ideal S1x8x2x128x128 .f32) :
    transpose S8x128x8192 [1, 2, 0] (shapeCast S8192x8x128 (extractStridedSlice S8192x8x1x128 ![0, 0, 1, 0] (products Q K) slices_S8192x8x2x128_S8192x8x1x128_0_0_1_0) shapeCasts_S8192x8x1x128_S8192x8x128) transposes_S8192x8x128_S8x128x8192_1_2_0
      = scores Q K 1 := by
  funext y
  obtain ⟨h, n, t, rfl⟩ : ∃ h n t, y = ix3 h n t := ⟨y 0, y 1, y 2, by idx_vars y⟩
  rw [← products_at]
  generalize products Q K = P
  pointwise

end Cert.ReferenceScoresIdeal.Router

end

end
-- ==== Proof.lean ====
/- The certificate: each program's frame, and each kernel set equal to its reference. The mathematics is in the modules
   under Proof/ (Chain and RefResult for the retention, InValue, OutProj and QueryProj for the products,
   MergeValue for the gated merge, KvProj, MemPoint and MemRef for the memory's projection and attention, NormRows and
   MemNorm for the normalisations, KeyPrep for the sparse attention's keys, RouterScores for the router's
   scores); this file only joins the runs of the programs with it. -/
module

public import proofs.«01_k».proof.Defs
public import proofs.«01_k».proof.Proof.Chain
public import proofs.«01_k».proof.Proof.RefResult
public import proofs.«01_k».proof.Proof.OutProj
public import proofs.«01_k».proof.Proof.QueryProj
public import proofs.«01_k».proof.Proof.InFrame
public import proofs.«01_k».proof.Proof.InValue
public import proofs.«01_k».proof.Proof.MergeFrame
public import proofs.«01_k».proof.Proof.MergeValue
public import proofs.«01_k».proof.Proof.KvProj
public import proofs.«01_k».proof.Proof.NormRows
public import proofs.«01_k».proof.Proof.MemNorm
public import proofs.«01_k».proof.Proof.MemPoint
public import proofs.«01_k».proof.Proof.MemRef
public import proofs.«01_k».proof.Proof.KeyPrep
public import proofs.«01_k».proof.Proof.RouterScores
public import proofs.«01_k».proof.Proof.Gen.Kernel.Frame
public import proofs.«01_k».proof.Proof.Gen.KernelOut.Frame
public import proofs.«01_k».proof.Proof.Gen.KernelQuery.Frame
public import proofs.«01_k».proof.Proof.Gen.KernelKv.Frame
public import proofs.«01_k».proof.Proof.Gen.KernelMem.Frame
public import proofs.«01_k».proof.Proof.Gen.KernelNorm.Frame
public import proofs.«01_k».proof.Proof.Gen.KernelMnorm.Frame
public import proofs.«01_k».proof.Proof.Gen.KernelPrep.Frame
public import proofs.«01_k».proof.Proof.Gen.KernelScores.Frame
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The retention's reference keeps its arguments; it has no semaphore. -/
theorem reference_frame : Cert.quiescent_ReferenceIdeal (hReferenceIdeal := Cert.ReferenceIdeal.Gen.facts) := by
  intro m g _
  refine (θ_run _ _ _).mono (fun r h => ⟨h, sem_eq_zero_of_no_sems rfl r.2⟩) (?_ : θ_run _ _ _ fun r => _)
  run_from Cert.ReferenceIdeal.Value.run m g

/-- The input projection's reference keeps its arguments; it has no semaphore. -/
theorem reference_in_frame : Cert.quiescent_ReferenceInIdeal (hReferenceInIdeal := Cert.ReferenceInIdeal.Gen.facts) := by
  intro m g _
  refine (θ_run _ _ _).mono (fun r h => ⟨h, sem_eq_zero_of_no_sems rfl r.2⟩) (?_ : θ_run _ _ _ fun r => _)
  run_from Cert.ReferenceInIdeal.Value.run m g

/-- The output projection's reference keeps its arguments; it has no semaphore. -/
theorem reference_out_frame : Cert.quiescent_ReferenceOutIdeal (hReferenceOutIdeal := Cert.ReferenceOutIdeal.Gen.facts) := by
  intro m g _
  refine (θ_run _ _ _).mono (fun r h => ⟨h, sem_eq_zero_of_no_sems rfl r.2⟩) (?_ : θ_run _ _ _ fun r => _)
  run_from Cert.ReferenceOutIdeal.Value.run m g

/-- The query projection's reference keeps its arguments; it has no semaphore. -/
theorem reference_query_frame : Cert.quiescent_ReferenceQueryIdeal (hReferenceQueryIdeal := Cert.ReferenceQueryIdeal.Gen.facts) := by
  intro m g _
  refine (θ_run _ _ _).mono (fun r h => ⟨h, sem_eq_zero_of_no_sems rfl r.2⟩) (?_ : θ_run _ _ _ fun r => _)
  run_from Cert.ReferenceQueryIdeal.Value.run m g

/-- The gated merge's reference keeps its arguments; it has no semaphore. -/
theorem reference_merge_frame : Cert.quiescent_ReferenceMergeIdeal (hReferenceMergeIdeal := Cert.ReferenceMergeIdeal.Gen.facts) := by
  intro m g _
  refine (θ_run _ _ _).mono (fun r h => ⟨h, sem_eq_zero_of_no_sems rfl r.2⟩) (?_ : θ_run _ _ _ fun r => _)
  run_from Cert.ReferenceMergeIdeal.Value.run m g

/-- The memory projection's reference keeps its arguments; it has no semaphore. -/
theorem reference_kv_frame : Cert.quiescent_ReferenceKvIdeal (hReferenceKvIdeal := Cert.ReferenceKvIdeal.Gen.facts) := by
  intro m g _
  refine (θ_run _ _ _).mono (fun r h => ⟨h, sem_eq_zero_of_no_sems rfl r.2⟩) (?_ : θ_run _ _ _ fun r => _)
  run_from Cert.ReferenceKvIdeal.Value.run m g

/-- The memory attention's reference keeps its arguments; it has no semaphore. -/
theorem reference_mem_frame : Cert.quiescent_ReferenceMemIdeal (hReferenceMemIdeal := Cert.ReferenceMemIdeal.Gen.facts) := by
  intro m g _
  refine (θ_run _ _ _).mono (fun r h => ⟨h, sem_eq_zero_of_no_sems rfl r.2⟩) (?_ : θ_run _ _ _ fun r => _)
  run_from Cert.ReferenceMemIdeal.Value.run m g

/-- The normalisation's reference keeps its arguments; it has no semaphore. -/
theorem reference_norm_frame : Cert.quiescent_ReferenceNormIdeal (hReferenceNormIdeal := Cert.ReferenceNormIdeal.Gen.facts) := by
  intro m g _
  refine (θ_run _ _ _).mono (fun r h => ⟨h, sem_eq_zero_of_no_sems rfl r.2⟩) (?_ : θ_run _ _ _ fun r => _)
  run_from Cert.ReferenceNormIdeal.Value.run m g

/-- The memory's normalisation's reference keeps its arguments; it has no semaphore. -/
theorem reference_mnorm_frame : Cert.quiescent_ReferenceMnormIdeal (hReferenceMnormIdeal := Cert.ReferenceMnormIdeal.Gen.facts) := by
  intro m g _
  refine (θ_run _ _ _).mono (fun r h => ⟨h, sem_eq_zero_of_no_sems rfl r.2⟩) (?_ : θ_run _ _ _ fun r => _)
  run_from Cert.ReferenceMnormIdeal.Value.run m g

/-- The key preparation's reference keeps its arguments; it has no semaphore. -/
theorem reference_prep_frame : Cert.quiescent_ReferencePrepIdeal (hReferencePrepIdeal := Cert.ReferencePrepIdeal.Gen.facts) := by
  intro m g _
  refine (θ_run _ _ _).mono (fun r h => ⟨h, sem_eq_zero_of_no_sems rfl r.2⟩) (?_ : θ_run _ _ _ fun r => _)
  run_from Cert.ReferencePrepIdeal.Value.run m g

/-- The router's reference keeps its arguments; it has no semaphore. -/
theorem reference_scores_frame : Cert.quiescent_ReferenceScoresIdeal (hReferenceScoresIdeal := Cert.ReferenceScoresIdeal.Gen.facts) := by
  intro m g _
  refine (θ_run _ _ _).mono (fun r h => ⟨h, sem_eq_zero_of_no_sems rfl r.2⟩) (?_ : θ_run _ _ _ fun r => _)
  run_from Cert.ReferenceScoresIdeal.Value.run m g

/-- The retention kernel leaves the reference's array. -/
theorem retention : Cert.algebraic_KernelIdeal_ReferenceIdeal (hKernelIdeal := Cert.KernelIdeal.Gen.facts)
    (hReferenceIdeal := Cert.ReferenceIdeal.Gen.facts) := by
  pair_intro
  · run_from Cert.KernelIdeal.Value.run_blocks m g
  · run_from Cert.ReferenceIdeal.Value.run m' g'
    rw [Cert.KernelIdeal.Chain.array_eq m c]
    refine (Cert.ReferenceIdeal.Outcome.result_eq m' c).trans ?_
    unfold Cert.ReferenceIdeal.Outcome.retention Cert.KernelIdeal.Chain.retention
    rw [show Cert.ReferenceIdeal.Outcome.proj m' c = Cert.KernelIdeal.Blocks.proj m c from (hagree c).1,
      show Cert.ReferenceIdeal.Outcome.place m' c = Cert.KernelIdeal.Blocks.place m c from (hagree c).2]

/-- The input projection's kernel leaves the reference's array. -/
theorem in_proj : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Columns.run m g
  · run_from Cert.ReferenceInIdeal.Value.run m' g'
    exact Cert.ReferenceInIdeal.Columns.result_eq _ _

/-- The output projection's kernel leaves the reference's array. -/
theorem out_proj : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Value.run_blocks m g
  · run_from Cert.ReferenceOutIdeal.Value.run m' g'
    rw [Cert.KernelOutIdeal.Product.array_eq m c]
    exact Cert.ReferenceOutIdeal.Product.result_eq _ _ _

/-- The query projection's kernel leaves the reference's array. -/
theorem query_proj : Cert.algebraic_KernelQueryIdeal_ReferenceQueryIdeal (hKernelQueryIdeal := Cert.KernelQueryIdeal.Gen.facts)
    (hReferenceQueryIdeal := Cert.ReferenceQueryIdeal.Gen.facts) := by
  pair_intro
  · run_from Cert.KernelQueryIdeal.Value.run_blocks m g
  · run_from Cert.ReferenceQueryIdeal.Value.run m' g'
    rw [Cert.KernelQueryIdeal.Product.array_eq m c]
    exact Cert.ReferenceQueryIdeal.Product.result_eq _ _

/-- The gated merge's kernel leaves the reference's array. -/
theorem merge : Cert.algebraic_KernelMergeIdeal_ReferenceMergeIdeal (hKernelMergeIdeal := Cert.KernelMergeIdeal.Gen.facts)
    (hReferenceMergeIdeal := Cert.ReferenceMergeIdeal.Gen.facts) := by
  pair_intro
  · run_from Cert.KernelMergeIdeal.Gates.run m g
  · run_from Cert.ReferenceMergeIdeal.Value.run m' g'
    exact Cert.ReferenceMergeIdeal.Gates.result_eq _ _ _ _ _ _ _

/-- The memory projection's kernel leaves the reference's array. -/
theorem mem_kv : Cert.algebraic_KernelKvIdeal_ReferenceKvIdeal (hKernelKvIdeal := Cert.KernelKvIdeal.Gen.facts)
    (hReferenceKvIdeal := Cert.ReferenceKvIdeal.Gen.facts) := by
  pair_intro
  · run_from Cert.KernelKvIdeal.Value.run_blocks m g
  · run_from Cert.ReferenceKvIdeal.Value.run m' g'
    rw [Cert.KernelKvIdeal.Product.array_eq m c]
    exact Cert.ReferenceKvIdeal.Product.result_eq _ _

/-- The memory attention's kernel leaves the reference's array. -/
theorem mem_attention : Cert.algebraic_KernelMemIdeal_ReferenceMemIdeal (hKernelMemIdeal := Cert.KernelMemIdeal.Gen.facts)
    (hReferenceMemIdeal := Cert.ReferenceMemIdeal.Gen.facts) := by
  pair_intro
  · run_from Cert.KernelMemIdeal.Value.run_blocks m g
  · run_from Cert.ReferenceMemIdeal.Value.run m' g'
    rw [Cert.KernelMemIdeal.Answers.array_eq m c]
    funext y
    obtain ⟨i, j, rfl⟩ : ∃ i j, y = ix2 i j := ⟨y 0, y 1, by idx_vars y⟩
    refine (Cert.ReferenceMemIdeal.Answers.result_at m' c i j).trans ?_
    unfold Cert.KernelMemIdeal.Answers.array
    rw [show Cert.ReferenceMemIdeal.Answers.proj m' c = Cert.KernelMemIdeal.Answers.proj m c from (hagree c).1,
      show Cert.ReferenceMemIdeal.Answers.slots m' c = Cert.KernelMemIdeal.Answers.slots m c from (hagree c).2.1,
      show Cert.ReferenceMemIdeal.Answers.queryGains m' c = Cert.KernelMemIdeal.Answers.queryGains m c from (hagree c).2.2.1,
      show Cert.ReferenceMemIdeal.Answers.keyGains m' c = Cert.KernelMemIdeal.Answers.keyGains m c from (hagree c).2.2.2]
    rfl

/-- The normalisation's kernel leaves the reference's array. -/
theorem norm : Cert.algebraic_KernelNormIdeal_ReferenceNormIdeal (hKernelNormIdeal := Cert.KernelNormIdeal.Gen.facts)
    (hReferenceNormIdeal := Cert.ReferenceNormIdeal.Gen.facts) := by
  pair_intro
  · run_from Cert.KernelNormIdeal.Value.run_blocks m g
  · run_from Cert.ReferenceNormIdeal.Value.run m' g'
    rw [Cert.KernelNormIdeal.Rows.array_eq m c]
    exact Cert.ReferenceNormIdeal.Rows.result_eq _ _

/-- The memory's normalisation leaves the reference's array. -/
theorem mem_norm : Cert.algebraic_KernelMnormIdeal_ReferenceMnormIdeal (hKernelMnormIdeal := Cert.KernelMnormIdeal.Gen.facts)
    (hReferenceMnormIdeal := Cert.ReferenceMnormIdeal.Gen.facts) := by
  pair_intro
  · run_from Cert.KernelMnormIdeal.Value.run_blocks m g
  · run_from Cert.ReferenceMnormIdeal.Value.run m' g'
    rw [Cert.KernelMnormIdeal.Rows.array_eq m c]
    exact Cert.ReferenceMnormIdeal.Rows.result_eq _ _

/-- The key preparation's kernel leaves the reference's three arrays. -/
theorem key_prep : Cert.algebraic_KernelPrepIdeal_ReferencePrepIdeal (hKernelPrepIdeal := Cert.KernelPrepIdeal.Gen.facts)
    (hReferencePrepIdeal := Cert.ReferencePrepIdeal.Gen.facts) := by
  pair_intro
  · run_from Cert.KernelPrepIdeal.Value.run_blocks m g
  · run_from Cert.ReferencePrepIdeal.Value.run m' g'
    · rw [Cert.KernelPrepIdeal.Keys.keys_eq m c]
      exact Cert.ReferencePrepIdeal.Keys.keys_eq _ _
    · rw [Cert.KernelPrepIdeal.Keys.values_eq m c]
      exact Cert.ReferencePrepIdeal.Keys.values_eq _
    · rw [Cert.KernelPrepIdeal.Keys.pairs_eq m c]
      exact Cert.ReferencePrepIdeal.Keys.pairs_eq _

/-- The router's kernel leaves the reference's two arrays of scores. -/
theorem router_scores : Cert.algebraic_KernelScoresIdeal_ReferenceScoresIdeal (hKernelScoresIdeal := Cert.KernelScoresIdeal.Gen.facts)
    (hReferenceScoresIdeal := Cert.ReferenceScoresIdeal.Gen.facts) := by
  pair_intro
  · run_from Cert.KernelScoresIdeal.Router.run m g
  · run_from Cert.ReferenceScoresIdeal.Value.run m' g'
    · exact Cert.ReferenceScoresIdeal.Router.first_eq _ _
    · exact Cert.ReferenceScoresIdeal.Router.second_eq _ _

/-- All the claims. -/
theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelQuery.Gen.facts, Cert.KernelQueryIdeal.Gen.facts, Cert.ReferenceQueryIdeal.Gen.facts,
    Cert.KernelMerge.Gen.facts, Cert.KernelMergeIdeal.Gen.facts, Cert.ReferenceMergeIdeal.Gen.facts,
    Cert.KernelKv.Gen.facts, Cert.KernelKvIdeal.Gen.facts, Cert.ReferenceKvIdeal.Gen.facts,
    Cert.KernelMem.Gen.facts, Cert.KernelMemIdeal.Gen.facts, Cert.ReferenceMemIdeal.Gen.facts,
    Cert.KernelNorm.Gen.facts, Cert.KernelNormIdeal.Gen.facts, Cert.ReferenceNormIdeal.Gen.facts,
    Cert.KernelMnorm.Gen.facts, Cert.KernelMnormIdeal.Gen.facts, Cert.ReferenceMnormIdeal.Gen.facts,
    Cert.KernelPrep.Gen.facts, Cert.KernelPrepIdeal.Gen.facts, Cert.ReferencePrepIdeal.Gen.facts,
    Cert.KernelScores.Gen.facts, Cert.KernelScoresIdeal.Gen.facts, Cert.ReferenceScoresIdeal.Gen.facts,
    fun m ρ _ => Cert.Kernel.Gen.frame m ρ, fun m ρ _ => Cert.KernelIdeal.Gen.frame m ρ, reference_frame,
    fun m ρ _ => Cert.KernelIn.Loose.frame m ρ, fun m ρ _ => Cert.KernelInIdeal.Columns.frame m ρ, reference_in_frame,
    fun m ρ _ => Cert.KernelOut.Gen.frame m ρ, fun m ρ _ => Cert.KernelOutIdeal.Gen.frame m ρ, reference_out_frame,
    fun m ρ _ => Cert.KernelQuery.Gen.frame m ρ, fun m ρ _ => Cert.KernelQueryIdeal.Gen.frame m ρ, reference_query_frame,
    fun m ρ _ => Cert.KernelMerge.Loose.frame m ρ, fun m ρ _ => Cert.KernelMergeIdeal.Gates.frame m ρ, reference_merge_frame,
    fun m ρ _ => Cert.KernelKv.Gen.frame m ρ, fun m ρ _ => Cert.KernelKvIdeal.Gen.frame m ρ, reference_kv_frame,
    fun m ρ _ => Cert.KernelMem.Gen.frame m ρ, fun m ρ _ => Cert.KernelMemIdeal.Gen.frame m ρ, reference_mem_frame,
    fun m ρ _ => Cert.KernelNorm.Gen.frame m ρ, fun m ρ _ => Cert.KernelNormIdeal.Gen.frame m ρ, reference_norm_frame,
    fun m ρ _ => Cert.KernelMnorm.Gen.frame m ρ, fun m ρ _ => Cert.KernelMnormIdeal.Gen.frame m ρ, reference_mnorm_frame,
    fun m ρ _ => Cert.KernelPrep.Gen.frame m ρ, fun m ρ _ => Cert.KernelPrepIdeal.Gen.frame m ρ, reference_prep_frame,
    fun m ρ _ => Cert.KernelScores.Gen.frame m ρ, fun m ρ _ => Cert.KernelScoresIdeal.Gen.frame m ρ, reference_scores_frame,
    trivial, retention, trivial, in_proj, trivial, out_proj, trivial, query_proj, trivial, merge,
    trivial, mem_kv, trivial, mem_attention, trivial, norm, trivial, mem_norm, trivial, key_prep, trivial, router_scores⟩

end Cert.Proof

end

end
